-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_all_finite2 [hPre_all_finite2 : Cert.Pre_all_finite2.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_all_finite2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_all_finite2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_all_finite2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_all_finite2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_all_finite2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.1 = (fun _ => 1#1)
    ∧ (Cert.Pre_all_finite2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_all_finite2 [hPre_all_finite2 : Cert.Pre_all_finite2.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_all_finite2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_all_finite2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_all_finite2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_all_finite2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_all_finite2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.1 = (fun _ => 1#1)
    ∧ (Cert.Pre_all_finite2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_all_finite2 [hKernel7Ideal : Cert.Kernel7Ideal.Facts] [hPre_all_finite2 : Cert.Pre_all_finite2.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_all_finite2 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_all_finite2 [hReference7Ideal : Cert.Reference7Ideal.Facts] [hPre_all_finite2 : Cert.Pre_all_finite2.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_all_finite2 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_v88) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v32)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v31)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_all_finite2 [hKernel7Ideal : Cert.Kernel7Ideal.Facts] [hReference7Ideal : Cert.Reference7Ideal.Facts] [hPre_all_finite2 : Cert.Pre_all_finite2.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_all_finite2 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)) (v2 : (c : Dev Cert.Kernel7Ideal.nD) → Buf (Elt Ideal) ((c.tc : Thread Cert.Kernel7Ideal.nD Cert.Kernel7Ideal.τ).loc Cert.Kernel7Ideal.main_v23_2)) (v3 : (c : Dev Cert.Kernel7Ideal.nD) → Buf (Elt Ideal) ((c.tc : Thread Cert.Kernel7Ideal.nD Cert.Kernel7Ideal.τ).loc Cert.Kernel7Ideal.main_v23_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_v23_2) = v2 c
          ∧ r.2.mem ((c.tc : Thread Cert.Kernel7Ideal.nD Cert.Kernel7Ideal.τ).loc Cert.Kernel7Ideal.main_v23_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v54) = v0 c
          ∧ r.2.mem ((c.tc : Thread Cert.Reference7Ideal.nD Cert.Reference7Ideal.τ).loc Cert.Reference7Ideal.main_v81) = v1 c
          ∧ r.2.mem ((c.tc : Thread Cert.Reference7Ideal.nD Cert.Reference7Ideal.τ).loc Cert.Reference7Ideal.main_v82) = v2 c
          ∧ r.2.mem ((c.tc : Thread Cert.Reference7Ideal.nD Cert.Reference7Ideal.τ).loc Cert.Reference7Ideal.main_v83) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_v22) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v78) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v28_0)) (v1 : (c : Dev Cert.Kernel9Ideal.nD) → Buf (Elt Ideal) ((c.tc : Thread Cert.Kernel9Ideal.nD Cert.Kernel9Ideal.τ).loc Cert.Kernel9Ideal.main_v28_1)) (v2 : (c : Dev Cert.Kernel9Ideal.nD) → Buf (Elt Ideal) ((c.tc : Thread Cert.Kernel9Ideal.nD Cert.Kernel9Ideal.τ).loc Cert.Kernel9Ideal.main_v28_2)) (v3 : (c : Dev Cert.Kernel9Ideal.nD) → Buf (Elt Ideal) ((c.tc : Thread Cert.Kernel9Ideal.nD Cert.Kernel9Ideal.τ).loc Cert.Kernel9Ideal.main_v28_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28_0) = v0 c
          ∧ r.2.mem ((c.tc : Thread Cert.Kernel9Ideal.nD Cert.Kernel9Ideal.τ).loc Cert.Kernel9Ideal.main_v28_1) = v1 c
          ∧ r.2.mem ((c.tc : Thread Cert.Kernel9Ideal.nD Cert.Kernel9Ideal.τ).loc Cert.Kernel9Ideal.main_v28_2) = v2 c
          ∧ r.2.mem ((c.tc : Thread Cert.Kernel9Ideal.nD Cert.Kernel9Ideal.τ).loc Cert.Kernel9Ideal.main_v28_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_v37) = v2 c
          ∧ r.2.mem ((c.tc : Thread Cert.Reference9Ideal.nD Cert.Reference9Ideal.τ).loc Cert.Reference9Ideal.main_v39) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v15)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v28)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v28) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel3 : Cert.Kernel3.Facts) (hKernel3Ideal : Cert.Kernel3Ideal.Facts) (hReference3Ideal : Cert.Reference3Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_all_finite : Cert.Pre_all_finite.Facts) (hPre_all_finite2 : Cert.Pre_all_finite2.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_all_finite2 (hKernel7Ideal := hKernel7Ideal) (hPre_all_finite2 := hPre_all_finite2)
    ∧ quiescent_Reference7Ideal (hReference7Ideal := hReference7Ideal)
    ∧ quiescent_Reference7Ideal_pre_all_finite2 (hReference7Ideal := hReference7Ideal) (hPre_all_finite2 := hPre_all_finite2)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_all_finite2 (hKernel7Ideal := hKernel7Ideal) (hReference7Ideal := hReference7Ideal) (hPre_all_finite2 := hPre_all_finite2)
    ∧ preserves_Kernel8_Kernel8Ideal
    ∧ algebraic_Kernel8Ideal_Reference8Ideal (hKernel8Ideal := hKernel8Ideal) (hReference8Ideal := hReference8Ideal)
    ∧ preserves_Kernel3_Kernel3Ideal
    ∧ algebraic_Kernel3Ideal_Reference3Ideal (hKernel3Ideal := hKernel3Ideal) (hReference3Ideal := hReference3Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_all_finite.lean ====
abbrev S2x2064x4x192 : Shape := ⟨4, ![2, 2064, 4, 192]⟩
abbrev S2x2064x4x128 : Shape := ⟨4, ![2, 2064, 4, 128]⟩
abbrev S_ : Shape := ⟨0, ![]⟩

class Facts : Prop where
  bcast_S_S2x2064x4x192 : S_.BroadcastsInDim S2x2064x4x192 (![] : Fin 0 → Fin S2x2064x4x192.rank)
  bcast_S_S2x2064x4x128 : S_.BroadcastsInDim S2x2064x4x128 (![] : Fin 0 → Fin S2x2064x4x128.rank)

variable [Facts]

def fn {F : FTy → Type} [FloatOps F] (main_arg0 : FVec F S2x2064x4x192 .f32) (main_arg1 : FVec F S2x2064x4x192 .f32) (main_arg2 : FVec F S2x2064x4x128 .f32) (main_arg3 : FVec F S2x2064x4x128 .f32) : IVec S2x2064x4x192 1 × IVec S2x2064x4x192 1 × IVec S2x2064x4x128 1 × IVec S2x2064x4x128 1 :=
  let main_v0 : FVec F S2x2064x4x192 .f32 := Host.absf main_arg0
  let main_cst : FVec F S_ .f32 := constant S_ .f32 0x7F800000#32
  let main_v1 : FVec F S2x2064x4x192 .f32 := broadcastInDim S2x2064x4x192 ![] bcast_S_S2x2064x4x192 main_cst
  let main_v2 : IVec S2x2064x4x192 1 := cmpf .olt main_v0 main_v1
  let main_v3 : FVec F S2x2064x4x192 .f32 := Host.absf main_arg1
  let main_cst_0 : FVec F S_ .f32 := constant S_ .f32 0x7F800000#32
  let main_v4 : FVec F S2x2064x4x192 .f32 := broadcastInDim S2x2064x4x192 ![] bcast_S_S2x2064x4x192 main_cst_0
  let main_v5 : IVec S2x2064x4x192 1 := cmpf .olt main_v3 main_v4
  let main_v6 : FVec F S2x2064x4x128 .f32 := Host.absf main_arg2
  let main_cst_1 : FVec F S_ .f32 := constant S_ .f32 0x7F800000#32
  let main_v7 : FVec F S2x2064x4x128 .f32 := broadcastInDim S2x2064x4x128 ![] bcast_S_S2x2064x4x128 main_cst_1
  let main_v8 : IVec S2x2064x4x128 1 := cmpf .olt main_v6 main_v7
  let main_v9 : FVec F S2x2064x4x128 .f32 := Host.absf main_arg3
  let main_cst_2 : FVec F S_ .f32 := constant S_ .f32 0x7F800000#32
  let main_v10 : FVec F S2x2064x4x128 .f32 := broadcastInDim S2x2064x4x128 ![] bcast_S_S2x2064x4x128 main_cst_2
  let main_v11 : IVec S2x2064x4x128 1 := cmpf .olt main_v9 main_v10
  (main_v2, main_v5, main_v8, main_v11)
-- ==== Pre_all_finite2.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4224x1024 : S_.BroadcastsInDim S4224x1024 (![] : Fin 0 → Fin S4224x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4224x1024 .f32) (main_arg1 : FVec F S1024 .f32) (main_arg2 : FVec F S1024x2816 .f32) (main_arg3 : FVec F S1024x2816 .f32) (main_arg4 : FVec F S2816x1024 .f32) (main_arg5 : FVec F S4224x1024 .f32) : IVec S4224x1024 1 × IVec S1024 1 × IVec S1024x2816 1 × IVec S1024x2816 1 × IVec S2816x1024 1 × IVec S4224x1024 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4224x1024 .f32 := Host.absf main_arg5
  let main_cst_4 : FVec F S_ .f32 := constant S_ .f32 0x7F800000#32
  let main_v16 : FVec F S4224x1024 .f32 := broadcastInDim S4224x1024 ![] bcast_S_S4224x1024 main_cst_4
  let main_v17 : IVec S4224x1024 1 := cmpf .olt main_v15 main_v16
  (main_v2, main_v5, main_v8, main_v11, main_v14, main_v17)
-- ==== Kernel.lean ====
abbrev S2x2064x4x192 : Shape := ⟨4, ![2, 2064, 4, 192]⟩
abbrev S2x2064x4x128 : Shape := ⟨4, ![2, 2064, 4, 128]⟩
abbrev S2x4x2064x2064 : Shape := ⟨4, ![2, 4, 2064, 2064]⟩
abbrev S2064 : Shape := ⟨1, ![2064]⟩
abbrev S_ : Shape := ⟨0, ![]⟩
abbrev S1x2064 : Shape := ⟨2, ![1, 2064]⟩
abbrev S2064x1 : Shape := ⟨2, ![2064, 1]⟩
abbrev S2064x2064 : Shape := ⟨2, ![2064, 2064]⟩
abbrev S1x1x2064x2064 : Shape := ⟨4, ![1, 1, 2064, 2064]⟩
abbrev S2x4x2064 : Shape := ⟨3, ![2, 4, 2064]⟩
abbrev S2x4x2064x1 : Shape := ⟨4, ![2, 4, 2064, 1]⟩
abbrev S2x4x128x2064 : Shape := ⟨4, ![2, 4, 128, 2064]⟩
abbrev S2x4x2112 : Shape := ⟨3, ![2, 4, 2112]⟩
abbrev S4x2x2112 : Shape := ⟨3, ![4, 2, 2112]⟩
abbrev S4x4224 : Shape := ⟨2, ![4, 4224]⟩
abbrev S4x4224x1 : Shape := ⟨3, ![4, 4224, 1]⟩
abbrev S4x4224x128 : Shape := ⟨3, ![4, 4224, 128]⟩
abbrev S2x2112x4x256 : Shape := ⟨4, ![2, 2112, 4, 256]⟩
abbrev S4224x1024 : Shape := ⟨2, ![4224, 1024]⟩
abbrev S2x2112x4x128 : Shape := ⟨4, ![2, 2112, 4, 128]⟩
abbrev S4224x512 : Shape := ⟨2, ![4224, 512]⟩
abbrev S2112x256 : Shape := ⟨2, ![2112, 256]⟩
abbrev S2112x128 : Shape := ⟨2, ![2112, 128]⟩
abbrev S1x2112x128 : Shape := ⟨3, ![1, 2112, 128]⟩
abbrev S704x256 : Shape := ⟨2, ![704, 256]⟩
abbrev S704x128 : Shape := ⟨2, ![704, 128]⟩
abbrev S704 : Shape := ⟨1, ![704]⟩
abbrev S704x1 : Shape := ⟨2, ![704, 1]⟩
abbrev S1x704x128 : Shape := ⟨3, ![1, 704, 128]⟩
abbrev S704x704 : Shape := ⟨2, ![704, 704]⟩
abbrev S1x704 : Shape := ⟨2, ![1, 704]⟩

abbrev nBuf : Space → Nat
  | .hbm => 87
  | .vmem => 18
  | .smem => 0
  | _ => 0

abbrev bufTy : (tb : Table) → Fin (tcTables nBuf tb) → BufTy
  | .hbm, ⟨0, _⟩ => ⟨S2x2064x4x192, .f32⟩
  | .hbm, ⟨1, _⟩ => ⟨S2x2064x4x192, .f32⟩
  | .hbm, ⟨2, _⟩ => ⟨S2x2064x4x128, .f32⟩
  | .hbm, ⟨3, _⟩ => ⟨S2x2064x4x128, .f32⟩
  | .hbm, ⟨4, _⟩ => ⟨S2x4x2064x2064, .f32⟩
  | .hbm, ⟨5, _⟩ => ⟨S2064, .i32⟩
  | .hbm, ⟨6, _⟩ => ⟨S_, .i32⟩
  | .hbm, ⟨7, _⟩ => ⟨S2064, .i32⟩
  | .hbm, ⟨8, _⟩ => ⟨S2064, .i32⟩
  | .hbm, ⟨9, _⟩ => ⟨S_, .i32⟩
  | .hbm, ⟨10, _⟩ => ⟨S_, .i32⟩
  | .hbm, ⟨11, _⟩ => ⟨S2064, .i32⟩
  | .hbm, ⟨12, _⟩ => ⟨S2064, .i32⟩
  | .hbm, ⟨13, _⟩ => ⟨S2064, .i32⟩
  | .hbm, ⟨14, _⟩ => ⟨S_, .i32⟩
  | .hbm, ⟨15, _⟩ => ⟨S2064, .i32⟩
  | .hbm, ⟨16, _⟩ => ⟨S2064, .i1⟩
  | .hbm, ⟨17, _⟩ => ⟨S2064, .i32⟩
  | .hbm, ⟨18, _⟩ => ⟨S2064, .i32⟩
  | .hbm, ⟨19, _⟩ => ⟨S_, .i32⟩
  | .hbm, ⟨20, _⟩ => ⟨S2064, .i32⟩
  | .hbm, ⟨21, _⟩ => ⟨S2064, .i1⟩
  | .hbm, ⟨22, _⟩ => ⟨S2064, .i1⟩
  | .hbm, ⟨23, _⟩ => ⟨S_, .i32⟩
  | .hbm, ⟨24, _⟩ => ⟨S2064, .i32⟩
  | .hbm, ⟨25, _⟩ => ⟨S2064, .i32⟩
  | .hbm, ⟨26, _⟩ => ⟨S2064, .i32⟩
  | .hbm, ⟨27, _⟩ => ⟨S1x2064, .i32⟩
  | .hbm, ⟨28, _⟩ => ⟨S2064x1, .i32⟩
  | .hbm, ⟨29, _⟩ => ⟨S2064x2064, .i32⟩
  | .hbm, ⟨30, _⟩ => ⟨S2064x2064, .i32⟩
  | .hbm, ⟨31, _⟩ => ⟨S2064x2064, .i1⟩
  | .hbm, ⟨32, _⟩ => ⟨S1x1x2064x2064, .i1⟩
  | .hbm, ⟨33, _⟩ => ⟨S_, .f32⟩
  | .hbm, ⟨34, _⟩ => ⟨S_, .f32⟩
  | .hbm, ⟨35, _⟩ => ⟨S2x4x2064x2064, .i1⟩
  | .hbm, ⟨36, _⟩ => ⟨S2x4x2064x2064, .f32⟩
  | .hbm, ⟨37, _⟩ => ⟨S2x4x2064x2064, .f32⟩
  | .hbm, ⟨38, _⟩ => ⟨S_, .f32⟩
  | .hbm, ⟨39, _⟩ => ⟨S2x4x2064, .f32⟩
  | .hbm, ⟨40, _⟩ => ⟨S2x4x2064x1, .f32⟩
  | .hbm, ⟨41, _⟩ => ⟨S2x4x2064x2064, .f32⟩
  | .hbm, ⟨42, _⟩ => ⟨S2x4x2064x2064, .f32⟩
  | .hbm, ⟨43, _⟩ => ⟨S2x4x2064x2064, .f32⟩
  | .hbm, ⟨44, _⟩ => ⟨S_, .f32⟩
  | .hbm, ⟨45, _⟩ => ⟨S2x4x2064, .f32⟩
  | .hbm, ⟨46, _⟩ => ⟨S2x4x2064, .f32⟩
  | .hbm, ⟨47, _⟩ => ⟨S2x4x2064, .f32⟩
  | .hbm, ⟨48, _⟩ => ⟨S2x4x2064x1, .f32⟩
  | .hbm, ⟨49, _⟩ => ⟨S2x4x2064x2064, .f32⟩
  | .hbm, ⟨50, _⟩ => ⟨S2x4x2064x2064, .f32⟩
  | .hbm, ⟨51, _⟩ => ⟨S2x4x2064x2064, .f32⟩
  | .hbm, ⟨52, _⟩ => ⟨S2x4x128x2064, .f32⟩
  | .hbm, ⟨53, _⟩ => ⟨S2x2064x4x128, .f32⟩
  | .hbm, ⟨54, _⟩ => ⟨S_, .i32⟩
  | .hbm, ⟨55, _⟩ => ⟨S_, .f32⟩
  | .hbm, ⟨56, _⟩ => ⟨S2x4x2112, .f32⟩
  | .hbm, ⟨57, _⟩ => ⟨S4x2x2112, .f32⟩
  | .hbm, ⟨58, _⟩ => ⟨S4x4224, .f32⟩
  | .hbm, ⟨59, _⟩ => ⟨S4x4224x1, .f32⟩
  | .hbm, ⟨60, _⟩ => ⟨S4x4224x128, .f32⟩
  | .hbm, ⟨61, _⟩ => ⟨S_, .i32⟩
  | .hbm, ⟨62, _⟩ => ⟨S_, .f32⟩
  | .hbm, ⟨63, _⟩ => ⟨S2x2112x4x256, .f32⟩
  | .hbm, ⟨64, _⟩ => ⟨S4224x1024, .f32⟩
  | .hbm, ⟨65, _⟩ => ⟨S4224x1024, .bf16⟩
  | .hbm, ⟨66, _⟩ => ⟨S_, .i32⟩
  | .hbm, ⟨67, _⟩ => ⟨S_, .f32⟩
  | .hbm, ⟨68, _⟩ => ⟨S2x2112x4x256, .f32⟩
  | .hbm, ⟨69, _⟩ => ⟨S4224x1024, .f32⟩
  | .hbm, ⟨70, _⟩ => ⟨S4224x1024, .bf16⟩
  | .hbm, ⟨71, _⟩ => ⟨S_, .i32⟩
  | .hbm, ⟨72, _⟩ => ⟨S_, .f32⟩
  | .hbm, ⟨73, _⟩ => ⟨S2x2112x4x128, .f32⟩
  | .hbm, ⟨74, _⟩ => ⟨S4224x512, .f32⟩
  | .hbm, ⟨75, _⟩ => ⟨S4224x512, .bf16⟩
  | .hbm, ⟨76, _⟩ => ⟨S_, .i32⟩
  | .hbm, ⟨77, _⟩ => ⟨S_, .f32⟩
  | .hbm, ⟨78, _⟩ => ⟨S2x2112x4x128, .f32⟩
  | .hbm, ⟨79, _⟩ => ⟨S4224x512, .f32⟩
  | .hbm, ⟨80, _⟩ => ⟨S_, .i32⟩
  | .hbm, ⟨81, _⟩ => ⟨S_, .f32⟩
  | .hbm, ⟨82, _⟩ => ⟨S2x2112x4x128, .f32⟩
  | .hbm, ⟨83, _⟩ => ⟨S4224x512, .f32⟩
  | .hbm, ⟨84, _⟩ => ⟨S4224x1024, .f32⟩
  | .hbm, ⟨85, _⟩ => ⟨S4224x1024, .f32⟩
  | .hbm, ⟨86, _⟩ => ⟨S4224x512, .f32⟩
  | .local _ .vmem, ⟨0, _⟩ => ⟨S2112x256, .bf16⟩
  | .local _ .vmem, ⟨1, _⟩ => ⟨S2112x256, .bf16⟩
  | .local _ .vmem, ⟨2, _⟩ => ⟨S2112x256, .bf16⟩
  | .local _ .vmem, ⟨3, _⟩ => ⟨S2112x256, .bf16⟩
  | .local _ .vmem, ⟨4, _⟩ => ⟨S2112x128, .bf16⟩
  | .local _ .vmem, ⟨5, _⟩ => ⟨S2112x128, .bf16⟩
  | .local _ .vmem, ⟨6, _⟩ => ⟨S2112x128, .f32⟩
  | .local _ .vmem, ⟨7, _⟩ => ⟨S2112x128, .f32⟩
  | .local _ .vmem, ⟨8, _⟩ => ⟨S2112x128, .f32⟩
  | .local _ .vmem, ⟨9, _⟩ => ⟨S2112x128, .f32⟩
  | .local _ .vmem, ⟨10, _⟩ => ⟨S1x2112x128, .f32⟩
  | .local _ .vmem, ⟨11, _⟩ => ⟨S1x2112x128, .f32⟩
  | .local _ .vmem, ⟨12, _⟩ => ⟨S2112x256, .f32⟩
  | .local _ .vmem, ⟨13, _⟩ => ⟨S2112x256, .f32⟩
  | .local _ .vmem, ⟨14, _⟩ => ⟨S2112x256, .f32⟩
  | .local _ .vmem, ⟨15, _⟩ => ⟨S2112x256, .f32⟩
  | .local _ .vmem, ⟨16, _⟩ => ⟨S2112x128, .f32⟩
  | .local _ .vmem, ⟨17, _⟩ => ⟨S2112x128, .f32⟩
  | _, _ => ⟨S2x2064x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_call2_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_call3_v0 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_call4_v0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_6 : Ref sig .tc := ⟨.hbm, 71, rfl⟩
abbrev main_call5_v0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_call6_v0 : Ref sig .tc := ⟨.hbm, 77, rfl⟩
abbrev main_v40 : Ref sig .tc := ⟨.hbm, 78, rfl⟩
abbrev main_v41 : Ref sig .tc := ⟨.hbm, 79, rfl⟩
abbrev main_c_8 : Ref sig .tc := ⟨.hbm, 80, rfl⟩
abbrev main_call7_v0 : Ref sig .tc := ⟨.hbm, 81, rfl⟩
abbrev main_v42 : Ref sig .tc := ⟨.hbm, 82, rfl⟩
abbrev main_v43 : Ref sig .tc := ⟨.hbm, 83, rfl⟩
abbrev main_v44_0 : Ref sig .tc := ⟨.hbm, 84, rfl⟩
abbrev main_v44_1 : Ref sig .tc := ⟨.hbm, 85, rfl⟩
abbrev main_v44_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c3_i32 : BitVec 32 := 3#32
  let v4 : BitVec 32 := Scalar.addi c0_i32 c3_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c704_i32 : BitVec 32 := 704#32
  let v5 : BitVec 32 := Scalar.muli arg11 c704_i32
  v5
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c704_i32 : BitVec 32 := 704#32
  let v5 : BitVec 32 := Scalar.muli arg11 c704_i32
  let v6 : BitVec 32 := v5
  let v7 : Index := Scalar.indexCast v6
  let c0_5 : Index := 0#32
  ![v7.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c704_i32 : BitVec 32 := 704#32
  let v5 : BitVec 32 := Scalar.muli arg11 c704_i32
  let v6 : BitVec 32 := v5
  let v10 : Index := Scalar.indexCast v6
  let c0_6 : Index := 0#32
  ![v10.toNat, 0]
def k0_off3 (k0_t1 : Fin k0_t1_loop.trips) : Fin 3 → Nat :=
  let c0_9 : Index := 0#32
  let c0_i32 : BitVec 32 := 0#32
  let c1_i32 : BitVec 32 := 1#32
  let arg11 : BitVec 32 := Scf.iv c0_i32 c1_i32 k0_t1
  let c704_i32 : BitVec 32 := 704#32
  let v5 : BitVec 32 := Scalar.muli arg11 c704_i32
  let v6 : BitVec 32 := v5
  let v19 : Index := Scalar.indexCast v6
  let c0_10 : Index := 0#32
  ![0, v19.toNat, 0]
@[reducible] def k0_t2_loop (k0_t1 : Fin k0_t1_loop.trips) : Scf.Loop 32 :=
  let c0_i32_13 : BitVec 32 := 0#32
  let c0_i32 : BitVec 32 := 0#32
  let c1_i32 : BitVec 32 := 1#32
  let arg11 : BitVec 32 := Scf.iv c0_i32 c1_i32 k0_t1
  let v26 : BitVec 32 := Scalar.subi arg11 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_15 : BitVec 32 := 1#32
  ⟨c0_i32_13, v30, c1_i32_15⟩
def k0_mult2 (k0_t1 : Fin k0_t1_loop.trips) (k0_t2 : Fin (k0_t2_loop k0_t1).trips) : BitVec 32 :=
  let c0_i32_13 : BitVec 32 := 0#32
  let c1_i32_15 : BitVec 32 := 1#32
  let arg12 : BitVec 32 := Scf.iv c0_i32_13 c1_i32_15 k0_t2
  let c704_i32_34 : BitVec 32 := 704#32
  let v87 : BitVec 32 := Scalar.muli arg12 c704_i32_34
  v87
def k0_off4 (k0_t1 : Fin k0_t1_loop.trips) (k0_t2 : Fin (k0_t2_loop k0_t1).trips) : Fin 2 → Nat :=
  let c0_i32_13 : BitVec 32 := 0#32
  let c1_i32_15 : BitVec 32 := 1#32
  let arg12 : BitVec 32 := Scf.iv c0_i32_13 c1_i32_15 k0_t2
  let c704_i32_34 : BitVec 32 := 704#32
  let v87 : BitVec 32 := Scalar.muli arg12 c704_i32_34
  let v88 : BitVec 32 := v87
  let v89 : Index := Scalar.indexCast v88
  let c0_35 : Index := 0#32
  ![v89.toNat, 0]
def k0_off5 (k0_t1 : Fin k0_t1_loop.trips) (k0_t2 : Fin (k0_t2_loop k0_t1).trips) : Fin 2 → Nat :=
  let c0_i32_13 : BitVec 32 := 0#32
  let c1_i32_15 : BitVec 32 := 1#32
  let arg12 : BitVec 32 := Scf.iv c0_i32_13 c1_i32_15 k0_t2
  let c704_i32_34 : BitVec 32 := 704#32
  let v87 : BitVec 32 := Scalar.muli arg12 c704_i32_34
  let v88 : BitVec 32 := v87
  let v107 : Index := Scalar.indexCast v88
  let c0_41 : Index := 0#32
  ![v107.toNat, 0]
@[reducible] def k0_t3_loop (k0_t1 : Fin k0_t1_loop.trips) : Scf.Loop 32 :=
  let c0_i32_13 : BitVec 32 := 0#32
  let c0_i32 : BitVec 32 := 0#32
  let c1_i32 : BitVec 32 := 1#32
  let arg11 : BitVec 32 := Scf.iv c0_i32 c1_i32 k0_t1
  let v26 : BitVec 32 := Scalar.subi arg11 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let v27 : BitVec 32 := Scalar.addi c0_i32_13 v26
  let c1_i32_16 : BitVec 32 := 1#32
  ⟨v30, v27, c1_i32_16⟩
def k0_mult3 (k0_t1 : Fin k0_t1_loop.trips) (k0_t3 : Fin (k0_t3_loop k0_t1).trips) : BitVec 32 :=
  let c0_i32_13 : BitVec 32 := 0#32
  let c0_i32 : BitVec 32 := 0#32
  let c1_i32 : BitVec 32 := 1#32
  let arg11 : BitVec 32 := Scf.iv c0_i32 c1_i32 k0_t1
  let v26 : BitVec 32 := Scalar.subi arg11 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_16 : BitVec 32 := 1#32
  let arg12 : BitVec 32 := Scf.iv v30 c1_i32_16 k0_t3
  let c704_i32_34 : BitVec 32 := 704#32
  let v87 : BitVec 32 := Scalar.muli arg12 c704_i32_34
  v87
def k0_off6 (k0_t1 : Fin k0_t1_loop.trips) (k0_t3 : Fin (k0_t3_loop k0_t1).trips) : Fin 2 → Nat :=
  let c0_i32_13 : BitVec 32 := 0#32
  let c0_i32 : BitVec 32 := 0#32
  let c1_i32 : BitVec 32 := 1#32
  let arg11 : BitVec 32 := Scf.iv c0_i32 c1_i32 k0_t1
  let v26 : BitVec 32 := Scalar.subi arg11 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_16 : BitVec 32 := 1#32
  let arg12 : BitVec 32 := Scf.iv v30 c1_i32_16 k0_t3
  let c704_i32_34 : BitVec 32 := 704#32
  let v87 : BitVec 32 := Scalar.muli arg12 c704_i32_34
  let v88 : BitVec 32 := v87
  let v89 : Index := Scalar.indexCast v88
  let c0_35 : Index := 0#32
  ![v89.toNat, 0]
def k0_off7 (k0_t1 : Fin k0_t1_loop.trips) (k0_t3 : Fin (k0_t3_loop k0_t1).trips) : Fin 2 → Nat :=
  let c0_i32_13 : BitVec 32 := 0#32
  let c0_i32 : BitVec 32 := 0#32
  let c1_i32 : BitVec 32 := 1#32
  let arg11 : BitVec 32 := Scf.iv c0_i32 c1_i32 k0_t1
  let v26 : BitVec 32 := Scalar.subi arg11 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_16 : BitVec 32 := 1#32
  let arg12 : BitVec 32 := Scf.iv v30 c1_i32_16 k0_t3
  let c704_i32_34 : BitVec 32 := 704#32
  let v87 : BitVec 32 := Scalar.muli arg12 c704_i32_34
  let v88 : BitVec 32 := v87
  let v107 : Index := Scalar.indexCast v88
  let c0_41 : Index := 0#32
  ![v107.toNat, 0]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c704_i32_17 : BitVec 32 := 704#32
  let v33 : BitVec 32 := Scalar.muli arg11 c704_i32_17
  v33
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2112x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2112x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2112x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2112x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2112x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2064x4x192 : Shape := ⟨4, ![2, 2064, 4, 192]⟩
abbrev S2x2064x4x128 : Shape := ⟨4, ![2, 2064, 4, 128]⟩
abbrev S2x4x2064x2064 : Shape := ⟨4, ![2, 4, 2064, 2064]⟩
abbrev S2064 : Shape := ⟨1, ![2064]⟩
abbrev S_ : Shape := ⟨0, ![]⟩
abbrev S1x2064 : Shape := ⟨2, ![1, 2064]⟩
abbrev S2064x1 : Shape := ⟨2, ![2064, 1]⟩
abbrev S2064x2064 : Shape := ⟨2, ![2064, 2064]⟩
abbrev S1x1x2064x2064 : Shape := ⟨4, ![1, 1, 2064, 2064]⟩
abbrev S2x4x2064 : Shape := ⟨3, ![2, 4, 2064]⟩
abbrev S2x4x2064x1 : Shape := ⟨4, ![2, 4, 2064, 1]⟩
abbrev S2x4x128x2064 : Shape := ⟨4, ![2, 4, 128, 2064]⟩
abbrev S2x4x2064x192 : Shape := ⟨4, ![2, 4, 2064, 192]⟩
abbrev S2x2112x4x256 : Shape := ⟨4, ![2, 2112, 4, 256]⟩
abbrev S4224x1024 : Shape := ⟨2, ![4224, 1024]⟩
abbrev S2x2112x4x128 : Shape := ⟨4, ![2, 2112, 4, 128]⟩
abbrev S4224x512 : Shape := ⟨2, ![4224, 512]⟩

abbrev nBuf : Space → Nat
  | .hbm => 117
  | .vmem => 0
  | .smem => 0
  | _ => 0

abbrev bufTy : (tb : Table) → Fin (tcTables nBuf tb) → BufTy
  | .hbm, ⟨0, _⟩ => ⟨S2x2064x4x192, .f32⟩
  | .hbm, ⟨1, _⟩ => ⟨S2x2064x4x192, .f32⟩
  | .hbm, ⟨2, _⟩ => ⟨S2x2064x4x128, .f32⟩
  | .hbm, ⟨3, _⟩ => ⟨S2x2064x4x128, .f32⟩
  | .hbm, ⟨4, _⟩ => ⟨S2x4x2064x2064, .f32⟩
  | .hbm, ⟨5, _⟩ => ⟨S2064, .i32⟩
  | .hbm, ⟨6, _⟩ => ⟨S_, .i32⟩
  | .hbm, ⟨7, _⟩ => ⟨S2064, .i32⟩
  | .hbm, ⟨8, _⟩ => ⟨S2064, .i32⟩
  | .hbm, ⟨9, _⟩ => ⟨S_, .i32⟩
  | .hbm, ⟨10, _⟩ => ⟨S_, .i32⟩
  | .hbm, ⟨11, _⟩ => ⟨S2064, .i32⟩
  | .hbm, ⟨12, _⟩ => ⟨S2064, .i32⟩
  | .hbm, ⟨13, _⟩ => ⟨S2064, .i32⟩
  | .hbm, ⟨14, _⟩ => ⟨S_, .i32⟩
  | .hbm, ⟨15, _⟩ => ⟨S2064, .i32⟩
  | .hbm, ⟨16, _⟩ => ⟨S2064, .i1⟩
  | .hbm, ⟨17, _⟩ => ⟨S2064, .i32⟩
  | .hbm, ⟨18, _⟩ => ⟨S2064, .i32⟩
  | .hbm, ⟨19, _⟩ => ⟨S_, .i32⟩
  | .hbm, ⟨20, _⟩ => ⟨S2064, .i32⟩
  | .hbm, ⟨21, _⟩ => ⟨S2064, .i1⟩
  | .hbm, ⟨22, _⟩ => ⟨S2064, .i1⟩
  | .hbm, ⟨23, _⟩ => ⟨S_, .i32⟩
  | .hbm, ⟨24, _⟩ => ⟨S2064, .i32⟩
  | .hbm, ⟨25, _⟩ => ⟨S2064, .i32⟩
  | .hbm, ⟨26, _⟩ => ⟨S2064, .i32⟩
  | .hbm, ⟨27, _⟩ => ⟨S1x2064, .i32⟩
  | .hbm, ⟨28, _⟩ => ⟨S2064x1, .i32⟩
  | .hbm, ⟨29, _⟩ => ⟨S2064x2064, .i32⟩
  | .hbm, ⟨30, _⟩ => ⟨S2064x2064, .i32⟩
  | .hbm, ⟨31, _⟩ => ⟨S2064x2064, .i1⟩
  | .hbm, ⟨32, _⟩ => ⟨S1x1x2064x2064, .i1⟩
  | .hbm, ⟨33, _⟩ => ⟨S_, .f32⟩
  | .hbm, ⟨34, _⟩ => ⟨S_, .f32⟩
  | .hbm, ⟨35, _⟩ => ⟨S2x4x2064x2064, .i1⟩
  | .hbm, ⟨36, _⟩ => ⟨S2x4x2064x2064, .f32⟩
  | .hbm, ⟨37, _⟩ => ⟨S2x4x2064x2064, .f32⟩
  | .hbm, ⟨38, _⟩ => ⟨S_, .f32⟩
  | .hbm, ⟨39, _⟩ => ⟨S2x4x2064x2064, .f32⟩
  | .hbm, ⟨40, _⟩ => ⟨S_, .f32⟩
  | .hbm, ⟨41, _⟩ => ⟨S2x4x2064, .f32⟩
  | .hbm, ⟨42, _⟩ => ⟨S2x4x2064x1, .f32⟩
  | .hbm, ⟨43, _⟩ => ⟨S2x4x2064x2064, .f32⟩
  | .hbm, ⟨44, _⟩ => ⟨S2x4x2064x2064, .i1⟩
  | .hbm, ⟨45, _⟩ => ⟨S2x4x2064x2064, .f32⟩
  | .hbm, ⟨46, _⟩ => ⟨S_, .f32⟩
  | .hbm, ⟨47, _⟩ => ⟨S2x4x2064, .f32⟩
  | .hbm, ⟨48, _⟩ => ⟨S_, .f32⟩
  | .hbm, ⟨49, _⟩ => ⟨S2x4x2064, .f32⟩
  | .hbm, ⟨50, _⟩ => ⟨S2x4x2064, .f32⟩
  | .hbm, ⟨51, _⟩ => ⟨S_, .f32⟩
  | .hbm, ⟨52, _⟩ => ⟨S2x4x2064, .f32⟩
  | .hbm, ⟨53, _⟩ => ⟨S2x4x2064, .i1⟩
  | .hbm, ⟨54, _⟩ => ⟨S_, .f32⟩
  | .hbm, ⟨55, _⟩ => ⟨S2x4x2064, .f32⟩
  | .hbm, ⟨56, _⟩ => ⟨S2x4x2064, .i1⟩
  | .hbm, ⟨57, _⟩ => ⟨S_, .f32⟩
  | .hbm, ⟨58, _⟩ => ⟨S2x4x2064, .f32⟩
  | .hbm, ⟨59, _⟩ => ⟨S_, .f32⟩
  | .hbm, ⟨60, _⟩ => ⟨S2x4x2064, .f32⟩
  | .hbm, ⟨61, _⟩ => ⟨S_, .f32⟩
  | .hbm, ⟨62, _⟩ => ⟨S2x4x2064, .f32⟩
  | .hbm, ⟨63, _⟩ => ⟨S2x4x2064, .f32⟩
  | .hbm, ⟨64, _⟩ => ⟨S2x4x2064, .f32⟩
  | .hbm, ⟨65, _⟩ => ⟨S2x4x2064x1, .f32⟩
  | .hbm, ⟨66, _⟩ => ⟨S2x4x2064x2064, .f32⟩
  | .hbm, ⟨67, _⟩ => ⟨S2x4x2064x2064, .f32⟩
  | .hbm, ⟨68, _⟩ => ⟨S2x4x2064x2064, .f32⟩
  | .hbm, ⟨69, _⟩ => ⟨S_, .f32⟩
  | .hbm, ⟨70, _⟩ => ⟨S2x4x2064, .f32⟩
  | .hbm, ⟨71, _⟩ => ⟨S2x4x2064x1, .f32⟩
  | .hbm, ⟨72, _⟩ => ⟨S2x4x2064x2064, .f32⟩
  | .hbm, ⟨73, _⟩ => ⟨S2x4x2064x2064, .f32⟩
  | .hbm, ⟨74, _⟩ => ⟨S2x4x2064x1, .f32⟩
  | .hbm, ⟨75, _⟩ => ⟨S_, .f32⟩
  | .hbm, ⟨76, _⟩ => ⟨S2x4x2064x1, .f32⟩
  | .hbm, ⟨77, _⟩ => ⟨S2x4x2064x1, .f32⟩
  | .hbm, ⟨78, _⟩ => ⟨S2x4x128x2064, .f32⟩
  | .hbm, ⟨79, _⟩ => ⟨S2x2064x4x128, .f32⟩
  | .hbm, ⟨80, _⟩ => ⟨S2x4x128x2064, .f32⟩
  | .hbm, ⟨81, _⟩ => ⟨S2x4x2064x2064, .f32⟩
  | .hbm, ⟨82, _⟩ => ⟨S2x4x128x2064, .f32⟩
  | .hbm, ⟨83, _⟩ => ⟨S2x2064x4x128, .f32⟩
  | .hbm, ⟨84, _⟩ => ⟨S2x4x2064x2064, .f32⟩
  | .hbm, ⟨85, _⟩ => ⟨S2x4x2064x2064, .f32⟩
  | .hbm, ⟨86, _⟩ => ⟨S2x4x2064x2064, .f32⟩
  | .hbm, ⟨87, _⟩ => ⟨S_, .f32⟩
  | .hbm, ⟨88, _⟩ => ⟨S2x4x2064, .f32⟩
  | .hbm, ⟨89, _⟩ => ⟨S2x4x2064x1, .f32⟩
  | .hbm, ⟨90, _⟩ => ⟨S2x4x2064x1, .f32⟩
  | .hbm, ⟨91, _⟩ => ⟨S2x4x2064x2064, .f32⟩
  | .hbm, ⟨92, _⟩ => ⟨S2x4x2064x2064, .f32⟩
  | .hbm, ⟨93, _⟩ => ⟨S_, .f32⟩
  | .hbm, ⟨94, _⟩ => ⟨S2x4x2064, .f32⟩
  | .hbm, ⟨95, _⟩ => ⟨S2x4x2064x2064, .f32⟩
  | .hbm, ⟨96, _⟩ => ⟨S2x4x2064x2064, .f32⟩
  | .hbm, ⟨97, _⟩ => ⟨S2x4x2064x2064, .f32⟩
  | .hbm, ⟨98, _⟩ => ⟨S_, .f32⟩
  | .hbm, ⟨99, _⟩ => ⟨S2x4x2064x2064, .f32⟩
  | .hbm, ⟨100, _⟩ => ⟨S2x4x2064x2064, .f32⟩
  | .hbm, ⟨101, _⟩ => ⟨S2x4x2064x192, .f32⟩
  | .hbm, ⟨102, _⟩ => ⟨S2x2064x4x192, .f32⟩
  | .hbm, ⟨103, _⟩ => ⟨S2x4x2064x192, .f32⟩
  | .hbm, ⟨104, _⟩ => ⟨S2x2064x4x192, .f32⟩
  | .hbm, ⟨105, _⟩ => ⟨S_, .i32⟩
  | .hbm, ⟨106, _⟩ => ⟨S_, .f32⟩
  | .hbm, ⟨107, _⟩ => ⟨S2x2112x4x256, .f32⟩
  | .hbm, ⟨108, _⟩ => ⟨S4224x1024, .f32⟩
  | .hbm, ⟨109, _⟩ => ⟨S_, .i32⟩
  | .hbm, ⟨110, _⟩ => ⟨S_, .f32⟩
  | .hbm, ⟨111, _⟩ => ⟨S2x2112x4x256, .f32⟩
  | .hbm, ⟨112, _⟩ => ⟨S4224x1024, .f32⟩
  | .hbm, ⟨113, _⟩ => ⟨S_, .i32⟩
  | .hbm, ⟨114, _⟩ => ⟨S_, .f32⟩
  | .hbm, ⟨115, _⟩ => ⟨S2x2112x4x128, .f32⟩
  | .hbm, ⟨116, _⟩ => ⟨S4224x512, .f32⟩
  | _, _ => ⟨S2x2064x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_13 : Ref sig .tc := ⟨.hbm, 105, rfl⟩
abbrev main_call3_v0 : Ref sig .tc := ⟨.hbm, 106, rfl⟩
abbrev main_v63 : Ref sig .tc := ⟨.hbm, 107, rfl⟩
abbrev main_v64 : Ref sig .tc := ⟨.hbm, 108, rfl⟩
abbrev main_c_14 : Ref sig .tc := ⟨.hbm, 109, rfl⟩
abbrev main_call4_v0 : Ref sig .tc := ⟨.hbm, 110, rfl⟩
abbrev main_v65 : Ref sig .tc := ⟨.hbm, 111, rfl⟩
abbrev main_v66 : Ref sig .tc := ⟨.hbm, 112, rfl⟩
abbrev main_c_15 : Ref sig .tc := ⟨.hbm, 113, rfl⟩
abbrev main_call5_v0 : Ref sig .tc := ⟨.hbm, 114, rfl⟩
abbrev main_v67 : Ref sig .tc := ⟨.hbm, 115, rfl⟩
abbrev main_v68 : Ref sig .tc := ⟨.hbm, 116, rfl⟩

abbrev nD : Nat := 1
abbrev τ : Topo := Topo.v7x

variable {F : FTy → Type} [FloatOps F]

def κ : String → Option EReal := fun
  | "mask" => some ⊥
  | _ => none
-- ==== Kernel2.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S352x1024 : Shape := ⟨2, ![352, 1024]⟩
abbrev S352x2816 : Shape := ⟨2, ![352, 2816]⟩
abbrev S352 : Shape := ⟨1, ![352]⟩
abbrev S352x1 : Shape := ⟨2, ![352, 1]⟩
abbrev S1408x1024 : Shape := ⟨2, ![1408, 1024]⟩
abbrev S352x1408 : Shape := ⟨2, ![352, 1408]⟩

abbrev nBuf : Space → Nat
  | .hbm => 37
  | .vmem => 21
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S1x1024, .f32⟩
  | .hbm, ⟨25, _⟩ => ⟨S4224x2816, .bf16⟩
  | .hbm, ⟨26, _⟩ => ⟨S4224x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4224x1024, .f32⟩
  | .hbm, ⟨33, _⟩ => ⟨S4224x2816, .bf16⟩
  | .hbm, ⟨34, _⟩ => ⟨S4224x2816, .bf16⟩
  | .hbm, ⟨35, _⟩ => ⟨S4224x2816, .bf16⟩
  | .hbm, ⟨36, _⟩ => ⟨S1x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S1x1024, .f32⟩
  | .local _ .vmem, ⟨5, _⟩ => ⟨S352x2816, .bf16⟩
  | .local _ .vmem, ⟨6, _⟩ => ⟨S352x2816, .bf16⟩
  | .local _ .vmem, ⟨7, _⟩ => ⟨S352x2816, .bf16⟩
  | .local _ .vmem, ⟨8, _⟩ => ⟨S352x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S352x1024, .f32⟩
  | .local _ .vmem, ⟨13, _⟩ => ⟨S352x1024, .f32⟩
  | .local _ .vmem, ⟨14, _⟩ => ⟨S352x2816, .bf16⟩
  | .local _ .vmem, ⟨15, _⟩ => ⟨S352x2816, .bf16⟩
  | .local _ .vmem, ⟨16, _⟩ => ⟨S352x2816, .bf16⟩
  | .local _ .vmem, ⟨17, _⟩ => ⟨S352x2816, .bf16⟩
  | .local _ .vmem, ⟨18, _⟩ => ⟨S352x2816, .bf16⟩
  | .local _ .vmem, ⟨19, _⟩ => ⟨S352x2816, .bf16⟩
  | .local _ .vmem, ⟨20, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v121 : BitVec 1 := Scalar.cmpi .eq arg0 c0_i32
  let v122 : BitVec 32 := Scalar.extui v121
  let c0_i32_63 : BitVec 32 := 0#32
  let v123 : BitVec 1 := Scalar.cmpi .ne v122 c0_i32_63
  v123

def k0_cond2 (i : grid0.Coords) : BitVec 1 :=
  let arg0 : BitVec 32 := BitVec.ofNat 32 (i 0).val
  let c0_i32 : BitVec 32 := 0#32
  let v121 : BitVec 1 := Scalar.cmpi .eq arg0 c0_i32
  let v_true : BitVec 1 := 1#1
  let v124 : BitVec 1 := Scalar.xori v121 v_true
  let v125 : BitVec 32 := Scalar.extui v124
  let c0_i32_64 : BitVec 32 := 0#32
  let v126 : BitVec 1 := Scalar.cmpi .ne v125 c0_i32_64
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S352x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 150
  | .vmem => 0
  | .smem => 0
  | _ => 0

abbrev hbmTy0_0 (i : Nat) : BufTy := match i % 128 with
  | 0 => ⟨S4224x1024, .f32⟩
  | 1 => ⟨S1024, .f32⟩
  | 2 => ⟨S1024x2816, .f32⟩
  | 3 => ⟨S1024x2816, .f32⟩
  | 4 => ⟨S2816x1024, .f32⟩
  | 5 => ⟨S4224x1024, .f32⟩
  | 6 => ⟨S4224x1024, .f32⟩
  | 7 => ⟨S_, .f32⟩
  | 8 => ⟨S4224, .f32⟩
  | 9 => ⟨S4224x1, .f32⟩
  | 10 => ⟨S_, .f32⟩
  | 11 => ⟨S4224x1, .f32⟩
  | 12 => ⟨S4224x1, .f32⟩
  | 13 => ⟨S_, .f32⟩
  | 14 => ⟨S4224x1, .f32⟩
  | 15 => ⟨S4224x1, .f32⟩
  | 16 => ⟨S4224x1, .f32⟩
  | 17 => ⟨S4224x1, .f32⟩
  | 18 => ⟨S_, .f32⟩
  | 19 => ⟨S4224x1, .f32⟩
  | 20 => ⟨S4224x1, .f32⟩
  | 21 => ⟨S4224x1024, .f32⟩
  | 22 => ⟨S4224x1024, .f32⟩
  | 23 => ⟨S1x1024, .f32⟩
  | 24 => ⟨S4224x1024, .f32⟩
  | 25 => ⟨S4224x1024, .f32⟩
  | 26 => ⟨S4224x2816, .f32⟩
  | 27 => ⟨S4224x2816, .f32⟩
  | 28 => ⟨S4224x2816, .f32⟩
  | 29 => ⟨S4224x2816, .f32⟩
  | 30 => ⟨S_, .f32⟩
  | 31 => ⟨S4224x2816, .f32⟩
  | 32 => ⟨S4224x2816, .f32⟩
  | 33 => ⟨S_, .f32⟩
  | 34 => ⟨S4224x2816, .f32⟩
  | 35 => ⟨S4224x2816, .f32⟩
  | 36 => ⟨S_, .f32⟩
  | 37 => ⟨S4224x2816, .f32⟩
  | 38 => ⟨S4224x2816, .f32⟩
  | 39 => ⟨S4224x2816, .f32⟩
  | 40 => ⟨S4224x2816, .f32⟩
  | 41 => ⟨S4224x2816, .f32⟩
  | 42 => ⟨S4224x1024, .f32⟩
  | 43 => ⟨S_, .f32⟩
  | 44 => ⟨S4224x1024, .f32⟩
  | 45 => ⟨S4224x1024, .f32⟩
  | 46 => ⟨S4224x1024, .f32⟩
  | 47 => ⟨S4224x1024, .f32⟩
  | 48 => ⟨S_, .f32⟩
  | 49 => ⟨S4224x1024, .f32⟩
  | 50 => ⟨S4224x1024, .f32⟩
  | 51 => ⟨S4224x2816, .f32⟩
  | 52 => ⟨S4224x2816, .f32⟩
  | 53 => ⟨S4224x2816, .f32⟩
  | 54 => ⟨S4224x2816, .f32⟩
  | 55 => ⟨S4224x2816, .f32⟩
  | 56 => ⟨S4224x2816, .f32⟩
  | 57 => ⟨S4224x2816, .f32⟩
  | 58 => ⟨S4224x1024, .f32⟩
  | 59 => ⟨S4224x1024, .f32⟩
  | 60 => ⟨S4224x1024, .f32⟩
  | 61 => ⟨S4224x1024, .f32⟩
  | 62 => ⟨S_, .f32⟩
  | 63 => ⟨S1024, .f32⟩
  | 64 => ⟨S1x1024, .f32⟩
  | 65 => ⟨S4224x1024, .f32⟩
  | 66 => ⟨S4224x1024, .f32⟩
  | 67 => ⟨S_, .f32⟩
  | 68 => ⟨S1024, .f32⟩
  | 69 => ⟨S4224x1024, .f32⟩
  | 70 => ⟨S_, .f32⟩
  | 71 => ⟨S4224, .f32⟩
  | 72 => ⟨S4224x1, .f32⟩
  | 73 => ⟨S4224x1024, .f32⟩
  | 74 => ⟨S4224x1024, .f32⟩
  | 75 => ⟨S4224x1024, .f32⟩
  | 76 => ⟨S4224x1, .f32⟩
  | 77 => ⟨S_, .f32⟩
  | 78 => ⟨S4224x1, .f32⟩
  | 79 => ⟨S4224x1, .f32⟩
  | 80 => ⟨S_, .f32⟩
  | 81 => ⟨S4224, .f32⟩
  | 82 => ⟨S4224x1024, .f32⟩
  | 83 => ⟨S4224x1024, .f32⟩
  | 84 => ⟨S4224x1024, .f32⟩
  | 85 => ⟨S4224x1024, .f32⟩
  | 86 => ⟨S4224x1024, .f32⟩
  | 87 => ⟨S4224x1024, .f32⟩
  | 88 => ⟨S_, .f32⟩
  | 89 => ⟨S4224, .f32⟩
  | 90 => ⟨S4224x1, .f32⟩
  | 91 => ⟨S_, .f32⟩
  | 92 => ⟨S4224x1, .f32⟩
  | 93 => ⟨S4224x1, .f32⟩
  | 94 => ⟨S_, .f32⟩
  | 95 => ⟨S4224x1, .f32⟩
  | 96 => ⟨S4224x1, .f32⟩
  | 97 => ⟨S4224x1, .f32⟩
  | 98 => ⟨S4224x1024, .f32⟩
  | 99 => ⟨S4224x1024, .f32⟩
  | 100 => ⟨S1x1024, .f32⟩
  | 101 => ⟨S4224x1024, .f32⟩
  | 102 => ⟨S4224x1024, .f32⟩
  | 103 => ⟨S4224x2816, .f32⟩
  | 104 => ⟨S4224x2816, .f32⟩
  | 105 => ⟨S4224x2816, .f32⟩
  | 106 => ⟨S4224x2816, .f32⟩
  | 107 => ⟨S_, .f32⟩
  | 108 => ⟨S4224x2816, .f32⟩
  | 109 => ⟨S4224x2816, .f32⟩
  | 110 => ⟨S_, .f32⟩
  | 111 => ⟨S4224x2816, .f32⟩
  | 112 => ⟨S4224x2816, .f32⟩
  | 113 => ⟨S_, .f32⟩
  | 114 => ⟨S4224x2816, .f32⟩
  | 115 => ⟨S4224x2816, .f32⟩
  | 116 => ⟨S4224x2816, .f32⟩
  | 117 => ⟨S4224x2816, .f32⟩
  | 118 => ⟨S4224x2816, .f32⟩
  | 119 => ⟨S4224x1024, .f32⟩
  | 120 => ⟨S_, .f32⟩
  | 121 => ⟨S4224x1024, .f32⟩
  | 122 => ⟨S4224x1024, .f32⟩
  | 123 => ⟨S_, .f32⟩
  | 124 => ⟨S4224x1024, .f32⟩
  | 125 => ⟨S4224x1024, .f32⟩
  | 126 => ⟨S4224x2816, .f32⟩
  | 127 => ⟨S4224x2816, .f32⟩
  | _ => ⟨S4224x1024, .f32⟩

abbrev hbmTy0_1 (i : Nat) : BufTy := match i % 128 with
  | 0 => ⟨S4224x2816, .f32⟩
  | 1 => ⟨S4224x2816, .f32⟩
  | 2 => ⟨S4224x2816, .f32⟩
  | 3 => ⟨S4224x2816, .f32⟩
  | 4 => ⟨S4224x2816, .f32⟩
  | 5 => ⟨S4224x2816, .f32⟩
  | 6 => ⟨S4224x2816, .f32⟩
  | 7 => ⟨S_, .f32⟩
  | 8 => ⟨S4224x2816, .f32⟩
  | 9 => ⟨S4224x2816, .f32⟩
  | 10 => ⟨S_, .f32⟩
  | 11 => ⟨S4224x2816, .f32⟩
  | 12 => ⟨S4224x2816, .f32⟩
  | 13 => ⟨S4224x2816, .f32⟩
  | 14 => ⟨S4224x2816, .f32⟩
  | 15 => ⟨S_, .f32⟩
  | 16 => ⟨S4224x2816, .f32⟩
  | 17 => ⟨S4224x2816, .f32⟩
  | 18 => ⟨S4224x2816, .bf16⟩
  | 19 => ⟨S4224x2816, .bf16⟩
  | 20 => ⟨S4224x2816, .bf16⟩
  | 21 => ⟨S1x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v81 : Ref sig .tc := ⟨.hbm, 141, rfl⟩
abbrev main_v82 : Ref sig .tc := ⟨.hbm, 142, rfl⟩
abbrev main_cst_15 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩

abbrev nD : Nat := 1
abbrev τ : Topo := Topo.v7x

variable {F : FTy → Type} [FloatOps F]
-- ==== Kernel4.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S4224x1408 : Shape := ⟨2, ![4224, 1408]⟩
abbrev S4224x512 : Shape := ⟨2, ![4224, 512]⟩
abbrev S1408x512 : Shape := ⟨2, ![1408, 512]⟩

abbrev nBuf : Space → Nat
  | .hbm => 68
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224x1024, .f32⟩
  | .hbm, ⟨44, _⟩ => ⟨S4224x1024, .f32⟩
  | .hbm, ⟨45, _⟩ => ⟨S4224x2816, .f32⟩
  | .hbm, ⟨46, _⟩ => ⟨S4224x2816, .f32⟩
  | .hbm, ⟨47, _⟩ => ⟨S4224x2816, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S_, .f32⟩
  | .hbm, ⟨55, _⟩ => ⟨S4224x2816, .f32⟩
  | .hbm, ⟨56, _⟩ => ⟨S4224x2816, .f32⟩
  | .hbm, ⟨57, _⟩ => ⟨S_, .f32⟩
  | .hbm, ⟨58, _⟩ => ⟨S4224x2816, .f32⟩
  | .hbm, ⟨59, _⟩ => ⟨S4224x2816, .f32⟩
  | .hbm, ⟨60, _⟩ => ⟨S4224x2816, .f32⟩
  | .hbm, ⟨61, _⟩ => ⟨S4224x2816, .f32⟩
  | .hbm, ⟨62, _⟩ => ⟨S_, .f32⟩
  | .hbm, ⟨63, _⟩ => ⟨S4224x2816, .f32⟩
  | .hbm, ⟨64, _⟩ => ⟨S4224x2816, .f32⟩
  | .hbm, ⟨65, _⟩ => ⟨S4224x2816, .bf16⟩
  | .hbm, ⟨66, _⟩ => ⟨S4224x1024, .bf16⟩
  | .hbm, ⟨67, _⟩ => ⟨S2816x1024, .bf16⟩
  | .local _ .vmem, ⟨0, _⟩ => ⟨S4224x1408, .bf16⟩
  | .local _ .vmem, ⟨1, _⟩ => ⟨S4224x1408, .bf16⟩
  | .local _ .vmem, ⟨2, _⟩ => ⟨S4224x512, .bf16⟩
  | .local _ .vmem, ⟨3, _⟩ => ⟨S4224x512, .bf16⟩
  | .local _ .vmem, ⟨4, _⟩ => ⟨S1408x512, .bf16⟩
  | .local _ .vmem, ⟨5, _⟩ => ⟨S1408x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S_, .f32⟩
  | .hbm, ⟨44, _⟩ => ⟨S4224x1024, .f32⟩
  | .hbm, ⟨45, _⟩ => ⟨S4224x1024, .f32⟩
  | .hbm, ⟨46, _⟩ => ⟨S4224x2816, .f32⟩
  | .hbm, ⟨47, _⟩ => ⟨S4224x2816, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S2816x1024, .f32⟩
  | .hbm, ⟨53, _⟩ => ⟨S1024x2816, .f32⟩
  | .hbm, ⟨54, _⟩ => ⟨S2816x1024, .f32⟩
  | .hbm, ⟨55, _⟩ => ⟨S2816x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Kernel5.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S4224x1408 : Shape := ⟨2, ![4224, 1408]⟩
abbrev S4224x512 : Shape := ⟨2, ![4224, 512]⟩
abbrev S1408x512 : Shape := ⟨2, ![1408, 512]⟩

abbrev nBuf : Space → Nat
  | .hbm => 68
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224x1024, .f32⟩
  | .hbm, ⟨44, _⟩ => ⟨S4224x1024, .f32⟩
  | .hbm, ⟨45, _⟩ => ⟨S4224x2816, .f32⟩
  | .hbm, ⟨46, _⟩ => ⟨S4224x2816, .f32⟩
  | .hbm, ⟨47, _⟩ => ⟨S4224x2816, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S_, .f32⟩
  | .hbm, ⟨55, _⟩ => ⟨S4224x2816, .f32⟩
  | .hbm, ⟨56, _⟩ => ⟨S4224x2816, .f32⟩
  | .hbm, ⟨57, _⟩ => ⟨S_, .f32⟩
  | .hbm, ⟨58, _⟩ => ⟨S4224x2816, .f32⟩
  | .hbm, ⟨59, _⟩ => ⟨S4224x2816, .f32⟩
  | .hbm, ⟨60, _⟩ => ⟨S4224x2816, .f32⟩
  | .hbm, ⟨61, _⟩ => ⟨S4224x2816, .f32⟩
  | .hbm, ⟨62, _⟩ => ⟨S_, .f32⟩
  | .hbm, ⟨63, _⟩ => ⟨S4224x2816, .f32⟩
  | .hbm, ⟨64, _⟩ => ⟨S4224x2816, .f32⟩
  | .hbm, ⟨65, _⟩ => ⟨S4224x2816, .bf16⟩
  | .hbm, ⟨66, _⟩ => ⟨S4224x1024, .bf16⟩
  | .hbm, ⟨67, _⟩ => ⟨S2816x1024, .bf16⟩
  | .local _ .vmem, ⟨0, _⟩ => ⟨S4224x1408, .bf16⟩
  | .local _ .vmem, ⟨1, _⟩ => ⟨S4224x1408, .bf16⟩
  | .local _ .vmem, ⟨2, _⟩ => ⟨S4224x512, .bf16⟩
  | .local _ .vmem, ⟨3, _⟩ => ⟨S4224x512, .bf16⟩
  | .local _ .vmem, ⟨4, _⟩ => ⟨S1408x512, .bf16⟩
  | .local _ .vmem, ⟨5, _⟩ => ⟨S1408x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x1024, .f32⟩
  | .hbm, ⟨35, _⟩ => ⟨S_, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S4224x2816, .f32⟩
  | .hbm, ⟨43, _⟩ => ⟨S4224x2816, .f32⟩
  | .hbm, ⟨44, _⟩ => ⟨S2816x1024, .f32⟩
  | .hbm, ⟨45, _⟩ => ⟨S1024x2816, .f32⟩
  | .hbm, ⟨46, _⟩ => ⟨S2816x1024, .f32⟩
  | .hbm, ⟨47, _⟩ => ⟨S2816x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel6.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S4224x1408 : Shape := ⟨2, ![4224, 1408]⟩
abbrev S4224x512 : Shape := ⟨2, ![4224, 512]⟩
abbrev S1408x512 : Shape := ⟨2, ![1408, 512]⟩

abbrev nBuf : Space → Nat
  | .hbm => 67
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224x1024, .f32⟩
  | .hbm, ⟨44, _⟩ => ⟨S4224x1024, .f32⟩
  | .hbm, ⟨45, _⟩ => ⟨S4224x2816, .f32⟩
  | .hbm, ⟨46, _⟩ => ⟨S4224x2816, .f32⟩
  | .hbm, ⟨47, _⟩ => ⟨S4224x2816, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S_, .f32⟩
  | .hbm, ⟨55, _⟩ => ⟨S4224x2816, .f32⟩
  | .hbm, ⟨56, _⟩ => ⟨S4224x2816, .f32⟩
  | .hbm, ⟨57, _⟩ => ⟨S_, .f32⟩
  | .hbm, ⟨58, _⟩ => ⟨S4224x2816, .f32⟩
  | .hbm, ⟨59, _⟩ => ⟨S4224x2816, .f32⟩
  | .hbm, ⟨60, _⟩ => ⟨S4224x2816, .f32⟩
  | .hbm, ⟨61, _⟩ => ⟨S4224x2816, .f32⟩
  | .hbm, ⟨62, _⟩ => ⟨S_, .f32⟩
  | .hbm, ⟨63, _⟩ => ⟨S4224x2816, .f32⟩
  | .hbm, ⟨64, _⟩ => ⟨S4224x2816, .f32⟩
  | .hbm, ⟨65, _⟩ => ⟨S4224x2816, .bf16⟩
  | .hbm, ⟨66, _⟩ => ⟨S2816x1024, .bf16⟩
  | .local _ .vmem, ⟨0, _⟩ => ⟨S4224x1408, .bf16⟩
  | .local _ .vmem, ⟨1, _⟩ => ⟨S4224x1408, .bf16⟩
  | .local _ .vmem, ⟨2, _⟩ => ⟨S4224x512, .f32⟩
  | .local _ .vmem, ⟨3, _⟩ => ⟨S4224x512, .f32⟩
  | .local _ .vmem, ⟨4, _⟩ => ⟨S1408x512, .bf16⟩
  | .local _ .vmem, ⟨5, _⟩ => ⟨S1408x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x1024, .f32⟩
  | .hbm, ⟨35, _⟩ => ⟨S_, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S1024x2816, .f32⟩
  | .hbm, ⟨43, _⟩ => ⟨S2816x1024, .f32⟩
  | .hbm, ⟨44, _⟩ => ⟨S2816x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel7.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S1408x1024 : Shape := ⟨2, ![1408, 1024]⟩
abbrev S384x1408 : Shape := ⟨2, ![384, 1408]⟩

abbrev nBuf : Space → Nat
  | .hbm => 36
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S1x1024, .f32⟩
  | .hbm, ⟨25, _⟩ => ⟨S4224x2816, .bf16⟩
  | .hbm, ⟨26, _⟩ => ⟨S4224x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4224x1024, .f32⟩
  | .hbm, ⟨33, _⟩ => ⟨S4224x2816, .bf16⟩
  | .hbm, ⟨34, _⟩ => ⟨S4224x2816, .bf16⟩
  | .hbm, ⟨35, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S384x1024, .f32⟩
  | .local _ .vmem, ⟨13, _⟩ => ⟨S384x1024, .f32⟩
  | .local _ .vmem, ⟨14, _⟩ => ⟨S384x2816, .bf16⟩
  | .local _ .vmem, ⟨15, _⟩ => ⟨S384x2816, .bf16⟩
  | .local _ .vmem, ⟨16, _⟩ => ⟨S384x2816, .bf16⟩
  | .local _ .vmem, ⟨17, _⟩ => ⟨S384x2816, .bf16⟩
  | .local _ .vmem, ⟨18, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v111 : BitVec 1 := Scalar.cmpi .eq arg0 c0_i32
  let v112 : BitVec 32 := Scalar.extui v111
  let c0_i32_57 : BitVec 32 := 0#32
  let v113 : BitVec 1 := Scalar.cmpi .ne v112 c0_i32_57
  v113

def k0_cond2 (i : grid0.Coords) : BitVec 1 :=
  let arg0 : BitVec 32 := BitVec.ofNat 32 (i 0).val
  let c0_i32 : BitVec 32 := 0#32
  let v111 : BitVec 1 := Scalar.cmpi .eq arg0 c0_i32
  let v_true : BitVec 1 := 1#1
  let v114 : BitVec 1 := Scalar.xori v111 v_true
  let v115 : BitVec 32 := Scalar.extui v114
  let c0_i32_58 : BitVec 32 := 0#32
  let v116 : BitVec 1 := Scalar.cmpi .ne v115 c0_i32_58
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 136
  | .vmem => 0
  | .smem => 0
  | _ => 0

abbrev hbmTy0_0 (i : Nat) : BufTy := match i % 128 with
  | 0 => ⟨S4224x1024, .f32⟩
  | 1 => ⟨S1024, .f32⟩
  | 2 => ⟨S1024x2816, .f32⟩
  | 3 => ⟨S1024x2816, .f32⟩
  | 4 => ⟨S2816x1024, .f32⟩
  | 5 => ⟨S4224x1024, .f32⟩
  | 6 => ⟨S4224x1024, .f32⟩
  | 7 => ⟨S_, .f32⟩
  | 8 => ⟨S4224, .f32⟩
  | 9 => ⟨S4224x1, .f32⟩
  | 10 => ⟨S_, .f32⟩
  | 11 => ⟨S4224x1, .f32⟩
  | 12 => ⟨S4224x1, .f32⟩
  | 13 => ⟨S_, .f32⟩
  | 14 => ⟨S4224x1, .f32⟩
  | 15 => ⟨S4224x1, .f32⟩
  | 16 => ⟨S4224x1, .f32⟩
  | 17 => ⟨S4224x1, .f32⟩
  | 18 => ⟨S_, .f32⟩
  | 19 => ⟨S4224x1, .f32⟩
  | 20 => ⟨S4224x1, .f32⟩
  | 21 => ⟨S4224x1024, .f32⟩
  | 22 => ⟨S4224x1024, .f32⟩
  | 23 => ⟨S1x1024, .f32⟩
  | 24 => ⟨S4224x1024, .f32⟩
  | 25 => ⟨S4224x1024, .f32⟩
  | 26 => ⟨S4224x2816, .f32⟩
  | 27 => ⟨S4224x2816, .f32⟩
  | 28 => ⟨S4224x2816, .f32⟩
  | 29 => ⟨S4224x2816, .f32⟩
  | 30 => ⟨S_, .f32⟩
  | 31 => ⟨S4224x2816, .f32⟩
  | 32 => ⟨S4224x2816, .f32⟩
  | 33 => ⟨S_, .f32⟩
  | 34 => ⟨S4224x2816, .f32⟩
  | 35 => ⟨S4224x2816, .f32⟩
  | 36 => ⟨S_, .f32⟩
  | 37 => ⟨S4224x2816, .f32⟩
  | 38 => ⟨S4224x2816, .f32⟩
  | 39 => ⟨S4224x2816, .f32⟩
  | 40 => ⟨S4224x2816, .f32⟩
  | 41 => ⟨S4224x2816, .f32⟩
  | 42 => ⟨S4224x1024, .f32⟩
  | 43 => ⟨S_, .f32⟩
  | 44 => ⟨S4224x1024, .f32⟩
  | 45 => ⟨S4224x1024, .f32⟩
  | 46 => ⟨S4224x1024, .f32⟩
  | 47 => ⟨S4224x1024, .f32⟩
  | 48 => ⟨S_, .f32⟩
  | 49 => ⟨S4224x1024, .f32⟩
  | 50 => ⟨S4224x1024, .f32⟩
  | 51 => ⟨S4224x2816, .f32⟩
  | 52 => ⟨S4224x2816, .f32⟩
  | 53 => ⟨S4224x2816, .f32⟩
  | 54 => ⟨S4224x2816, .f32⟩
  | 55 => ⟨S4224x2816, .f32⟩
  | 56 => ⟨S4224x2816, .f32⟩
  | 57 => ⟨S4224x2816, .f32⟩
  | 58 => ⟨S4224x1024, .f32⟩
  | 59 => ⟨S4224x1024, .f32⟩
  | 60 => ⟨S4224x1024, .f32⟩
  | 61 => ⟨S4224x1024, .f32⟩
  | 62 => ⟨S_, .f32⟩
  | 63 => ⟨S1024, .f32⟩
  | 64 => ⟨S1x1024, .f32⟩
  | 65 => ⟨S4224x1024, .f32⟩
  | 66 => ⟨S4224x1024, .f32⟩
  | 67 => ⟨S_, .f32⟩
  | 68 => ⟨S1024, .f32⟩
  | 69 => ⟨S4224x1024, .f32⟩
  | 70 => ⟨S_, .f32⟩
  | 71 => ⟨S4224, .f32⟩
  | 72 => ⟨S4224x1, .f32⟩
  | 73 => ⟨S4224x1024, .f32⟩
  | 74 => ⟨S4224x1024, .f32⟩
  | 75 => ⟨S4224x1024, .f32⟩
  | 76 => ⟨S4224x1, .f32⟩
  | 77 => ⟨S_, .f32⟩
  | 78 => ⟨S4224x1, .f32⟩
  | 79 => ⟨S4224x1, .f32⟩
  | 80 => ⟨S_, .f32⟩
  | 81 => ⟨S4224, .f32⟩
  | 82 => ⟨S4224x1024, .f32⟩
  | 83 => ⟨S4224x1024, .f32⟩
  | 84 => ⟨S4224x1024, .f32⟩
  | 85 => ⟨S4224x1024, .f32⟩
  | 86 => ⟨S4224x1024, .f32⟩
  | 87 => ⟨S4224x1024, .f32⟩
  | 88 => ⟨S_, .f32⟩
  | 89 => ⟨S4224, .f32⟩
  | 90 => ⟨S4224x1, .f32⟩
  | 91 => ⟨S_, .f32⟩
  | 92 => ⟨S4224x1, .f32⟩
  | 93 => ⟨S4224x1, .f32⟩
  | 94 => ⟨S_, .f32⟩
  | 95 => ⟨S4224x1, .f32⟩
  | 96 => ⟨S4224x1, .f32⟩
  | 97 => ⟨S4224x1, .f32⟩
  | 98 => ⟨S4224x1024, .f32⟩
  | 99 => ⟨S4224x1024, .f32⟩
  | 100 => ⟨S1x1024, .f32⟩
  | 101 => ⟨S4224x1024, .f32⟩
  | 102 => ⟨S4224x1024, .f32⟩
  | 103 => ⟨S4224x2816, .f32⟩
  | 104 => ⟨S4224x2816, .f32⟩
  | 105 => ⟨S4224x2816, .f32⟩
  | 106 => ⟨S4224x2816, .f32⟩
  | 107 => ⟨S_, .f32⟩
  | 108 => ⟨S4224x2816, .f32⟩
  | 109 => ⟨S4224x2816, .f32⟩
  | 110 => ⟨S_, .f32⟩
  | 111 => ⟨S4224x2816, .f32⟩
  | 112 => ⟨S4224x2816, .f32⟩
  | 113 => ⟨S_, .f32⟩
  | 114 => ⟨S4224x2816, .f32⟩
  | 115 => ⟨S4224x2816, .f32⟩
  | 116 => ⟨S4224x2816, .f32⟩
  | 117 => ⟨S4224x2816, .f32⟩
  | 118 => ⟨S4224x2816, .f32⟩
  | 119 => ⟨S4224x1024, .f32⟩
  | 120 => ⟨S_, .f32⟩
  | 121 => ⟨S4224x1024, .f32⟩
  | 122 => ⟨S4224x1024, .f32⟩
  | 123 => ⟨S_, .f32⟩
  | 124 => ⟨S4224x1024, .f32⟩
  | 125 => ⟨S4224x1024, .f32⟩
  | 126 => ⟨S4224x2816, .f32⟩
  | 127 => ⟨S4224x2816, .f32⟩
  | _ => ⟨S4224x1024, .f32⟩

abbrev hbmTy0_1 (i : Nat) : BufTy := match i % 128 with
  | 0 => ⟨S4224x2816, .f32⟩
  | 1 => ⟨S4224x2816, .f32⟩
  | 2 => ⟨S4224x2816, .f32⟩
  | 3 => ⟨S4224x2816, .f32⟩
  | 4 => ⟨S4224x2816, .f32⟩
  | 5 => ⟨S4224x2816, .bf16⟩
  | 6 => ⟨S4224x2816, .bf16⟩
  | 7 => ⟨S1x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩

abbrev nD : Nat := 1
abbrev τ : Topo := Topo.v7x

variable {F : FTy → Type} [FloatOps F]
-- ==== Kernel8.lean ====
abbrev S4224x1024 : Shape := ⟨2, ![4224, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4224x2816 : Shape := ⟨2, ![4224, 2816]⟩
abbrev S528x1024 : Shape := ⟨2, ![528, 1024]⟩
abbrev S528x2816 : Shape := ⟨2, ![528, 2816]⟩
abbrev S528 : Shape := ⟨1, ![528]⟩
abbrev S528x1 : Shape := ⟨2, ![528, 1]⟩
abbrev S256x1024 : Shape := ⟨2, ![256, 1024]⟩
abbrev S528x256 : Shape := ⟨2, ![528, 256]⟩

abbrev nBuf : Space → Nat
  | .hbm => 13
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S4224x1024, .bf16⟩
  | .hbm, ⟨10, _⟩ => ⟨S4224x2816, .bf16⟩
  | .hbm, ⟨11, _⟩ => ⟨S4224x2816, .bf16⟩
  | .hbm, ⟨12, _⟩ => ⟨S4224x2816, .bf16⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S528x1024, .bf16⟩
  | .local _ .vmem, ⟨6, _⟩ => ⟨S528x1024, .bf16⟩
  | .local _ .vmem, ⟨7, _⟩ => ⟨S528x2816, .bf16⟩
  | .local _ .vmem, ⟨8, _⟩ => ⟨S528x2816, .bf16⟩
  | .local _ .vmem, ⟨9, _⟩ => ⟨S528x2816, .bf16⟩
  | .local _ .vmem, ⟨10, _⟩ => ⟨S528x2816, .bf16⟩
  | .local _ .vmem, ⟨11, _⟩ => ⟨S528x2816, .bf16⟩
  | .local _ .vmem, ⟨12, _⟩ => ⟨S528x2816, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S528x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4224x1024 : Shape := ⟨2, ![4224, 1024]⟩
abbrev S1024 : Shape := ⟨1, ![1024]⟩
abbrev S1024x2816 : Shape := ⟨2, ![1024, 2816]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x2816, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S_, .f32⟩
  | .hbm, ⟨25, _⟩ => ⟨S4224x2816, .f32⟩
  | .hbm, ⟨26, _⟩ => ⟨S4224x2816, .f32⟩
  | .hbm, ⟨27, _⟩ => ⟨S_, .f32⟩
  | .hbm, ⟨28, _⟩ => ⟨S4224x2816, .f32⟩
  | .hbm, ⟨29, _⟩ => ⟨S4224x2816, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x1024, .bf16⟩
  | .hbm, ⟨36, _⟩ => ⟨S4224x2816, .bf16⟩
  | .hbm, ⟨37, _⟩ => ⟨S4224x2816, .bf16⟩
  | .hbm, ⟨38, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S2x2048x1024 : Shape := ⟨3, ![2, 2048, 1024]⟩
abbrev S_ : Shape := ⟨0, ![]⟩
abbrev S2x64x1024 : Shape := ⟨3, ![2, 64, 1024]⟩
abbrev S2x2112x1024 : Shape := ⟨3, ![2, 2112, 1024]⟩
abbrev S1x1024 : Shape := ⟨2, ![1, 1024]⟩
abbrev S4224x2816 : Shape := ⟨2, ![4224, 2816]⟩
abbrev S1x128 : Shape := ⟨2, ![1, 128]⟩
abbrev S528x1024 : Shape := ⟨2, ![528, 1024]⟩
abbrev S528x2816 : Shape := ⟨2, ![528, 2816]⟩
abbrev S528 : Shape := ⟨1, ![528]⟩
abbrev S528x1 : Shape := ⟨2, ![528, 1]⟩
abbrev S256x1024 : Shape := ⟨2, ![256, 1024]⟩
abbrev S528x256 : Shape := ⟨2, ![528, 256]⟩
abbrev S1 : Shape := ⟨1, ![1]⟩
abbrev S1x1 : Shape := ⟨2, ![1, 1]⟩

abbrev nBuf : Space → Nat
  | .hbm => 24
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x64x1024, .f32⟩
  | .hbm, ⟨9, _⟩ => ⟨S2x2112x1024, .f32⟩
  | .hbm, ⟨10, _⟩ => ⟨S4224x1024, .f32⟩
  | .hbm, ⟨11, _⟩ => ⟨S1x1024, .f32⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S2816x1024, .bf16⟩
  | .hbm, ⟨17, _⟩ => ⟨S1x1024, .f32⟩
  | .hbm, ⟨18, _⟩ => ⟨S4224x1024, .f32⟩
  | .hbm, ⟨19, _⟩ => ⟨S4224x1024, .bf16⟩
  | .hbm, ⟨20, _⟩ => ⟨S4224x2816, .bf16⟩
  | .hbm, ⟨21, _⟩ => ⟨S4224x2816, .bf16⟩
  | .hbm, ⟨22, _⟩ => ⟨S1x128, .f32⟩
  | .hbm, ⟨23, _⟩ => ⟨S1x1024, .f32⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S528x1024, .f32⟩
  | .local _ .vmem, ⟨8, _⟩ => ⟨S528x1024, .f32⟩
  | .local _ .vmem, ⟨9, _⟩ => ⟨S528x1024, .f32⟩
  | .local _ .vmem, ⟨10, _⟩ => ⟨S528x1024, .f32⟩
  | .local _ .vmem, ⟨11, _⟩ => ⟨S528x1024, .bf16⟩
  | .local _ .vmem, ⟨12, _⟩ => ⟨S528x1024, .bf16⟩
  | .local _ .vmem, ⟨13, _⟩ => ⟨S528x2816, .bf16⟩
  | .local _ .vmem, ⟨14, _⟩ => ⟨S528x2816, .bf16⟩
  | .local _ .vmem, ⟨15, _⟩ => ⟨S528x2816, .bf16⟩
  | .local _ .vmem, ⟨16, _⟩ => ⟨S528x2816, .bf16⟩
  | .local _ .vmem, ⟨17, _⟩ => ⟨S1x128, .f32⟩
  | .local _ .vmem, ⟨18, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_196 : BitVec 32 := 0#32
  let v351 : BitVec 1 := Scalar.cmpi .eq arg0 c0_i32_196
  let v352 : BitVec 32 := Scalar.extui v351
  let c0_i32_197 : BitVec 32 := 0#32
  let v353 : BitVec 1 := Scalar.cmpi .ne v352 c0_i32_197
  v353

def k0_cond2 (i : grid0.Coords) : BitVec 1 :=
  let arg0 : BitVec 32 := BitVec.ofNat 32 (i 0).val
  let c0_i32_196 : BitVec 32 := 0#32
  let v351 : BitVec 1 := Scalar.cmpi .eq arg0 c0_i32_196
  let v_true : BitVec 1 := 1#1
  let v354 : BitVec 1 := Scalar.xori v351 v_true
  let v355 : BitVec 32 := Scalar.extui v354
  let c0_i32_198 : BitVec 32 := 0#32
  let v356 : BitVec 1 := Scalar.cmpi .ne v355 c0_i32_198
  v356

def k0_cond3 (i : grid0.Coords) : BitVec 1 :=
  let arg0 : BitVec 32 := BitVec.ofNat 32 (i 0).val
  let c0_i32_199 : BitVec 32 := 0#32
  let v357 : BitVec 1 := Scalar.cmpi .eq arg0 c0_i32_199
  let v358 : BitVec 32 := Scalar.extui v357
  let c0_i32_200 : BitVec 32 := 0#32
  let v359 : BitVec 1 := Scalar.cmpi .ne v358 c0_i32_200
  v359

def k0_cond4 (i : grid0.Coords) : BitVec 1 :=
  let arg0 : BitVec 32 := BitVec.ofNat 32 (i 0).val
  let c0_i32_199 : BitVec 32 := 0#32
  let v357 : BitVec 1 := Scalar.cmpi .eq arg0 c0_i32_199
  let true_201 : BitVec 1 := 1#1
  let v360 : BitVec 1 := Scalar.xori v357 true_201
  let v361 : BitVec 32 := Scalar.extui v360
  let c0_i32_202 : BitVec 32 := 0#32
  let v362 : BitVec 1 := Scalar.cmpi .ne v361 c0_i32_202
  v362

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S528x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S528x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S528x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S2x2048x1024 : Shape := ⟨3, ![2, 2048, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S2x2112x1024 : Shape := ⟨3, ![2, 2112, 1024]⟩
abbrev S2x2048 : Shape := ⟨2, ![2, 2048]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x2048x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S_, .f32⟩
  | .hbm, ⟨28, _⟩ => ⟨S4224x2816, .f32⟩
  | .hbm, ⟨29, _⟩ => ⟨S4224x2816, .f32⟩
  | .hbm, ⟨30, _⟩ => ⟨S_, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x1024, .f32⟩
  | .hbm, ⟨36, _⟩ => ⟨S_, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224, .f32⟩
  | .hbm, ⟨43, _⟩ => ⟨S4224x1, .f32⟩
  | .hbm, ⟨44, _⟩ => ⟨S_, .f32⟩
  | .hbm, ⟨45, _⟩ => ⟨S4224x1, .f32⟩
  | .hbm, ⟨46, _⟩ => ⟨S4224x1, .f32⟩
  | .hbm, ⟨47, _⟩ => ⟨S_, .f32⟩
  | .hbm, ⟨48, _⟩ => ⟨S4224x1, .f32⟩
  | .hbm, ⟨49, _⟩ => ⟨S4224x1, .f32⟩
  | .hbm, ⟨50, _⟩ => ⟨S4224x1, .f32⟩
  | .hbm, ⟨51, _⟩ => ⟨S4224x1, .f32⟩
  | .hbm, ⟨52, _⟩ => ⟨S_, .f32⟩
  | .hbm, ⟨53, _⟩ => ⟨S4224x1, .f32⟩
  | .hbm, ⟨54, _⟩ => ⟨S4224x1, .f32⟩
  | .hbm, ⟨55, _⟩ => ⟨S4224x1024, .f32⟩
  | .hbm, ⟨56, _⟩ => ⟨S4224x1024, .f32⟩
  | .hbm, ⟨57, _⟩ => ⟨S1x1024, .f32⟩
  | .hbm, ⟨58, _⟩ => ⟨S4224x1024, .f32⟩
  | .hbm, ⟨59, _⟩ => ⟨S4224x1024, .f32⟩
  | .hbm, ⟨60, _⟩ => ⟨S2x2112x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x2048x1024, .f32⟩
  | .hbm, ⟨66, _⟩ => ⟨S2x2048x1024, .f32⟩
  | .hbm, ⟨67, _⟩ => ⟨S_, .f32⟩
  | .hbm, ⟨68, _⟩ => ⟨S2x2048, .f32⟩
  | .hbm, ⟨69, _⟩ => ⟨S_, .f32⟩
  | .hbm, ⟨70, _⟩ => ⟨S2x2048, .f32⟩
  | .hbm, ⟨71, _⟩ => ⟨S2x2048, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S2x2048, .f32⟩
  | .hbm, ⟨80, _⟩ => ⟨S_, .f32⟩
  | .hbm, ⟨81, _⟩ => ⟨S2x2048, .f32⟩
  | .hbm, ⟨82, _⟩ => ⟨S2x2048, .f32⟩
  | .hbm, ⟨83, _⟩ => ⟨S2x2048x1024, .f32⟩
  | .hbm, ⟨84, _⟩ => ⟨S2x2048x1024, .f32⟩
  | .hbm, ⟨85, _⟩ => ⟨S_, .f32⟩
  | .hbm, ⟨86, _⟩ => ⟨S2x2112x1024, .f32⟩
  | .hbm, ⟨87, _⟩ => ⟨S4224x1024, .f32⟩
  | .hbm, ⟨88, _⟩ => ⟨S4224x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4224x1024, .f32⟩
  | .hbm, ⟨93, _⟩ => ⟨S4224x1024, .f32⟩
  | .hbm, ⟨94, _⟩ => ⟨S_, .f32⟩
  | .hbm, ⟨95, _⟩ => ⟨S1024, .f32⟩
  | .hbm, ⟨96, _⟩ => ⟨S4224x1024, .f32⟩
  | .hbm, ⟨97, _⟩ => ⟨S_, .f32⟩
  | .hbm, ⟨98, _⟩ => ⟨S4224, .f32⟩
  | .hbm, ⟨99, _⟩ => ⟨S4224x1, .f32⟩
  | .hbm, ⟨100, _⟩ => ⟨S4224x1024, .f32⟩
  | .hbm, ⟨101, _⟩ => ⟨S4224x1024, .f32⟩
  | .hbm, ⟨102, _⟩ => ⟨S4224x1, .f32⟩
  | .hbm, ⟨103, _⟩ => ⟨S_, .f32⟩
  | .hbm, ⟨104, _⟩ => ⟨S4224x1, .f32⟩
  | .hbm, ⟨105, _⟩ => ⟨S4224x1, .f32⟩
  | .hbm, ⟨106, _⟩ => ⟨S_, .f32⟩
  | .hbm, ⟨107, _⟩ => ⟨S4224, .f32⟩
  | .hbm, ⟨108, _⟩ => ⟨S4224x1024, .f32⟩
  | .hbm, ⟨109, _⟩ => ⟨S4224x1024, .f32⟩
  | .hbm, ⟨110, _⟩ => ⟨S4224x1024, .f32⟩
  | .hbm, ⟨111, _⟩ => ⟨S4224x1024, .f32⟩
  | .hbm, ⟨112, _⟩ => ⟨S4224x1024, .f32⟩
  | .hbm, ⟨113, _⟩ => ⟨S4224x1024, .bf16⟩
  | .hbm, ⟨114, _⟩ => ⟨S4224x2816, .bf16⟩
  | .hbm, ⟨115, _⟩ => ⟨S4224x2816, .bf16⟩
  | .hbm, ⟨116, _⟩ => ⟨S1x128, .f32⟩
  | .hbm, ⟨117, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_cst_12 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_19 : Ref sig .tc := ⟨.hbm, 103, rfl⟩
abbrev main_v68 : Ref sig .tc := ⟨.hbm, 104, rfl⟩
abbrev main_v69 : Ref sig .tc := ⟨.hbm, 105, rfl⟩
abbrev main_cst_20 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel9.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S1024x1728 : Shape := ⟨2, ![1024, 1728]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S1728x1024 : Shape := ⟨2, ![1728, 1024]⟩
abbrev S704x1024 : Shape := ⟨2, ![704, 1024]⟩
abbrev S64x1024 : Shape := ⟨2, ![64, 1024]⟩
abbrev S768x1024 : Shape := ⟨2, ![768, 1024]⟩
abbrev S1024x1024 : Shape := ⟨2, ![1024, 1024]⟩
abbrev S4224x768 : Shape := ⟨2, ![4224, 768]⟩
abbrev S528x1024 : Shape := ⟨2, ![528, 1024]⟩
abbrev S528x2816 : Shape := ⟨2, ![528, 2816]⟩
abbrev S528x768 : Shape := ⟨2, ![528, 768]⟩
abbrev S528 : Shape := ⟨1, ![528]⟩
abbrev S528x1 : Shape := ⟨2, ![528, 1]⟩

abbrev nBuf : Space → Nat
  | .hbm => 52
  | .vmem => 16
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x1728, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S_, .f32⟩
  | .hbm, ⟨36, _⟩ => ⟨S4224x2816, .f32⟩
  | .hbm, ⟨37, _⟩ => ⟨S4224x2816, .f32⟩
  | .hbm, ⟨38, _⟩ => ⟨S1728x1024, .f32⟩
  | .hbm, ⟨39, _⟩ => ⟨S1728x1024, .bf16⟩
  | .hbm, ⟨40, _⟩ => ⟨S704x1024, .bf16⟩
  | .hbm, ⟨41, _⟩ => ⟨S_, .bf16⟩
  | .hbm, ⟨42, _⟩ => ⟨S64x1024, .bf16⟩
  | .hbm, ⟨43, _⟩ => ⟨S768x1024, .bf16⟩
  | .hbm, ⟨44, _⟩ => ⟨S4224x2816, .bf16⟩
  | .hbm, ⟨45, _⟩ => ⟨S2816x1024, .bf16⟩
  | .hbm, ⟨46, _⟩ => ⟨S1x1024, .f32⟩
  | .hbm, ⟨47, _⟩ => ⟨S1024x1024, .bf16⟩
  | .hbm, ⟨48, _⟩ => ⟨S4224x1024, .f32⟩
  | .hbm, ⟨49, _⟩ => ⟨S4224x1024, .bf16⟩
  | .hbm, ⟨50, _⟩ => ⟨S4224x768, .f32⟩
  | .hbm, ⟨51, _⟩ => ⟨S4224x1024, .f32⟩
  | .local _ .vmem, ⟨0, _⟩ => ⟨S528x1024, .f32⟩
  | .local _ .vmem, ⟨1, _⟩ => ⟨S528x1024, .f32⟩
  | .local _ .vmem, ⟨2, _⟩ => ⟨S528x2816, .bf16⟩
  | .local _ .vmem, ⟨3, _⟩ => ⟨S528x2816, .bf16⟩
  | .local _ .vmem, ⟨4, _⟩ => ⟨S2816x1024, .bf16⟩
  | .local _ .vmem, ⟨5, _⟩ => ⟨S1x1024, .f32⟩
  | .local _ .vmem, ⟨6, _⟩ => ⟨S768x1024, .bf16⟩
  | .local _ .vmem, ⟨7, _⟩ => ⟨S1024x1024, .bf16⟩
  | .local _ .vmem, ⟨8, _⟩ => ⟨S528x1024, .f32⟩
  | .local _ .vmem, ⟨9, _⟩ => ⟨S528x1024, .f32⟩
  | .local _ .vmem, ⟨10, _⟩ => ⟨S528x1024, .bf16⟩
  | .local _ .vmem, ⟨11, _⟩ => ⟨S528x1024, .bf16⟩
  | .local _ .vmem, ⟨12, _⟩ => ⟨S528x768, .f32⟩
  | .local _ .vmem, ⟨13, _⟩ => ⟨S528x768, .f32⟩
  | .local _ .vmem, ⟨14, _⟩ => ⟨S528x1024, .f32⟩
  | .local _ .vmem, ⟨15, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_v28_2 : Ref sig .tc := ⟨.hbm, 50, rfl⟩
abbrev main_v28_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S528x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S528x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S528x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S1024x1728 : Shape := ⟨2, ![1024, 1728]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S4224x1728 : Shape := ⟨2, ![4224, 1728]⟩
abbrev S4224x704 : Shape := ⟨2, ![4224, 704]⟩
abbrev S4224x64 : Shape := ⟨2, ![4224, 64]⟩
abbrev S4224x768 : Shape := ⟨2, ![4224, 768]⟩

abbrev nBuf : Space → Nat
  | .hbm => 63
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x1728, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S_, .f32⟩
  | .hbm, ⟨28, _⟩ => ⟨S4224x2816, .f32⟩
  | .hbm, ⟨29, _⟩ => ⟨S4224x2816, .f32⟩
  | .hbm, ⟨30, _⟩ => ⟨S_, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x1024, .f32⟩
  | .hbm, ⟨36, _⟩ => ⟨S_, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224, .f32⟩
  | .hbm, ⟨43, _⟩ => ⟨S4224x1, .f32⟩
  | .hbm, ⟨44, _⟩ => ⟨S_, .f32⟩
  | .hbm, ⟨45, _⟩ => ⟨S4224x1, .f32⟩
  | .hbm, ⟨46, _⟩ => ⟨S4224x1, .f32⟩
  | .hbm, ⟨47, _⟩ => ⟨S_, .f32⟩
  | .hbm, ⟨48, _⟩ => ⟨S4224x1, .f32⟩
  | .hbm, ⟨49, _⟩ => ⟨S4224x1, .f32⟩
  | .hbm, ⟨50, _⟩ => ⟨S4224x1, .f32⟩
  | .hbm, ⟨51, _⟩ => ⟨S4224x1024, .f32⟩
  | .hbm, ⟨52, _⟩ => ⟨S4224x1024, .f32⟩
  | .hbm, ⟨53, _⟩ => ⟨S1x1024, .f32⟩
  | .hbm, ⟨54, _⟩ => ⟨S4224x1024, .f32⟩
  | .hbm, ⟨55, _⟩ => ⟨S4224x1024, .f32⟩
  | .hbm, ⟨56, _⟩ => ⟨S4224x1728, .f32⟩
  | .hbm, ⟨57, _⟩ => ⟨S4224x704, .f32⟩
  | .hbm, ⟨58, _⟩ => ⟨S_, .f32⟩
  | .hbm, ⟨59, _⟩ => ⟨S4224x64, .f32⟩
  | .hbm, ⟨60, _⟩ => ⟨S4224x768, .f32⟩
  | .hbm, ⟨61, _⟩ => ⟨S4224x1024, .bf16⟩
  | .hbm, ⟨62, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Kernel10.lean ====
abbrev S4224x1024 : Shape := ⟨2, ![4224, 1024]⟩
abbrev S1024 : Shape := ⟨1, ![1024]⟩
abbrev S1024x768 : Shape := ⟨2, ![1024, 768]⟩
abbrev S4224x768 : Shape := ⟨2, ![4224, 768]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S768x1024 : Shape := ⟨2, ![768, 1024]⟩
abbrev S4224x512 : Shape := ⟨2, ![4224, 512]⟩
abbrev S768x512 : Shape := ⟨2, ![768, 512]⟩

abbrev nBuf : Space → Nat
  | .hbm => 23
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x768, .f32⟩
  | .hbm, ⟨3, _⟩ => ⟨S4224x768, .f32⟩
  | .hbm, ⟨4, _⟩ => ⟨S4224x768, .bf16⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S1x1024, .f32⟩
  | .hbm, ⟨19, _⟩ => ⟨S4224x1024, .f32⟩
  | .hbm, ⟨20, _⟩ => ⟨S4224x1024, .f32⟩
  | .hbm, ⟨21, _⟩ => ⟨S4224x1024, .bf16⟩
  | .hbm, ⟨22, _⟩ => ⟨S768x1024, .bf16⟩
  | .local _ .vmem, ⟨0, _⟩ => ⟨S4224x768, .bf16⟩
  | .local _ .vmem, ⟨1, _⟩ => ⟨S4224x512, .bf16⟩
  | .local _ .vmem, ⟨2, _⟩ => ⟨S4224x512, .bf16⟩
  | .local _ .vmem, ⟨3, _⟩ => ⟨S768x512, .bf16⟩
  | .local _ .vmem, ⟨4, _⟩ => ⟨S768x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S1024 : Shape := ⟨1, ![1024]⟩
abbrev S1024x768 : Shape := ⟨2, ![1024, 768]⟩
abbrev S4224x768 : Shape := ⟨2, ![4224, 768]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S768x1024 : Shape := ⟨2, ![768, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x768, .f32⟩
  | .hbm, ⟨3, _⟩ => ⟨S4224x768, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x768, .f32⟩
  | .hbm, ⟨21, _⟩ => ⟨S768x1024, .f32⟩
  | .hbm, ⟨22, _⟩ => ⟨S1024x768, .f32⟩
  | .hbm, ⟨23, _⟩ => ⟨S768x1024, .f32⟩
  | .hbm, ⟨24, _⟩ => ⟨S768x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel11.lean ====
abbrev S4224x1024 : Shape := ⟨2, ![4224, 1024]⟩
abbrev S1024 : Shape := ⟨1, ![1024]⟩
abbrev S1024x512 : Shape := ⟨2, ![1024, 512]⟩
abbrev S4224x512 : Shape := ⟨2, ![4224, 512]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S512x1024 : Shape := ⟨2, ![512, 1024]⟩
abbrev S512x512 : Shape := ⟨2, ![512, 512]⟩

abbrev nBuf : Space → Nat
  | .hbm => 23
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x512, .f32⟩
  | .hbm, ⟨3, _⟩ => ⟨S4224x512, .f32⟩
  | .hbm, ⟨4, _⟩ => ⟨S4224x512, .bf16⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S1x1024, .f32⟩
  | .hbm, ⟨19, _⟩ => ⟨S4224x1024, .f32⟩
  | .hbm, ⟨20, _⟩ => ⟨S4224x1024, .f32⟩
  | .hbm, ⟨21, _⟩ => ⟨S4224x1024, .bf16⟩
  | .hbm, ⟨22, _⟩ => ⟨S512x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S512x512, .bf16⟩
  | .local _ .vmem, ⟨4, _⟩ => ⟨S512x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S1024 : Shape := ⟨1, ![1024]⟩
abbrev S1024x512 : Shape := ⟨2, ![1024, 512]⟩
abbrev S4224x512 : Shape := ⟨2, ![4224, 512]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x512, .f32⟩
  | .hbm, ⟨3, _⟩ => ⟨S4224x512, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x512, .f32⟩
  | .hbm, ⟨21, _⟩ => ⟨S512x1024, .f32⟩
  | .hbm, ⟨22, _⟩ => ⟨S1024x512, .f32⟩
  | .hbm, ⟨23, _⟩ => ⟨S512x1024, .f32⟩
  | .hbm, ⟨24, _⟩ => ⟨S512x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S4224x512 : Shape := ⟨2, ![4224, 512]⟩
abbrev S512 : Shape := ⟨1, ![512]⟩
abbrev S1024x1024 : Shape := ⟨2, ![1024, 1024]⟩
abbrev S4224x1024 : Shape := ⟨2, ![4224, 1024]⟩
abbrev S_ : Shape := ⟨0, ![]⟩
abbrev S4224 : Shape := ⟨1, ![4224]⟩
abbrev S4224x1 : Shape := ⟨2, ![4224, 1]⟩
abbrev S1x512 : Shape := ⟨2, ![1, 512]⟩
abbrev S1024x512 : Shape := ⟨2, ![1024, 512]⟩

abbrev nBuf : Space → Nat
  | .hbm => 41
  | .vmem => 5
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4224x1024, .f32⟩
  | .hbm, ⟨6, _⟩ => ⟨S4224x512, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x512, .f32⟩
  | .hbm, ⟨18, _⟩ => ⟨S4224x512, .f32⟩
  | .hbm, ⟨19, _⟩ => ⟨S1x512, .f32⟩
  | .hbm, ⟨20, _⟩ => ⟨S4224x512, .f32⟩
  | .hbm, ⟨21, _⟩ => ⟨S4224x512, .f32⟩
  | .hbm, ⟨22, _⟩ => ⟨S4224x512, .f32⟩
  | .hbm, ⟨23, _⟩ => ⟨S_, .f32⟩
  | .hbm, ⟨24, _⟩ => ⟨S4224, .f32⟩
  | .hbm, ⟨25, _⟩ => ⟨S4224x1, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S4224x1, .f32⟩
  | .hbm, ⟨33, _⟩ => ⟨S4224x512, .f32⟩
  | .hbm, ⟨34, _⟩ => ⟨S4224x512, .f32⟩
  | .hbm, ⟨35, _⟩ => ⟨S1x512, .f32⟩
  | .hbm, ⟨36, _⟩ => ⟨S4224x512, .f32⟩
  | .hbm, ⟨37, _⟩ => ⟨S4224x512, .f32⟩
  | .hbm, ⟨38, _⟩ => ⟨S4224x1024, .f32⟩
  | .hbm, ⟨39, _⟩ => ⟨S4224x1024, .bf16⟩
  | .hbm, ⟨40, _⟩ => ⟨S1024x1024, .bf16⟩
  | .local _ .vmem, ⟨0, _⟩ => ⟨S4224x1024, .bf16⟩
  | .local _ .vmem, ⟨1, _⟩ => ⟨S4224x512, .f32⟩
  | .local _ .vmem, ⟨2, _⟩ => ⟨S4224x512, .f32⟩
  | .local _ .vmem, ⟨3, _⟩ => ⟨S1024x512, .bf16⟩
  | .local _ .vmem, ⟨4, _⟩ => ⟨S1024x512, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x512 : Shape := ⟨2, ![4224, 512]⟩
abbrev S512 : Shape := ⟨1, ![512]⟩
abbrev S1024x1024 : Shape := ⟨2, ![1024, 1024]⟩
abbrev S4224x1024 : Shape := ⟨2, ![4224, 1024]⟩
abbrev S_ : Shape := ⟨0, ![]⟩
abbrev S4224 : Shape := ⟨1, ![4224]⟩
abbrev S4224x1 : Shape := ⟨2, ![4224, 1]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4224x1024, .f32⟩
  | .hbm, ⟨6, _⟩ => ⟨S4224x512, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x512, .f32⟩
  | .hbm, ⟨18, _⟩ => ⟨S4224x512, .f32⟩
  | .hbm, ⟨19, _⟩ => ⟨S1x512, .f32⟩
  | .hbm, ⟨20, _⟩ => ⟨S4224x512, .f32⟩
  | .hbm, ⟨21, _⟩ => ⟨S4224x512, .f32⟩
  | .hbm, ⟨22, _⟩ => ⟨S4224x512, .f32⟩
  | .hbm, ⟨23, _⟩ => ⟨S_, .f32⟩
  | .hbm, ⟨24, _⟩ => ⟨S4224, .f32⟩
  | .hbm, ⟨25, _⟩ => ⟨S4224x1, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S4224x1, .f32⟩
  | .hbm, ⟨33, _⟩ => ⟨S4224x512, .f32⟩
  | .hbm, ⟨34, _⟩ => ⟨S4224x512, .f32⟩
  | .hbm, ⟨35, _⟩ => ⟨S1x512, .f32⟩
  | .hbm, ⟨36, _⟩ => ⟨S4224x512, .f32⟩
  | .hbm, ⟨37, _⟩ => ⟨S4224x512, .f32⟩
  | .hbm, ⟨38, _⟩ => ⟨S4224x1024, .f32⟩
  | .hbm, ⟨39, _⟩ => ⟨S4224x1024, .f32⟩
  | .hbm, ⟨40, _⟩ => ⟨S1024x1024, .f32⟩
  | .hbm, ⟨41, _⟩ => ⟨S1024x1024, .f32⟩
  | .hbm, ⟨42, _⟩ => ⟨S1024x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.AttnIdeal.lean ====
/-
  The body of the attention's backward kernel, one grid point at a time: what its three loops leave in the three output
  buffers, as functions of the six input blocks, and the body's triple.
-/
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## The state the loops thread -/

/-- The six blocks a grid point reads: queries, keys, values, the forward's output, its cotangent and the
    softmax's logarithm of the sum (one column, repeated over the lanes). -/
structure Blk (F : FTy → Type) where
  q : Vec F S2112x256 .bf16
  k : Vec F S2112x256 .bf16
  v : Vec F S2112x128 .bf16
  o : Vec F S2112x128 .f32
  g : Vec F S2112x128 .f32
  l : Vec F S1x2112x128 .f32

/-- What the inner loop threads: the running query gradient of the tile and the two accumulated buffers. -/
structure In (F : FTy → Type) where
  acc : FVec F S704x256 .f32
  dk : Vec F S2112x256 .f32
  dv : Vec F S2112x128 .f32

/-- What the outer loop threads: the three output buffers. -/
structure Out (F : FTy → Type) where
  dq : Vec F S2112x256 .f32
  dk : Vec F S2112x256 .f32
  dv : Vec F S2112x128 .f32

section state

variable (x : Blk F) (k : Fin k0_t1_loop.trips)

/-- The query tile of the outer trip. -/
def qT : Vec F S704x256 .bf16 := window x.q (k0_off1 k) S704x256.size (k0_off1_inb k)
/-- The key tile on the diagonal. -/
def kT : Vec F S704x256 .bf16 := window x.k (k0_off1 k) S704x256.size (k0_off1_inb k)
/-- The value tile on the diagonal. -/
def vT : Vec F S704x128 .bf16 := window x.v (k0_off2 k) S704x128.size (k0_off2_inb k)
/-- The tile of the cotangent. -/
def gT : Vec F S704x128 .f32 := window x.g (k0_off2 k) S704x128.size (k0_off2_inb k)
/-- The tile of the forward's output. -/
def oT : Vec F S704x128 .f32 := window x.o (k0_off2 k) S704x128.size (k0_off2_inb k)
/-- The tile of the logarithms. -/
def lT : Vec F S1x704x128 .f32 := window x.l (k0_off3 k) S1x704x128.size (k0_off3_inb k)

/-- The query tile as the products take it. -/
def q9 : FVec F S704x256 .bf16 := k0_pay18 (qT x k)
/-- Each row's sum of output times cotangent. -/
def d18 : FVec F S704x1 .f32 := k0_pay20 (gT x k) (oT x k)
/-- Each row's logarithm. -/
def l23 : FVec F S704x1 .f32 := k0_pay21 (lT x k)
/-- The cotangent tile as the products take it. -/
def g24 : FVec F S704x128 .bf16 := k0_pay22 (gT x k)

/-- The key tile of an inner trip. -/
def kI (j : Fin (k0_t2_loop k).trips) : Vec F S704x256 .bf16 := window x.k (k0_off4 k j) S704x256.size (k0_off4_inb k j)
/-- The value tile of an inner trip. -/
def vI (j : Fin (k0_t2_loop k).trips) : Vec F S704x128 .bf16 := window x.v (k0_off5 k j) S704x128.size (k0_off5_inb k j)

/-- One inner trip: a key tile to the left of the diagonal. -/
def inStep (j : Fin (k0_t2_loop k).trips) (s : In F) : In F where
  acc := k0_pay24 s.acc (k0_pay8 (kI x k j)) (k0_pay10 k (q9 x k) (d18 x k) (l23 x k) (g24 x k) 0#32 1#32 j (kI x k j) (vI x k j))
  dk := put s.dk (k0_off4 k j) S704x256.size (k0_pay12 k (q9 x k) (d18 x k) (l23 x k) (g24 x k) 0#32 1#32 j (kI x k j) (vI x k j) (window s.dk (k0_off4 k j) S704x256.size (k0_off4_inb k j)))
  dv := put s.dv (k0_off5 k j) S704x128.size (k0_pay11 k (q9 x k) (l23 x k) (g24 x k) 0#32 1#32 j (kI x k j) (window s.dv (k0_off5 k j) S704x128.size (k0_off5_inb k j)))

/-- The state before inner trip `n`. -/
def inAt (s : In F) : ℕ → In F
  | 0 => s
  | n + 1 => if h : n < (k0_t2_loop k).trips then inStep x k ⟨n, h⟩ (inAt s n) else inAt s n

theorem inAt_succ (s : In F) (j : Fin (k0_t2_loop k).trips) : inAt x k s (j.val + 1) = inStep x k j (inAt x k s j.val) := by
  rw [inAt]; exact dif_pos j.isLt

/-- The diagonal's column numbers before the tile's offset is added. -/
def colI : IVec S704x704 32 := iota .tc S704x704 32 [1] iota_S704x704_d1_w32

/-- The key tile on the diagonal as the products take it. -/
def k37 : FVec F S704x256 .bf16 := k0_pay26 (kT x k)
/-- The scores on the diagonal. -/
def s38 : FVec F S704x704 .f32 := k0_pay27 (qT x k) (kT x k)

/-- The state of the inner loop at its entry in an outer trip. -/
def inInit (s : Out F) : In F := ⟨k0_pay23, s.dk, s.dv⟩
/-- The state of the inner loop at its exit. -/
def inEnd (s : Out F) : In F := inAt x k (inInit s) (k0_t2_loop k).trips

/-- One outer trip: the tiles left of the diagonal, then the tile on it. -/
def outStep (s : Out F) : Out F where
  dq := put s.dq (k0_off1 k) S704x256.size (k0_pay7 (d18 x k) (l23 x k) (g24 x k) (inEnd x k s).acc (k37 x k) (s38 x k) (k0_pay28 0#32 1#32 k) colI (k0_pay29 0#32 1#32 k) (vT x k))
  dk := put (inEnd x k s).dk (k0_off1 k) S704x256.size (k0_pay6 (q9 x k) (d18 x k) (l23 x k) (g24 x k) (s38 x k) (k0_pay28 0#32 1#32 k) colI (k0_pay29 0#32 1#32 k) (vT x k) (window (inEnd x k s).dk (k0_off1 k) S704x256.size (k0_off1_inb k)))
  dv := put (inEnd x k s).dv (k0_off2 k) S704x128.size (k0_pay5 (l23 x k) (g24 x k) (s38 x k) (k0_pay28 0#32 1#32 k) colI (k0_pay29 0#32 1#32 k) (window (inEnd x k s).dv (k0_off2 k) S704x128.size (k0_off2_inb k)))

end state

/-- The state before outer trip `n`. -/
def outAt (x : Blk F) (s : Out F) : ℕ → Out F
  | 0 => s
  | n + 1 => if h : n < k0_t1_loop.trips then outStep x ⟨n, h⟩ (outAt x s n) else outAt x s n

theorem outAt_succ (x : Blk F) (s : Out F) (k : Fin k0_t1_loop.trips) : outAt x s (k.val + 1) = outStep x k (outAt x s k.val) := by
  rw [outAt]; exact dif_pos k.isLt

/-- A window read of a buffer is the window of what the buffer reads as. -/
theorem readAt_of {s : Shape} {e : EltTy} {κ : Kind} {sp : Space} (M : Memref sig κ sp s e) (f : M.view.ty.Contents (Elt F)) (X : Vec F s e)
    (h : M.view.read (Elt F) f = X) (off size : Fin s.rank → ℕ) (inb : ∀ a, off a + size a ≤ s.size a) :
    M.view.readAt (Elt F) (Rect.unit off size inb).toLoadRect f = window X off size inb := by
  rw [← h]; exact View.readAt_unit M.view f inb rfl inb

/-- A window stored into a buffer is put over what the buffer reads as. -/
theorem write_of {s : Shape} {e : EltTy} {κ : Kind} {sp : Space} (M : Memref sig κ sp s e) (f : M.view.ty.Contents (Elt F)) (X : Vec F s e)
    (h : M.view.read (Elt F) f = X) (off size : Fin s.rank → ℕ) (inb : ∀ a, off a + size a ≤ s.size a) (w w' : (Rect.unit off size inb).shape.Idx → Elt F e) (hw : w = w') :
    M.view.read (Elt F) (M.view.writes (Elt F) f [⟨Rect.unit off size inb, w⟩]) = put X off size w' := by
  subst hw
  rw [View.read_writes_cons_put M.view f inb w [] rfl, ← h]; rfl

/-! ## The trips -/

section trips

variable (c : Dev nD) (E : Set ℕ) (i : grid0.Coords) (arg2 : Memref sig .tc .vmem S2112x256 .bf16) (harg2 : arg2.IsWhole) (arg3 : Memref sig .tc .vmem S2112x256 .bf16) (harg3 : arg3.IsWhole) (arg4 : Memref sig .tc .vmem S2112x128 .bf16) (harg4 : arg4.IsWhole) (arg5 : Memref sig .tc .vmem S2112x128 .f32) (harg5 : arg5.IsWhole) (arg6 : Memref sig .tc .vmem S2112x128 .f32) (harg6 : arg6.IsWhole) (arg7 : Memref sig .tc .vmem S1x2112x128 .f32) (harg7 : arg7.IsWhole) (arg8 : Memref sig .tc .vmem S2112x256 .f32) (harg8 : arg8.IsWhole) (arg9 : Memref sig .tc .vmem S2112x256 .f32) (harg9 : arg9.IsWhole) (arg10 : Memref sig .tc .vmem S2112x128 .f32) (harg10 : arg10.IsWhole)

/-- The inner loop's buffers: keys and values as read, the two accumulated buffers at the state. -/
def inRes (f3 : arg3.view.ty.Contents (Elt F)) (f4 : arg4.view.ty.Contents (Elt F)) (dk : Vec F S2112x256 .f32) (dv : Vec F S2112x128 .f32) : sProp 𝕄 :=
  iprop((arg3.view.loc (c : Thread nD τ) ↦[arg3.view.set]{fullShare} f3) ∗ (arg4.view.loc (c : Thread nD τ) ↦[arg4.view.set]{fullShare} f4)
    ∗ (∃ f, ⌜arg9.view.read (Elt F) f = dk⌝ ∗ (arg9.view.loc (c : Thread nD τ) ↦[arg9.view.set]{fullShare} f))
    ∗ (∃ f, ⌜arg10.view.read (Elt F) f = dv⌝ ∗ (arg10.view.loc (c : Thread nD τ) ↦[arg10.view.set]{fullShare} f)))

/-- One inner trip's triple. -/
theorem inner_trip (x : Blk F) (k : Fin k0_t1_loop.trips) (j : Fin (k0_t2_loop k).trips) (f3 : arg3.view.ty.Contents (Elt F)) (f4 : arg4.view.ty.Contents (Elt F))
    (h3 : arg3.view.read (Elt F) f3 = x.k) (h4 : arg4.view.read (Elt F) f4 = x.v) (s : In F) :
    inRes c arg3 arg4 arg9 arg10 f3 f4 s.dk s.dv
      ⊢ wp frame (wpE (defs₀ (F := F)) Variants.none (c : Thread nD τ) none) E
          (k0_t2_body (F := F) i arg2 harg2 arg3 harg3 arg4 harg4 arg5 harg5 arg6 harg6 arg7 harg7 arg8 harg8 arg9 harg9 arg10 harg10 0#32 1#32 k (qT x k) (gT x k) (oT x k) (lT x k) j s.acc)
          (fun y => iprop(⌜y = (inStep x k j s).acc⌝ ∗ inRes c arg3 arg4 arg9 arg10 f3 f4 (inStep x k j s).dk (inStep x k j s).dv)) := by
  unfold inRes k0_t2_body
  simp only [k0_part1_eq_skeleton]
  unfold k0_part1_skel
  iintro ⟨H3, H4, ⟨%f9, %h9, H9⟩, ⟨%f10, %h10, H10⟩⟩
  sl_exec
  sl_step
  have e3 := readAt_of arg3 f3 x.k h3 (k0_off4 k j) S704x256.size (k0_off4_inb k j)
  have e4 := readAt_of arg4 f4 x.v h4 (k0_off5 k j) S704x128.size (k0_off5_inb k j)
  have e9 := readAt_of arg9 f9 s.dk h9 (k0_off4 k j) S704x256.size (k0_off4_inb k j)
  have e10 := readAt_of arg10 f10 s.dv h10 (k0_off5 k j) S704x128.size (k0_off5_inb k j)
  rw [e3, e4, e9, e10]
  isplitr
  · ipureintro; rfl
  isplitl [H3]; · iexact H3
  isplitl [H4]; · iexact H4
  isplitl [H9]
  · iexists _
    isplitr [H9]
    · ipureintro
      exact write_of arg9 f9 s.dk h9 (k0_off4 k j) S704x256.size (k0_off4_inb k j) _ _ rfl
    iexact H9
  iexists _
  isplitr [H10]
  · ipureintro
    exact write_of arg10 f10 s.dv h10 (k0_off5 k j) S704x128.size (k0_off5_inb k j) _ _ rfl
  iexact H10

/-- The third loop (tiles right of the diagonal) has no trip. -/
theorem t3_trips (k : Fin k0_t1_loop.trips) : (k0_t3_loop k).trips = 0 := by revert k; decide +kernel

/-- The buffers of the outer loop: the six inputs as read, the three outputs at the state. -/
def outRes (f2 : arg2.view.ty.Contents (Elt F)) (f3 : arg3.view.ty.Contents (Elt F)) (f4 : arg4.view.ty.Contents (Elt F)) (f5 : arg5.view.ty.Contents (Elt F))
    (f6 : arg6.view.ty.Contents (Elt F)) (f7 : arg7.view.ty.Contents (Elt F)) (s : Out F) : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (∃ f, ⌜arg8.view.read (Elt F) f = s.dq⌝ ∗ (arg8.view.loc (c : Thread nD τ) ↦[arg8.view.set]{fullShare} f))
    ∗ (∃ f, ⌜arg9.view.read (Elt F) f = s.dk⌝ ∗ (arg9.view.loc (c : Thread nD τ) ↦[arg9.view.set]{fullShare} f))
    ∗ (∃ f, ⌜arg10.view.read (Elt F) f = s.dv⌝ ∗ (arg10.view.loc (c : Thread nD τ) ↦[arg10.view.set]{fullShare} f)))

/-- One outer trip's triple. -/
theorem outer_trip (x : Blk F) (k : Fin k0_t1_loop.trips) (f2 : arg2.view.ty.Contents (Elt F)) (f3 : arg3.view.ty.Contents (Elt F)) (f4 : arg4.view.ty.Contents (Elt F))
    (f5 : arg5.view.ty.Contents (Elt F)) (f6 : arg6.view.ty.Contents (Elt F)) (f7 : arg7.view.ty.Contents (Elt F))
    (h2 : arg2.view.read (Elt F) f2 = x.q) (h3 : arg3.view.read (Elt F) f3 = x.k) (h4 : arg4.view.read (Elt F) f4 = x.v) (h5 : arg5.view.read (Elt F) f5 = x.o)
    (h6 : arg6.view.read (Elt F) f6 = x.g) (h7 : arg7.view.read (Elt F) f7 = x.l) (s : Out F) (u : Unit) :
    outRes c arg2 arg3 arg4 arg5 arg6 arg7 arg8 arg9 arg10 f2 f3 f4 f5 f6 f7 s
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 k u)
          (fun _ => outRes c arg2 arg3 arg4 arg5 arg6 arg7 arg8 arg9 arg10 f2 f3 f4 f5 f6 f7 (outStep x k s)) := by
  unfold outRes k0_t1_body
  simp only [k0_part3_eq_skeleton]
  unfold k0_part3_skel
  have e2 := readAt_of arg2 f2 x.q h2 (k0_off1 k) S704x256.size (k0_off1_inb k)
  have e6 := readAt_of arg6 f6 x.g h6 (k0_off2 k) S704x128.size (k0_off2_inb k)
  have e5 := readAt_of arg5 f5 x.o h5 (k0_off2 k) S704x128.size (k0_off2_inb k)
  have e7 := readAt_of arg7 f7 x.l h7 (k0_off3 k) S1x704x128.size (k0_off3_inb k)
  have e3 := readAt_of arg3 f3 x.k h3 (k0_off1 k) S704x256.size (k0_off1_inb k)
  have e4 := readAt_of arg4 f4 x.v h4 (k0_off2 k) S704x128.size (k0_off2_inb k)
  iintro ⟨H2, H3, H4, H5, H6, H7, ⟨%f8, %h8, H8⟩, ⟨%f9, %h9, H9⟩, ⟨%f10, %h10, H10⟩⟩
  sl_exec
  rw [wp_bind]
  sl_for (fun n (a : FVec F S704x256 .f32) => iprop(⌜a = (inAt x k (inInit s) n).acc⌝ ∗ inRes c arg3 arg4 arg9 arg10 f3 f4 (inAt x k (inInit s) n).dk (inAt x k (inInit s) n).dv)) $$ [H3 H4 H9 H10]
  · intro j a
    iintro ⟨%ha, H⟩
    subst ha
    rw [inAt_succ]
    iapply (inner_trip c E i arg2 harg2 arg3 harg3 arg4 harg4 arg5 harg5 arg6 harg6 arg7 harg7 arg8 harg8 arg9 harg9 arg10 harg10 x k j f3 f4 h3 h4 (inAt x k (inInit s) j.val)) $$ H
  · unfold inRes
    isplitr
    · ipureintro; rfl
    isplitl [H3]; · iexact H3
    isplitl [H4]; · iexact H4
    isplitl [H9]
    · iexists f9
      isplitr
      · ipureintro; exact h9
      iexact H9
    iexists f10
    isplitr
    · ipureintro; exact h10
    iexact H10
  · unfold inRes
    iintro %acc ⟨%hacc, H3, H4, ⟨%g9, %hg9, H9⟩, ⟨%g10, %hg10, H10⟩⟩
    have ht := t3_trips k
    sl_exec
    sl_step
    have r9 := readAt_of arg9 g9 _ hg9 (k0_off1 k) S704x256.size (k0_off1_inb k)
    have r10 := readAt_of arg10 g10 _ hg10 (k0_off2 k) S704x128.size (k0_off2_inb k)
    isplitl [H2]; · iexact H2
    isplitl [H3]; · iexact H3
    isplitl [H4]; · iexact H4
    isplitl [H5]; · iexact H5
    isplitl [H6]; · iexact H6
    isplitl [H7]; · iexact H7
    isplitl [H8]
    · iexists _
      isplitr [H8]
      swap; · iexact H8
      · ipureintro
        refine write_of arg8 f8 s.dq h8 (k0_off1 k) S704x256.size (k0_off1_inb k) _ _ ?_
        rw [hacc]; rfl
    isplitl [H9]
    · iexists _
      isplitr [H9]
      swap; · iexact H9
      · ipureintro
        exact write_of arg9 g9 _ hg9 (k0_off1 k) S704x256.size (k0_off1_inb k) _ _
          (congrArg (fun w => k0_pay6 (q9 x k) (d18 x k) (l23 x k) (g24 x k) (s38 x k) (k0_pay28 0#32 1#32 k) colI (k0_pay29 0#32 1#32 k) (vT x k) w) r9)
    iexists _
    isplitr [H10]
    swap; · iexact H10
    · ipureintro
      exact write_of arg10 g10 _ hg10 (k0_off2 k) S704x128.size (k0_off2_inb k) _ _
        (congrArg (fun w => k0_pay5 (l23 x k) (g24 x k) (s38 x k) (k0_pay28 0#32 1#32 k) colI (k0_pay29 0#32 1#32 k) w) r10)

end trips

/-! ## What the body leaves -/

/-- The outer loop's state at entry, over whatever the query gradient's buffer held. -/
def start (d : Vec F S2112x256 .f32) : Out F := ⟨d, k0_pay1, k0_pay2⟩

/-- The three buffers after the body. -/
def fin (x : Blk F) : Out F := outAt x (start k0_pay1) k0_t1_loop.trips

theorem off1_val (k : Fin k0_t1_loop.trips) : k0_off1 k = ![704 * k.val, 0] := by revert k; decide +kernel

/-- The accumulated buffers do not depend on what the query gradient's buffer held, nor do its rows already written. -/
theorem outAt_start (x : Blk F) (d d' : Vec F S2112x256 .f32) (n : ℕ) :
    (outAt x (start d) n).dk = (outAt x (start d') n).dk ∧ (outAt x (start d) n).dv = (outAt x (start d') n).dv
      ∧ (n ≤ k0_t1_loop.trips → ∀ y : S2112x256.Idx, (y 0).val < 704 * n → (outAt x (start d) n).dq y = (outAt x (start d') n).dq y) := by
  induction n with
  | zero => exact ⟨rfl, rfl, fun _ y hy => absurd hy (by omega)⟩
  | succ n ih =>
    obtain ⟨ihk, ihv, ihq⟩ := ih
    by_cases h : n < k0_t1_loop.trips
    · have e := outAt_succ x (start d) ⟨n, h⟩
      have e' := outAt_succ x (start d') ⟨n, h⟩
      have hi : inInit (outAt x (start d) n) = inInit (outAt x (start d') n) := by unfold inInit; rw [ihk, ihv]
      have hi' : inEnd x ⟨n, h⟩ (outAt x (start d) n) = inEnd x ⟨n, h⟩ (outAt x (start d') n) := by unfold inEnd; rw [hi]
      simp only at e e'
      rw [e, e']
      unfold outStep
      rw [hi']
      refine ⟨rfl, rfl, fun _ y hy => ?_⟩
      show put _ _ _ _ y = put _ _ _ _ y
      unfold VecWindow.put
      split
      · rfl
      · rename_i hn
        refine ihq (by omega) y ?_
        by_contra hge
        refine hn fun a => ?_
        have ha := (y a).isLt
        rw [off1_val]
        fin_cases a
        · show 704 * n ≤ (y 0).val ∧ (y 0).val < 704 * n + 704
          omega
        · show 0 ≤ (y 1).val ∧ (y 1).val < 0 + 256
          exact ⟨Nat.zero_le _, by simpa using ha⟩
    · have e : outAt x (start d) (n + 1) = outAt x (start d) n := by rw [outAt]; exact dif_neg h
      have e' : outAt x (start d') (n + 1) = outAt x (start d') n := by rw [outAt]; exact dif_neg h
      rw [e, e']
      exact ⟨ihk, ihv, fun hle => absurd hle (by omega)⟩

/-- The body leaves the same in the three buffers whatever the query gradient's held. -/
theorem outAt_fin (x : Blk F) (d : Vec F S2112x256 .f32) : outAt x (start d) k0_t1_loop.trips = fin x := by
  obtain ⟨hk, hv, hq⟩ := outAt_start x d k0_pay1 k0_t1_loop.trips
  have hq' : (outAt x (start d) k0_t1_loop.trips).dq = (fin x).dq := funext fun y => hq le_rfl y (by
    have h := (y 0).isLt
    have e : k0_t1_loop.trips = 3 := by decide +kernel
    rw [e]; simpa using h)
  unfold fin at hq' ⊢
  revert hk hv hq'
  generalize outAt x (start d) k0_t1_loop.trips = u
  generalize outAt x (start k0_pay1) k0_t1_loop.trips = w
  intro hk hv hq'
  cases u; cases w
  simp only at hk hv hq'
  rw [hk, hv, hq']

/-! ## The body's triple -/

/-- The body's triple: from the six blocks and three buffers, the buffers end at `fin`. -/
theorem sound_kernel (c : Dev nD) (E : Set ℕ) (i : grid0.Coords) (arg2 : Memref sig .tc .vmem S2112x256 .bf16) (harg2 : arg2.IsWhole) (arg3 : Memref sig .tc .vmem S2112x256 .bf16) (harg3 : arg3.IsWhole) (arg4 : Memref sig .tc .vmem S2112x128 .bf16) (harg4 : arg4.IsWhole) (arg5 : Memref sig .tc .vmem S2112x128 .f32) (harg5 : arg5.IsWhole) (arg6 : Memref sig .tc .vmem S2112x128 .f32) (harg6 : arg6.IsWhole) (arg7 : Memref sig .tc .vmem S1x2112x128 .f32) (harg7 : arg7.IsWhole) (arg8 : Memref sig .tc .vmem S2112x256 .f32) (harg8 : arg8.IsWhole) (arg9 : Memref sig .tc .vmem S2112x256 .f32) (harg9 : arg9.IsWhole) (arg10 : Memref sig .tc .vmem S2112x128 .f32) (harg10 : arg10.IsWhole) (x : Blk F) (K : PUnit → sProp 𝕄) :
    iprop(owns (c : Thread nD τ) arg2 fullShare x.q ∗ owns (c : Thread nD τ) arg3 fullShare x.k ∗ owns (c : Thread nD τ) arg4 fullShare x.v
        ∗ owns (c : Thread nD τ) arg5 fullShare x.o ∗ owns (c : Thread nD τ) arg6 fullShare x.g ∗ owns (c : Thread nD τ) arg7 fullShare x.l
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x.q ∗ owns (c : Thread nD τ) arg3 fullShare x.k ∗ owns (c : Thread nD τ) arg4 fullShare x.v
            ∗ owns (c : Thread nD τ) arg5 fullShare x.o ∗ owns (c : Thread nD τ) arg6 fullShare x.g ∗ owns (c : Thread nD τ) arg7 fullShare x.l
            ∗ owns (c : Thread nD τ) arg8 fullShare (fin x).dq ∗ owns (c : Thread nD τ) arg9 fullShare (fin x).dk
            ∗ owns (c : Thread nD τ) arg10 fullShare (fin x).dv) -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10) K := by
  simp only [cc0_attn_bwd_eq_skeleton]
  unfold cc0_attn_bwd_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, %h8, H8⟩, ⟨%d9, %f9, -, H9⟩, ⟨%d10, %f10, -, H10⟩, HK⟩
  sl_exec
  sl_for (fun n (_ : Unit) => outRes c arg2 arg3 arg4 arg5 arg6 arg7 arg8 arg9 arg10 f2 f3 f4 f5 f6 f7 (outAt x (start d8) n)) $$ [H2 H3 H4 H5 H6 H7 H8 H9 H10]
  · intro k u
    rw [outAt_succ]
    exact outer_trip c E i arg2 harg2 arg3 harg3 arg4 harg4 arg5 harg5 arg6 harg6 arg7 harg7 arg8 harg8 arg9 harg9 arg10 harg10 x k f2 f3 f4 f5 f6 f7 h2 h3 h4 h5 h6 h7 (outAt x (start d8) k.val) u
  · unfold outRes
    isplitl [H2]; · iexact H2
    isplitl [H3]; · iexact H3
    isplitl [H4]; · iexact H4
    isplitl [H5]; · iexact H5
    isplitl [H6]; · iexact H6
    isplitl [H7]; · iexact H7
    isplitl [H8]
    · iexists f8
      isplitr
      · ipureintro; exact h8
      iexact H8
    isplitl [H9]
    · iexists _
      isplitr [H9]
      swap; · iexact H9
      · ipureintro
        show _ = (k0_pay1 : Vec F S2112x256 .f32)
        unfold sound_kernel.sl.H9_1
        rw [View.read_writes_full]
    iexists _
    isplitr [H10]
    swap; · iexact H10
    · ipureintro
      show _ = (k0_pay2 : Vec F S2112x128 .f32)
      unfold sound_kernel.sl.H10_1
      rw [View.read_writes_full]
  · unfold outRes
    iintro %acc ⟨H2, H3, H4, H5, H6, H7, ⟨%g8, %hg8, H8⟩, ⟨%g9, %hg9, H9⟩, ⟨%g10, %hg10, H10⟩⟩
    have hfin : outAt x (start d8) (Scf.trips k0_t1_loop.lb k0_t1_loop.ub k0_t1_loop.st) = fin x := outAt_fin x d8
    rw [hfin] at hg8 hg9 hg10
    sl_exec
    sl_step
    iapply HK
    isplitl [H2]
    · iexists f2
      isplitr [H2]
      · ipureintro; exact h2
      iexact H2
    isplitl [H3]
    · iexists f3
      isplitr [H3]
      · ipureintro; exact h3
      iexact H3
    isplitl [H4]
    · iexists f4
      isplitr [H4]
      · ipureintro; exact h4
      iexact H4
    isplitl [H5]
    · iexists f5
      isplitr [H5]
      · ipureintro; exact h5
      iexact H5
    isplitl [H6]
    · iexists f6
      isplitr [H6]
      · ipureintro; exact h6
      iexact H6
    isplitl [H7]
    · iexists f7
      isplitr [H7]
      · ipureintro; exact h7
      iexact H7
    isplitl [H8]
    · iexists g8
      isplitr [H8]
      · ipureintro; exact hg8
      iexact H8
    isplitl [H9]
    · iexists g9
      isplitr [H9]
      · ipureintro; exact hg9
      iexact H9
    iexists g10
    isplitr [H10]
    · ipureintro; exact hg10
    iexact H10

end Cert.Proof.KernelIdeal
-- ==== Proof.AttnIdealRun.lean ====
/-
  The launch of the attention's backward kernel: the proof data over the body's triple (`AttnIdeal`), the run and the frame.
-/
module

public import proofs.«01_k».proof.Proof.AttnIdeal
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The six blocks of a grid point. -/
def blk (c : Dev nD) (t : Fin cfg0.N) : Blk F :=
  ⟨iblk m c 0 t, iblk m c 1 t, iblk m c 2 t, iblk m c 3 t, iblk m c 4 t, iblk m c 5 t⟩

/-- The proof data of the region: the inputs stay, the outputs end at `fin` of the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (fin (blk m c t)).dq
    | ⟨7, _⟩ => (fin (blk m c t)).dk
    | ⟨8, _⟩ => (fin (blk m c t)).dv
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (fin (blk m c t)).dq := by dsimp only [dats]
theorem after0_7 (c : Dev nD) (t : Fin cfg0.N) : (dats m 0 c).after 7 t = (fin (blk m c t)).dk := by dsimp only [dats]
theorem after0_8 (c : Dev nD) (t : Fin cfg0.N) : (dats m 0 c).after 8 t = (fin (blk m c t)).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem kept0_0 (c : Dev nD) (t : Fin cfg0.N) : (dats m 0 c).after 0 t = (blk m c t).q := by dsimp only [dats, blk]
theorem found0_0 (c : Dev nD) (t : Fin cfg0.N) (d) : (dats m 0 c).before 0 t d = (blk m c t).q :=
  (before0_0 m c t d).trans ((after0_0 m c t).symm.trans (kept0_0 m c t))
theorem kept0_1 (c : Dev nD) (t : Fin cfg0.N) : (dats m 0 c).after 1 t = (blk m c t).k := by dsimp only [dats, blk]
theorem found0_1 (c : Dev nD) (t : Fin cfg0.N) (d) : (dats m 0 c).before 1 t d = (blk m c t).k :=
  (before0_1 m c t d).trans ((after0_1 m c t).symm.trans (kept0_1 m c t))
theorem kept0_2 (c : Dev nD) (t : Fin cfg0.N) : (dats m 0 c).after 2 t = (blk m c t).v := by dsimp only [dats, blk]
theorem found0_2 (c : Dev nD) (t : Fin cfg0.N) (d) : (dats m 0 c).before 2 t d = (blk m c t).v :=
  (before0_2 m c t d).trans ((after0_2 m c t).symm.trans (kept0_2 m c t))
theorem kept0_3 (c : Dev nD) (t : Fin cfg0.N) : (dats m 0 c).after 3 t = (blk m c t).o := by dsimp only [dats, blk]
theorem found0_3 (c : Dev nD) (t : Fin cfg0.N) (d) : (dats m 0 c).before 3 t d = (blk m c t).o :=
  (before0_3 m c t d).trans ((after0_3 m c t).symm.trans (kept0_3 m c t))
theorem kept0_4 (c : Dev nD) (t : Fin cfg0.N) : (dats m 0 c).after 4 t = (blk m c t).g := by dsimp only [dats, blk]
theorem found0_4 (c : Dev nD) (t : Fin cfg0.N) (d) : (dats m 0 c).before 4 t d = (blk m c t).g :=
  (before0_4 m c t d).trans ((after0_4 m c t).symm.trans (kept0_4 m c t))
theorem kept0_5 (c : Dev nD) (t : Fin cfg0.N) : (dats m 0 c).after 5 t = (blk m c t).l := by dsimp only [dats, blk]
theorem found0_5 (c : Dev nD) (t : Fin cfg0.N) (d) : (dats m 0 c).before 5 t d = (blk m c t).l :=
  (before0_5 m c t d).trans ((after0_5 m c t).symm.trans (kept0_5 m c t))

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0_0, found0_1, found0_2, found0_3, found0_4, found0_5]
  rw [show (dats m 0 c).Φ t.succ = (dats m 0 c).Φ t.castSucc from rfl,
    show (dats m 0 c).owesAt () t.succ = (dats m 0 c).owesAt () t.castSucc from rfl,
    kept0_0, kept0_1, kept0_2, kept0_3, kept0_4, kept0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (blk m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends with every array of the region as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KernelIdeal
-- ==== Proof.AttnSum.lean ====
/-
  What the body leaves in its three buffers, as sums over a sequence's rows: at the reals with infinities the tiles'
  sums join into whole ones, since every weight the mask hides is zero.
-/
module

public import proofs.«01_k».proof.Proof.AttnIdeal
public import Idealize.ShloMosaic.Lib.Pointwise
public import Idealize.ShloMosaic.Lib.WordCmp
public import Idealize.ShloMosaic.Lib.LayoutAt

@[expose] public section

set_option maxRecDepth 16384

noncomputable section

namespace Cert.Proof.KernelIdeal

open Cert.KernelIdeal Cert.KernelIdeal.Gen
open Idealize.ShloMosaic Idealize.ShloMosaic.TcCoe
open VecWindow (window put)

/-! ## Windows of rows -/

section rows
variable {α : Type} {n m t : ℕ}

theorem window_rows (A : (⟨2, ![n, m]⟩ : Shape).Idx → α) (off : Fin 2 → ℕ) (inb : ∀ a, off a + (![t, m] : Fin 2 → ℕ) a ≤ (⟨2, ![n, m]⟩ : Shape).size a) (o : ℕ) (ho : off = ![o, 0])
    (r : Fin t) (d : Fin m) (h : o + r.val < n) :
    window (s := ⟨2, ![n, m]⟩) A off ![t, m] inb (ix2 r d) = A (ix2 ⟨o + r.val, h⟩ d) := by
  subst ho
  refine congrArg A (Layout.idx_ext fun a => ?_)
  fin_cases a
  · show o + 1 * r.val = o + r.val; omega
  · show 0 + 1 * d.val = d.val; omega

theorem put_rows (A : (⟨2, ![n, m]⟩ : Shape).Idx → α) (off : Fin 2 → ℕ) (w : ((a : Fin 2) → Fin ((![t, m] : Fin 2 → ℕ) a)) → α) (o : ℕ) (ho : off = ![o, 0]) (I : Fin n) (d : Fin m) :
    put (s := ⟨2, ![n, m]⟩) A off ![t, m] w (ix2 I d) = if h : o ≤ I.val ∧ I.val < o + t then w (ix2 ⟨I.val - o, by omega⟩ d) else A (ix2 I d) := by
  subst ho
  unfold VecWindow.put
  by_cases h : o ≤ I.val ∧ I.val < o + t
  · rw [dif_pos h, dif_pos (fun a => by
      fin_cases a
      · exact h
      · exact ⟨Nat.zero_le _, by show d.val < 0 + m; have := d.isLt; omega⟩)]
    refine congrArg w (Layout.idx_ext fun a => ?_)
    fin_cases a
    · rfl
    · rfl
  · rw [dif_neg h, dif_neg (fun hc => h (hc 0))]

end rows

/-! ## Trip counts and offsets -/

theorem trips1 : k0_t1_loop.trips = 3 := by decide +kernel
theorem trips2 (k : Fin k0_t1_loop.trips) : (k0_t2_loop k).trips = k.val := by revert k; decide +kernel
theorem off2_val (k : Fin k0_t1_loop.trips) : k0_off2 k = ![704 * k.val, 0] := by revert k; decide +kernel
theorem off3_val (k : Fin k0_t1_loop.trips) : k0_off3 k = ![0, 704 * k.val, 0] := by revert k; decide +kernel
theorem off4_val (k : Fin k0_t1_loop.trips) (j : Fin (k0_t2_loop k).trips) : k0_off4 k j = ![704 * j.val, 0] := by revert j; revert k; decide +kernel
theorem off5_val (k : Fin k0_t1_loop.trips) (j : Fin (k0_t2_loop k).trips) : k0_off5 k j = ![704 * j.val, 0] := by revert j; revert k; decide +kernel

theorem k_lt (k : Fin k0_t1_loop.trips) : k.val < 3 := trips1 ▸ k.isLt
theorem j_lt (k : Fin k0_t1_loop.trips) (j : Fin (k0_t2_loop k).trips) : j.val < k.val := trips2 k ▸ j.isLt

theorem row_lt {k : ℕ} (hk : k < 3) (r : Fin 704) : 704 * k + r.val < 2112 := by
  have := r.isLt; omega

/-! ## The block's entries by row number -/

section entries
variable (x : Blk Ideal)

/-- A query's entry. -/
def rq (I : ℕ) (d : Fin 256) : EReal := if h : I < 2112 then x.q (ix2 ⟨I, h⟩ d) else 0
/-- A key's entry. -/
def rk (I : ℕ) (d : Fin 256) : EReal := if h : I < 2112 then x.k (ix2 ⟨I, h⟩ d) else 0
/-- A value's entry. -/
def rv (I : ℕ) (d : Fin 128) : EReal := if h : I < 2112 then x.v (ix2 ⟨I, h⟩ d) else 0
/-- An output's entry. -/
def ro (I : ℕ) (d : Fin 128) : EReal := if h : I < 2112 then x.o (ix2 ⟨I, h⟩ d) else 0
/-- A cotangent's entry. -/
def rg (I : ℕ) (d : Fin 128) : EReal := if h : I < 2112 then x.g (ix2 ⟨I, h⟩ d) else 0
/-- A row's logarithm: the largest of its lanes. -/
def rl (I : ℕ) : EReal := if h : I < 2112 then Finset.fold max (Ideal.ofBits FTy.f32 4286578688#32) (fun d : Fin 128 => x.l (ix3 0 ⟨I, h⟩ d)) Finset.univ else 0

/-- A score. -/
def sc (I K : ℕ) : EReal := ∑ d : Fin 256, rq x I d * rk x K d
/-- A weight: zero where the mask hides the key. -/
def pr (I K : ℕ) : EReal := if K / 64 ≤ I / 64 ∧ 48 ≤ K then Ideal.exp (sc x I K - rl x I) else 0
/-- A row's sum of output times cotangent. -/
def del (I : ℕ) : EReal := ∑ d : Fin 128, ro x I d * rg x I d
/-- A score's gradient. -/
def dsc (I K : ℕ) : EReal := pr x I K * (∑ d : Fin 128, rg x I d * rv x K d - del x I)

theorem pr_zero {I K : ℕ} (h : ¬(K / 64 ≤ I / 64 ∧ 48 ≤ K)) : pr x I K = 0 := if_neg h
theorem dsc_zero {I K : ℕ} (h : ¬(K / 64 ≤ I / 64 ∧ 48 ≤ K)) : dsc x I K = 0 := by rw [dsc, pr_zero x h, zero_mul]

variable (k : Fin k0_t1_loop.trips)

theorem qT_at (r : Fin 704) (d : Fin 256) : qT x k (ix2 r d) = rq x (704 * k.val + r.val) d := by
  rw [rq, dif_pos (row_lt (k_lt k) r)]
  exact window_rows (n := 2112) (m := 256) (t := 704) x.q _ _ _ (off1_val k) r d _
theorem kT_at (r : Fin 704) (d : Fin 256) : kT x k (ix2 r d) = rk x (704 * k.val + r.val) d := by
  rw [rk, dif_pos (row_lt (k_lt k) r)]
  exact window_rows (n := 2112) (m := 256) (t := 704) x.k _ _ _ (off1_val k) r d _
theorem vT_at (r : Fin 704) (d : Fin 128) : vT x k (ix2 r d) = rv x (704 * k.val + r.val) d := by
  rw [rv, dif_pos (row_lt (k_lt k) r)]
  exact window_rows (n := 2112) (m := 128) (t := 704) x.v _ _ _ (off2_val k) r d _
theorem gT_at (r : Fin 704) (d : Fin 128) : gT x k (ix2 r d) = rg x (704 * k.val + r.val) d := by
  rw [rg, dif_pos (row_lt (k_lt k) r)]
  exact window_rows (n := 2112) (m := 128) (t := 704) x.g _ _ _ (off2_val k) r d _
theorem oT_at (r : Fin 704) (d : Fin 128) : oT x k (ix2 r d) = ro x (704 * k.val + r.val) d := by
  rw [ro, dif_pos (row_lt (k_lt k) r)]
  exact window_rows (n := 2112) (m := 128) (t := 704) x.o _ _ _ (off2_val k) r d _
theorem kI_at (j : Fin (k0_t2_loop k).trips) (r : Fin 704) (d : Fin 256) : kI x k j (ix2 r d) = rk x (704 * j.val + r.val) d := by
  rw [rk, dif_pos (row_lt ((j_lt k j).trans (k_lt k)) r)]
  exact window_rows (n := 2112) (m := 256) (t := 704) x.k _ _ _ (off4_val k j) r d _
theorem vI_at (j : Fin (k0_t2_loop k).trips) (r : Fin 704) (d : Fin 128) : vI x k j (ix2 r d) = rv x (704 * j.val + r.val) d := by
  rw [rv, dif_pos (row_lt ((j_lt k j).trans (k_lt k)) r)]
  exact window_rows (n := 2112) (m := 128) (t := 704) x.v _ _ _ (off5_val k j) r d _
theorem lT_at (r : Fin 704) (d : Fin 128) : lT x k (ix3 0 r d) = x.l (ix3 0 ⟨704 * k.val + r.val, row_lt (k_lt k) r⟩ d) := by
  refine congrArg x.l (Layout.idx_ext fun a => ?_)
  have e := off3_val k
  fin_cases a
  · show k0_off3 k 0 + 1 * 0 = 0; rw [e]; rfl
  · show k0_off3 k 1 + 1 * r.val = 704 * k.val + r.val
    rw [e]; show 704 * k.val + 1 * r.val = _; omega
  · show k0_off3 k 2 + 1 * d.val = d.val
    rw [e]; show 0 + 1 * d.val = _; omega

theorem q9_at (r : Fin 704) (d : Fin 256) : q9 x k (ix2 r d) = rq x (704 * k.val + r.val) d := by
  rw [← qT_at]; unfold q9; pointwise [k0_pay18]
theorem k37_at (r : Fin 704) (d : Fin 256) : k37 x k (ix2 r d) = rk x (704 * k.val + r.val) d := by
  rw [← kT_at]; unfold k37; pointwise [k0_pay26]
theorem g24_at (r : Fin 704) (d : Fin 128) : g24 x k (ix2 r d) = rg x (704 * k.val + r.val) d := by
  rw [← gT_at]; unfold g24; pointwise [k0_pay22, k0_pay19]
theorem d18_at (r : Fin 704) : d18 x k (ix2 r 0) = del x (704 * k.val + r.val) := by
  unfold d18 del
  simp only [← gT_at, ← oT_at]
  pointwise [k0_pay20, k0_pay19]
theorem l23_at (r : Fin 704) : l23 x k (ix2 r 0) = rl x (704 * k.val + r.val) := by
  unfold l23
  rw [rl, dif_pos (row_lt (k_lt k) r)]
  simp only [← lT_at]
  pointwise [k0_pay21]
theorem s38_at (r c : Fin 704) : s38 x k (ix2 r c) = sc x (704 * k.val + r.val) (704 * k.val + c.val) := by
  unfold s38 sc
  simp only [← qT_at, ← kT_at]
  pointwise [k0_pay27, k0_pay18, k0_pay26]

end entries

/-! ## The weights of a tile -/

/-- The mask's constant. -/
theorem mask_eq : (Named.named κ "mask" 4048155338#32 : Ideal .f32) = (⊥ : EReal) := rfl

theorem exp_mask (l : EReal) : Ideal.exp ((⊥ : EReal) - l) = 0 := by
  rw [sub_eq_add_neg, EReal.bot_add]; rfl

theorem shr6 {a : ℕ} (h : a < 2 ^ 31) : IntOp.shrsi ArithUnit.vector (BitVec.ofNat 32 a) 6#32 = BitVec.ofNat 32 (a / 64) := by
  have e : IntOp.shrsi ArithUnit.vector (BitVec.ofNat 32 a) 6#32 = (BitVec.ofNat 32 a).sshiftRight' 6#32 := if_pos (by decide)
  rw [e]
  refine BitVec.eq_of_toInt_eq ?_
  rw [BitVec.toInt_sshiftRight', WordCmp.toInt_ofNat_of_lt (by simpa using h), WordCmp.toInt_ofNat_of_lt (by norm_num; omega)]
  show ((a : ℤ) >>> 6) = _
  rw [Int.shiftRight_eq_div_pow]
  push_cast
  rfl

theorem iv_eq {k : ℕ} (hk : k < 3) (c : Fin 704) :
    IntOp.addi (Scalar.muli (Scf.iv 0#32 1#32 k) 704#32) (BitVec.ofNat 32 c.val) = BitVec.ofNat 32 (704 * k + c.val) := by
  refine BitVec.eq_of_toNat_eq ?_
  have := c.isLt
  show ((0#32 + BitVec.ofNat 32 k * 1#32) * 704#32 + BitVec.ofNat 32 c.val).toNat = _
  simp only [BitVec.toNat_add, BitVec.toNat_mul, BitVec.toNat_ofNat]
  omega

theorem mask_word {I K : ℕ} (hI : I < 2112) (hK : K < 2112) {α : Type} (a b : α) :
    Scalar.select (IntOp.andi (IntOp.cmpi .sle (IntOp.shrsi .vector (BitVec.ofNat 32 K) 6#32) (IntOp.shrsi .vector (BitVec.ofNat 32 I) 6#32)) (IntOp.cmpi .sge (BitVec.ofNat 32 K) 48#32)) a b
      = if K / 64 ≤ I / 64 ∧ 48 ≤ K then a else b := by
  rw [shr6 (by omega), shr6 (by omega), WordCmp.cmpi_sle_ofNat (by norm_num; omega) (by norm_num; omega), WordCmp.cmpi_sge_ofNat (by norm_num; omega) (by norm_num)]
  by_cases h1 : K / 64 ≤ I / 64 <;> by_cases h2 : 48 ≤ K <;> simp [h1, h2, IntOp.andi, Scalar.select]

section tile
variable (x : Blk Ideal) (k : Fin k0_t1_loop.trips)

/-- The weights on the diagonal. -/
def pD : FVec Ideal S704x704 .f32 := k0_pay3 (l23 x k) (s38 x k) (k0_pay28 0#32 1#32 k) colI (k0_pay29 0#32 1#32 k)

theorem pD_at (r c : Fin 704) : pD x k (ix2 r c) = pr x (704 * k.val + r.val) (704 * k.val + c.val) := by
  have e : pD x k (ix2 r c) = Ideal.exp (Scalar.select
          (IntOp.andi
            (IntOp.cmpi CmpIPredicate.sle
              (IntOp.shrsi ArithUnit.vector (IntOp.addi (Scalar.muli (Scf.iv 0#32 1#32 k.val) 704#32) (BitVec.ofNat 32 c.val)) 6#32)
              (IntOp.shrsi ArithUnit.vector (IntOp.addi (Scalar.muli (Scf.iv 0#32 1#32 k.val) 704#32) (BitVec.ofNat 32 r.val)) 6#32))
            (IntOp.cmpi CmpIPredicate.sge (IntOp.addi (Scalar.muli (Scf.iv 0#32 1#32 k.val) 704#32) (BitVec.ofNat 32 c.val)) 48#32))
          (s38 x k (ix2 r c)) (Named.named κ "mask" 4048155338#32) - l23 x k (ix2 r 0)) := by
    unfold pD
    pointwise [k0_pay3, k0_pay28, k0_pay29, colI]
  rw [e, iv_eq (k_lt k), iv_eq (k_lt k), mask_word (row_lt (k_lt k) r) (row_lt (k_lt k) c), mask_eq, pr, s38_at, l23_at]
  split
  · rfl
  · exact exp_mask _

/-- The weights left of the diagonal. -/
def pL (j : Fin (k0_t2_loop k).trips) : FVec Ideal S704x704 .f32 := k0_pay9 k (q9 x k) (l23 x k) 0#32 1#32 j (kI x k j)

theorem pL_at (j : Fin (k0_t2_loop k).trips) (r c : Fin 704) : pL x k j (ix2 r c) = pr x (704 * k.val + r.val) (704 * j.val + c.val) := by
  have e : pL x k j (ix2 r c) = Ideal.exp (∑ d, q9 x k (ix2 r d) * kI x k j (ix2 c d) +
          (Scalar.select (IntOp.cmpi CmpIPredicate.slt (IntOp.addi (Scalar.muli (Scf.iv 0#32 1#32 j.val) 704#32) (BitVec.ofNat 32 c.val)) 48#32)
            (Named.named κ "mask" 4048155338#32 : Ideal .f32) (0 : Ideal .f32) : EReal) - l23 x k (ix2 r 0)) := by
    unfold pL
    pointwise [k0_pay9, k0_pay8]
  have hj := j_lt k j
  have hj3 := hj.trans (k_lt k)
  have hr := row_lt (k_lt k) r
  have hc := row_lt hj3 c
  have hc' := c.isLt
  rw [e, iv_eq hj3, WordCmp.cmpi_slt_ofNat (by norm_num; omega) (by norm_num), WordCmp.select_ofBool, mask_eq, pr, sc, l23_at]
  simp only [q9_at, kI_at, decide_eq_true_eq]
  have hv : (704 * j.val + c.val) / 64 ≤ (704 * k.val + r.val) / 64 := Nat.div_le_div_right (by omega)
  by_cases h : 704 * j.val + c.val < 48
  · rw [if_pos h, if_neg (by omega), EReal.add_bot]; exact exp_mask _
  · rw [if_neg h, if_pos ⟨hv, by omega⟩, add_zero]

/-- The scores' gradients on the diagonal. -/
def dD : FVec Ideal S704x704 .bf16 := k0_pay4 (d18 x k) (l23 x k) (g24 x k) (s38 x k) (k0_pay28 0#32 1#32 k) colI (k0_pay29 0#32 1#32 k) (vT x k)

theorem dD_at (r c : Fin 704) : dD x k (ix2 r c) = dsc x (704 * k.val + r.val) (704 * k.val + c.val) := by
  have e : dD x k (ix2 r c) = pD x k (ix2 r c) * (∑ d, g24 x k (ix2 r d) * vT x k (ix2 c d) - d18 x k (ix2 r 0)) := by
    unfold dD pD
    pointwise [k0_pay4]
  rw [e, pD_at, d18_at]
  simp only [g24_at, vT_at]
  rfl

/-- The scores' gradients left of the diagonal. -/
def dL (j : Fin (k0_t2_loop k).trips) : FVec Ideal S704x704 .bf16 := k0_pay10 k (q9 x k) (d18 x k) (l23 x k) (g24 x k) 0#32 1#32 j (kI x k j) (vI x k j)

theorem dL_at (j : Fin (k0_t2_loop k).trips) (r c : Fin 704) : dL x k j (ix2 r c) = dsc x (704 * k.val + r.val) (704 * j.val + c.val) := by
  have e : dL x k j (ix2 r c) = pL x k j (ix2 r c) * (∑ d, g24 x k (ix2 r d) * vI x k j (ix2 c d) - d18 x k (ix2 r 0)) := by
    unfold dL pL
    pointwise [k0_pay10]
  rw [e, pL_at, d18_at]
  simp only [g24_at, vI_at]
  rfl

end tile

/-! ## The loops -/

section loops
variable (x : Blk Ideal) (k : Fin k0_t1_loop.trips)

/-- One inner trip, entry by entry. -/
theorem inStep_acc (j : Fin (k0_t2_loop k).trips) (s : In Ideal) (r : Fin 704) (d : Fin 256) :
    (inStep x k j s).acc (ix2 r d) = s.acc (ix2 r d) + ∑ c ∈ Finset.range 704, dsc x (704 * k.val + r.val) (704 * j.val + c) * rk x (704 * j.val + c) d := by
  have e : (inStep x k j s).acc (ix2 r d) = s.acc (ix2 r d) + ∑ c, dL x k j (ix2 r c) * kI x k j (ix2 c d) := by
    unfold inStep dL
    pointwise [k0_pay24, k0_pay8]
  rw [e, Finset.sum_range]
  simp only [dL_at, kI_at]

theorem inStep_dk (j : Fin (k0_t2_loop k).trips) (s : In Ideal) (K : Fin 2112) (d : Fin 256) :
    (inStep x k j s).dk (ix2 K d) = s.dk (ix2 K d) + if 704 * j.val ≤ K.val ∧ K.val < 704 * j.val + 704 then ∑ r ∈ Finset.range 704, dsc x (704 * k.val + r) K.val * rq x (704 * k.val + r) d else 0 := by
  have e := put_rows (n := 2112) (m := 256) (t := 704) s.dk (k0_off4 k j)
    (k0_pay12 k (q9 x k) (d18 x k) (l23 x k) (g24 x k) 0#32 1#32 j (kI x k j) (vI x k j) (window s.dk (k0_off4 k j) S704x256.size (k0_off4_inb k j))) (704 * j.val) (off4_val k j) K d
  refine (show (inStep x k j s).dk (ix2 K d) = _ from e).trans ?_
  by_cases h : 704 * j.val ≤ K.val ∧ K.val < 704 * j.val + 704
  · rw [dif_pos h, if_pos h]
    have e2 : ∀ c : Fin 704, k0_pay12 k (q9 x k) (d18 x k) (l23 x k) (g24 x k) 0#32 1#32 j (kI x k j) (vI x k j) (window s.dk (k0_off4 k j) S704x256.size (k0_off4_inb k j)) (ix2 c d)
        = window s.dk (k0_off4 k j) S704x256.size (k0_off4_inb k j) (ix2 c d) + ∑ r, dL x k j (ix2 r c) * q9 x k (ix2 r d) := fun c => by
      unfold dL
      pointwise [k0_pay12]
    refine (e2 ⟨K.val - 704 * j.val, by omega⟩).trans ?_
    have hK : 704 * j.val + (K.val - 704 * j.val) = K.val := by omega
    have e3 := window_rows (n := 2112) (m := 256) (t := 704) s.dk (k0_off4 k j) (k0_off4_inb k j) (704 * j.val) (off4_val k j) ⟨K.val - 704 * j.val, by omega⟩ d (by show _ + (_ - _) < _; rw [hK]; exact K.isLt)
    refine congrArg₂ (· + ·) (e3.trans (congrArg s.dk (congrArg (fun i => ix2 i d) (Fin.ext hK)))) ?_
    rw [Finset.sum_range]
    simp only [dL_at, q9_at, hK]
  · rw [dif_neg h, if_neg h, add_zero]

theorem inStep_dv (j : Fin (k0_t2_loop k).trips) (s : In Ideal) (K : Fin 2112) (d : Fin 128) :
    (inStep x k j s).dv (ix2 K d) = s.dv (ix2 K d) + if 704 * j.val ≤ K.val ∧ K.val < 704 * j.val + 704 then ∑ r ∈ Finset.range 704, pr x (704 * k.val + r) K.val * rg x (704 * k.val + r) d else 0 := by
  have e := put_rows (n := 2112) (m := 128) (t := 704) s.dv (k0_off5 k j)
    (k0_pay11 k (q9 x k) (l23 x k) (g24 x k) 0#32 1#32 j (kI x k j) (window s.dv (k0_off5 k j) S704x128.size (k0_off5_inb k j))) (704 * j.val) (off5_val k j) K d
  refine (show (inStep x k j s).dv (ix2 K d) = _ from e).trans ?_
  by_cases h : 704 * j.val ≤ K.val ∧ K.val < 704 * j.val + 704
  · rw [dif_pos h, if_pos h]
    have e2 : ∀ c : Fin 704, k0_pay11 k (q9 x k) (l23 x k) (g24 x k) 0#32 1#32 j (kI x k j) (window s.dv (k0_off5 k j) S704x128.size (k0_off5_inb k j)) (ix2 c d)
        = window s.dv (k0_off5 k j) S704x128.size (k0_off5_inb k j) (ix2 c d) + ∑ r, pL x k j (ix2 r c) * g24 x k (ix2 r d) := fun c => by
      unfold pL
      pointwise [k0_pay11]
    refine (e2 ⟨K.val - 704 * j.val, by omega⟩).trans ?_
    have hK : 704 * j.val + (K.val - 704 * j.val) = K.val := by omega
    have e3 := window_rows (n := 2112) (m := 128) (t := 704) s.dv (k0_off5 k j) (k0_off5_inb k j) (704 * j.val) (off5_val k j) ⟨K.val - 704 * j.val, by omega⟩ d (by show _ + (_ - _) < _; rw [hK]; exact K.isLt)
    refine congrArg₂ (· + ·) (e3.trans (congrArg s.dv (congrArg (fun i => ix2 i d) (Fin.ext hK)))) ?_
    rw [Finset.sum_range]
    simp only [pL_at, g24_at, hK]
  · rw [dif_neg h, if_neg h, add_zero]

theorem split_if {n : ℕ} {K : ℕ} (a : EReal) :
    ((if K < 704 * n then a else 0) + if 704 * n ≤ K ∧ K < 704 * n + 704 then a else 0) = if K < 704 * (n + 1) then a else 0 := by
  by_cases h1 : K < 704 * n
  · rw [if_pos h1, if_neg (by omega), if_pos (by omega), add_zero]
  · by_cases h2 : K < 704 * (n + 1)
    · rw [if_neg h1, if_pos (by omega), if_pos h2, zero_add]
    · rw [if_neg h1, if_neg (by omega), if_neg h2, zero_add]

/-- The inner loop's state: the key tiles before the trip summed. -/
theorem inAt_eq (s : In Ideal) (n : ℕ) (hn : n ≤ k.val) :
    (∀ (r : Fin 704) (d : Fin 256), (inAt x k s n).acc (ix2 r d) = s.acc (ix2 r d) + ∑ K ∈ Finset.range (704 * n), dsc x (704 * k.val + r.val) K * rk x K d)
    ∧ (∀ (K : Fin 2112) (d : Fin 256), (inAt x k s n).dk (ix2 K d) = s.dk (ix2 K d) + if K.val < 704 * n then ∑ r ∈ Finset.range 704, dsc x (704 * k.val + r) K.val * rq x (704 * k.val + r) d else 0)
    ∧ (∀ (K : Fin 2112) (d : Fin 128), (inAt x k s n).dv (ix2 K d) = s.dv (ix2 K d) + if K.val < 704 * n then ∑ r ∈ Finset.range 704, pr x (704 * k.val + r) K.val * rg x (704 * k.val + r) d else 0) := by
  induction n with
  | zero =>
    refine ⟨fun r d => ?_, fun K d => ?_, fun K d => ?_⟩
    · rw [Nat.mul_zero, Finset.range_zero, Finset.sum_empty, add_zero]; rfl
    · rw [if_neg (by omega), add_zero]; rfl
    · rw [if_neg (by omega), add_zero]; rfl
  | succ n ih =>
    obtain ⟨ha, hk, hv⟩ := ih (by omega)
    have hs := inAt_succ x k s ⟨n, by rw [trips2]; omega⟩
    simp only at hs
    rw [hs]
    refine ⟨fun r d => ?_, fun K d => ?_, fun K d => ?_⟩
    · rw [inStep_acc, ha, Nat.mul_add, Nat.mul_one, Finset.sum_range_add, add_assoc]
    · rw [inStep_dk, hk, add_assoc]
      exact congrArg _ (split_if _)
    · rw [inStep_dv, hv, add_assoc]
      exact congrArg _ (split_if _)

/-- A sum over the rows that are at most the tile's is a sum over all. -/
theorem dq_whole (I : ℕ) (hI : 704 * k.val ≤ I ∧ I < 704 * k.val + 704) (d : Fin 256) :
    ∑ K ∈ Finset.range (704 * (k.val + 1)), dsc x I K * rk x K d = ∑ K ∈ Finset.range 2112, dsc x I K * rk x K d := by
  refine Finset.sum_subset (fun K hK => ?_) fun K _ hK => ?_
  · rw [Finset.mem_range] at hK ⊢
    have := k_lt k
    omega
  · rw [Finset.mem_range] at hK
    rw [dsc_zero x (by omega), zero_mul]

/-- One outer trip, entry by entry. -/
theorem outStep_dq (s : Out Ideal) (I : Fin 2112) (d : Fin 256) :
    (outStep x k s).dq (ix2 I d) = if 704 * k.val ≤ I.val ∧ I.val < 704 * k.val + 704 then ∑ K ∈ Finset.range 2112, dsc x I.val K * rk x K d else s.dq (ix2 I d) := by
  have e := put_rows (n := 2112) (m := 256) (t := 704) s.dq (k0_off1 k)
    (k0_pay7 (d18 x k) (l23 x k) (g24 x k) (inEnd x k s).acc (k37 x k) (s38 x k) (k0_pay28 0#32 1#32 k) colI (k0_pay29 0#32 1#32 k) (vT x k)) (704 * k.val) (off1_val k) I d
  refine (show (outStep x k s).dq (ix2 I d) = _ from e).trans ?_
  by_cases h : 704 * k.val ≤ I.val ∧ I.val < 704 * k.val + 704
  · rw [dif_pos h, if_pos h]
    have e2 : ∀ r : Fin 704, k0_pay7 (d18 x k) (l23 x k) (g24 x k) (inEnd x k s).acc (k37 x k) (s38 x k) (k0_pay28 0#32 1#32 k) colI (k0_pay29 0#32 1#32 k) (vT x k) (ix2 r d)
        = (inEnd x k s).acc (ix2 r d) + ∑ c, dD x k (ix2 r c) * k37 x k (ix2 c d) := fun r => by
      unfold dD
      pointwise [k0_pay7]
    refine (e2 ⟨I.val - 704 * k.val, by omega⟩).trans ?_
    have hI : 704 * k.val + (I.val - 704 * k.val) = I.val := by omega
    have ha : ∀ r : Fin 704, (inEnd x k s).acc (ix2 r d) = ∑ K ∈ Finset.range (704 * k.val), dsc x (704 * k.val + r.val) K * rk x K d := fun r => by
      have h1 := (inAt_eq x k (inInit s) k.val le_rfl).1 r d
      have h0 : (inInit s).acc (ix2 r d) = 0 := by
        show k0_pay23 (F := Ideal) (ix2 r d) = 0
        pointwise [k0_pay23]
      rw [inEnd, trips2, h1, h0, zero_add]
    rw [ha, ← dq_whole x k I.val h d, Nat.mul_add, Nat.mul_one, Finset.sum_range_add, Finset.sum_range (n := 704)]
    simp only [dD_at, k37_at, hI]
  · rw [dif_neg h, if_neg h]

theorem outStep_dk (s : Out Ideal) (K : Fin 2112) (d : Fin 256) :
    (outStep x k s).dk (ix2 K d) = s.dk (ix2 K d) + ∑ r ∈ Finset.range 704, dsc x (704 * k.val + r) K.val * rq x (704 * k.val + r) d := by
  have e := put_rows (n := 2112) (m := 256) (t := 704) (inEnd x k s).dk (k0_off1 k)
    (k0_pay6 (q9 x k) (d18 x k) (l23 x k) (g24 x k) (s38 x k) (k0_pay28 0#32 1#32 k) colI (k0_pay29 0#32 1#32 k) (vT x k) (window (inEnd x k s).dk (k0_off1 k) S704x256.size (k0_off1_inb k))) (704 * k.val) (off1_val k) K d
  refine (show (outStep x k s).dk (ix2 K d) = _ from e).trans ?_
  have hin : (inEnd x k s).dk (ix2 K d) = s.dk (ix2 K d) + if K.val < 704 * k.val then ∑ r ∈ Finset.range 704, dsc x (704 * k.val + r) K.val * rq x (704 * k.val + r) d else 0 := by
    rw [inEnd, trips2]
    exact (inAt_eq x k (inInit s) k.val le_rfl).2.1 K d
  by_cases h : 704 * k.val ≤ K.val ∧ K.val < 704 * k.val + 704
  · rw [dif_pos h]
    have e2 : ∀ c : Fin 704, k0_pay6 (q9 x k) (d18 x k) (l23 x k) (g24 x k) (s38 x k) (k0_pay28 0#32 1#32 k) colI (k0_pay29 0#32 1#32 k) (vT x k) (window (inEnd x k s).dk (k0_off1 k) S704x256.size (k0_off1_inb k)) (ix2 c d)
        = window (inEnd x k s).dk (k0_off1 k) S704x256.size (k0_off1_inb k) (ix2 c d) + ∑ r, dD x k (ix2 r c) * q9 x k (ix2 r d) := fun c => by
      unfold dD
      pointwise [k0_pay6]
    refine (e2 ⟨K.val - 704 * k.val, by omega⟩).trans ?_
    have hK : 704 * k.val + (K.val - 704 * k.val) = K.val := by omega
    have e3 := window_rows (n := 2112) (m := 256) (t := 704) (inEnd x k s).dk (k0_off1 k) (k0_off1_inb k) (704 * k.val) (off1_val k) ⟨K.val - 704 * k.val, by omega⟩ d (by show _ + (_ - _) < _; rw [hK]; exact K.isLt)
    rw [if_neg (by omega), add_zero] at hin
    refine congrArg₂ (· + ·) ((e3.trans (congrArg (inEnd x k s).dk (congrArg (fun i => ix2 i d) (Fin.ext hK)))).trans hin) ?_
    rw [Finset.sum_range]
    simp only [dD_at, q9_at, hK]
  · rw [dif_neg h, hin]
    by_cases h1 : K.val < 704 * k.val
    · rw [if_pos h1]
    · rw [if_neg h1]
      refine congrArg _ (Finset.sum_eq_zero fun r hr => ?_).symm
      rw [Finset.mem_range] at hr
      rw [dsc_zero x (by omega), zero_mul]

theorem outStep_dv (s : Out Ideal) (K : Fin 2112) (d : Fin 128) :
    (outStep x k s).dv (ix2 K d) = s.dv (ix2 K d) + ∑ r ∈ Finset.range 704, pr x (704 * k.val + r) K.val * rg x (704 * k.val + r) d := by
  have e := put_rows (n := 2112) (m := 128) (t := 704) (inEnd x k s).dv (k0_off2 k)
    (k0_pay5 (l23 x k) (g24 x k) (s38 x k) (k0_pay28 0#32 1#32 k) colI (k0_pay29 0#32 1#32 k) (window (inEnd x k s).dv (k0_off2 k) S704x128.size (k0_off2_inb k))) (704 * k.val) (off2_val k) K d
  refine (show (outStep x k s).dv (ix2 K d) = _ from e).trans ?_
  have hin : (inEnd x k s).dv (ix2 K d) = s.dv (ix2 K d) + if K.val < 704 * k.val then ∑ r ∈ Finset.range 704, pr x (704 * k.val + r) K.val * rg x (704 * k.val + r) d else 0 := by
    rw [inEnd, trips2]
    exact (inAt_eq x k (inInit s) k.val le_rfl).2.2 K d
  by_cases h : 704 * k.val ≤ K.val ∧ K.val < 704 * k.val + 704
  · rw [dif_pos h]
    have e2 : ∀ c : Fin 704, k0_pay5 (l23 x k) (g24 x k) (s38 x k) (k0_pay28 0#32 1#32 k) colI (k0_pay29 0#32 1#32 k) (window (inEnd x k s).dv (k0_off2 k) S704x128.size (k0_off2_inb k)) (ix2 c d)
        = window (inEnd x k s).dv (k0_off2 k) S704x128.size (k0_off2_inb k) (ix2 c d) + ∑ r, pD x k (ix2 r c) * g24 x k (ix2 r d) := fun c => by
      unfold pD
      pointwise [k0_pay5]
    refine (e2 ⟨K.val - 704 * k.val, by omega⟩).trans ?_
    have hK : 704 * k.val + (K.val - 704 * k.val) = K.val := by omega
    have e3 := window_rows (n := 2112) (m := 128) (t := 704) (inEnd x k s).dv (k0_off2 k) (k0_off2_inb k) (704 * k.val) (off2_val k) ⟨K.val - 704 * k.val, by omega⟩ d (by show _ + (_ - _) < _; rw [hK]; exact K.isLt)
    rw [if_neg (by omega), add_zero] at hin
    refine congrArg₂ (· + ·) ((e3.trans (congrArg (inEnd x k s).dv (congrArg (fun i => ix2 i d) (Fin.ext hK)))).trans hin) ?_
    rw [Finset.sum_range]
    simp only [pD_at, g24_at, hK]
  · rw [dif_neg h, hin]
    by_cases h1 : K.val < 704 * k.val
    · rw [if_pos h1]
    · rw [if_neg h1]
      refine congrArg _ (Finset.sum_eq_zero fun r hr => ?_).symm
      rw [Finset.mem_range] at hr
      rw [pr_zero x (by omega), zero_mul]

end loops

/-- The outer loop's state: the query tiles before the trip done. -/
theorem outAt_eq (x : Blk Ideal) (d₀ : Vec Ideal S2112x256 .f32) (n : ℕ) (hn : n ≤ 3) :
    (∀ (I : Fin 2112) (d : Fin 256), I.val < 704 * n → (outAt x (start d₀) n).dq (ix2 I d) = ∑ K ∈ Finset.range 2112, dsc x I.val K * rk x K d)
    ∧ (∀ (K : Fin 2112) (d : Fin 256), (outAt x (start d₀) n).dk (ix2 K d) = ∑ I ∈ Finset.range (704 * n), dsc x I K.val * rq x I d)
    ∧ (∀ (K : Fin 2112) (d : Fin 128), (outAt x (start d₀) n).dv (ix2 K d) = ∑ I ∈ Finset.range (704 * n), pr x I K.val * rg x I d) := by
  induction n with
  | zero =>
    refine ⟨fun I d h => absurd h (by omega), fun K d => ?_, fun K d => ?_⟩
    · rw [Nat.mul_zero, Finset.range_zero, Finset.sum_empty]
      show k0_pay1 (F := Ideal) (ix2 K d) = 0
      pointwise [k0_pay1]
    · rw [Nat.mul_zero, Finset.range_zero, Finset.sum_empty]
      show k0_pay2 (F := Ideal) (ix2 K d) = 0
      pointwise [k0_pay2]
  | succ n ih =>
    obtain ⟨hq, hk, hv⟩ := ih (by omega)
    have hs := outAt_succ x (start d₀) ⟨n, by rw [trips1]; omega⟩
    simp only at hs
    rw [hs]
    refine ⟨fun I d h => ?_, fun K d => ?_, fun K d => ?_⟩
    · rw [outStep_dq]
      by_cases h1 : 704 * n ≤ I.val
      · exact if_pos ⟨h1, by show I.val < 704 * n + 704; omega⟩
      · refine (if_neg fun hc => h1 hc.1).trans (hq I d (by omega))
    · rw [outStep_dk, hk, Nat.mul_add, Nat.mul_one, Finset.sum_range_add]
    · rw [outStep_dv, hv, Nat.mul_add, Nat.mul_one, Finset.sum_range_add]

/-- The query gradient the body leaves. -/
theorem fin_dq (x : Blk Ideal) (I : Fin 2112) (d : Fin 256) : (fin x).dq (ix2 I d) = ∑ K ∈ Finset.range 2112, dsc x I.val K * rk x K d := by
  rw [fin, trips1]; exact (outAt_eq x _ 3 le_rfl).1 I d I.isLt
/-- The key gradient the body leaves. -/
theorem fin_dk (x : Blk Ideal) (K : Fin 2112) (d : Fin 256) : (fin x).dk (ix2 K d) = ∑ I ∈ Finset.range 2112, dsc x I K.val * rq x I d := by
  rw [fin, trips1]; exact (outAt_eq x _ 3 le_rfl).2.1 K d
/-- The value gradient the body leaves. -/
theorem fin_dv (x : Blk Ideal) (K : Fin 2112) (d : Fin 128) : (fin x).dv (ix2 K d) = ∑ I ∈ Finset.range 2112, pr x I K.val * rg x I d := by
  rw [fin, trips1]; exact (outAt_eq x _ 3 le_rfl).2.2 K d

end Cert.Proof.KernelIdeal
-- ==== Proof.AttnHost.lean ====
/-
  What the host operations before the call hand it, as named arrays of the arguments, and each read at an index.
-/
module

public import proofs.«01_k».proof.Proof.AttnSum
public import proofs.«01_k».proof.Proof.AttnIdealRun
public import Idealize.ShloMosaic.Lib.Pipeline.ValueKit
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe

/-- The arrays of the arguments. -/
abbrev QK := FVec Ideal S2x2064x4x192 .f32
abbrev VO := FVec Ideal S2x2064x4x128 .f32

/-- A position moved behind the padding. -/
def pos48 : IVec S2064 32 := addi (iotaInDim S2064 32 0) (broadcastInDim S2064 ![] bcast_S_S2064 (constantI S_ 32 48#32))
/-- The length of a chunk. -/
def c64 : IVec S2064 32 := broadcastInDim S2064 ![] bcast_S_S2064 (id (constantI S_ 32 64#32))
/-- A position's chunk. -/
def cid : IVec S2064 32 :=
  select (andi (cmpi .ne (signi pos48) (broadcastInDim S2064 ![] bcast_S_S2064 (signi (id (constantI S_ 32 64#32)))))
      (cmpi .ne (Host.remsi pos48 c64) (broadcastInDim S2064 ![] bcast_S_S2064 (constantI S_ 32 0#32))))
    (subi (Host.divsi pos48 c64) (broadcastInDim S2064 ![] bcast_S_S2064 (constantI S_ 32 1#32))) (Host.divsi pos48 c64)
/-- Which key a query sees. -/
def msk : IVec S2064x2064 1 :=
  cmpi .sle (broadcastInDim S2064x2064 ![0, 1] bcast_S1x2064_S2064x2064_0_1 (broadcastInDim S1x2064 ![1] bcast_S2064_S1x2064_1 cid))
    (broadcastInDim S2064x2064 ![0, 1] bcast_S2064x1_S2064x2064_0_1 (broadcastInDim S2064x1 ![0] bcast_S2064_S2064x1_0 cid))
/-- The masked scores. -/
def sM (q k : QK) : FVec Ideal S2x4x2064x2064 .f32 :=
  select (broadcastInDim S2x4x2064x2064 ![0, 1, 2, 3] bcast_S1x1x2064x2064_S2x4x2064x2064_0_1_2_3 (broadcastInDim S1x1x2064x2064 ![2, 3] bcast_S2064x2064_S1x1x2064x2064_2_3 msk))
    (Host.dotGeneral dot_S2x2064x4x192_S2x2064x4x192_S2x4x2064x2064_3_3_1_1_02_02 none q k)
    (broadcastInDim S2x4x2064x2064 ![] bcast_S_S2x4x2064x2064 (id (constant S_ .f32 0xFF800000#32)))
/-- A row's largest score. -/
def mx (q k : QK) : FVec Ideal S2x4x2064 .f32 := Host.reduce FloatOps.maximumf (sM q k) (constant (F := Ideal) S_ .f32 0xFF800000#32) reducesTo_S2x4x2064x2064_S2x4x2064_d3 h_S_
/-- A row's number, for every key. -/
def wide (x : FVec Ideal S2x4x2064 .f32) : FVec Ideal S2x4x2064x2064 .f32 :=
  broadcastInDim S2x4x2064x2064 ![0, 1, 2, 3] bcast_S2x4x2064x1_S2x4x2064x2064_0_1_2_3 (broadcastInDim S2x4x2064x1 ![0, 1, 2] bcast_S2x4x2064_S2x4x2064x1_0_1_2 x)
/-- A row's logarithm of the sum of exponentials. -/
def ls (q k : QK) : FVec Ideal S2x4x2064 .f32 :=
  addf (mx q k) (Host.log (Host.reduceAdd (Host.exp (subf (sM q k) (wide (mx q k)))) (constant (F := Ideal) S_ .f32 0x00000000#32) reducesTo_S2x4x2064x2064_S2x4x2064_d3 h_S_))
/-- The heads' outputs. -/
def outp (q k : QK) (v : VO) : VO :=
  transpose S2x2064x4x128 [0, 3, 1, 2] (Host.dotGeneral dot_S2x2064x4x128_S2x4x2064x2064_S2x4x128x2064_1_3_3_2_02_01 none v (Host.exp (subf (sM q k) (wide (ls q k))))) transposes_S2x4x128x2064_S2x2064x4x128_0_3_1_2
/-- The padding's zero. -/
def zero : FVec Ideal S_ .f32 := sitofp .f32 (constantI S_ 32 0#32)
/-- Queries or keys as the call takes them. -/
def slabQ (x : QK) : FVec Ideal S4224x1024 .f32 :=
  shapeCast _ (pad S2x2112x4x256 ![0, 48, 0, 0] ![0, 0, 0, 64] ![0, 0, 0, 0] x zero pads_S2x2064x4x192_S2x2112x4x256_000_4800_000_0640 h_S_) shapeCasts_S2x2112x4x256_S4224x1024
/-- Values, outputs or cotangents as the call takes them. -/
def slabV (x : VO) : FVec Ideal S4224x512 .f32 :=
  shapeCast _ (pad S2x2112x4x128 ![0, 48, 0, 0] ![0, 0, 0, 0] ![0, 0, 0, 0] x zero pads_S2x2064x4x128_S2x2112x4x128_000_4800_000_000 h_S_) shapeCasts_S2x2112x4x128_S4224x512
/-- The logarithms as the call takes them. -/
def lanes (x : FVec Ideal S2x4x2064 .f32) : FVec Ideal S4x4224x128 .f32 :=
  broadcastInDim S4x4224x128 ![0, 1, 2] bcast_S4x4224x1_S4x4224x128_0_1_2 (broadcastInDim S4x4224x1 ![0, 1] bcast_S4x4224_S4x4224x1_0_1
    (shapeCast S4x4224 (transpose S4x2x2112 [1, 0, 2] (pad S2x4x2112 ![0, 0, 48] ![0, 0, 0] ![0, 0, 0] x zero pads_S2x4x2064_S2x4x2112_000_000_4800 h_S_) transposes_S2x4x2112_S4x2x2112_1_0_2) shapeCasts_S4x2x2112_S4x4224))

section entry
variable (m : (ℓ : Loc nD τ sig) → Buf (Elt Ideal) ℓ) (c : Dev nD)

/-- The arguments. -/
abbrev aq : QK := m ((c : Thread nD τ).loc main_arg0)
abbrev ak : QK := m ((c : Thread nD τ).loc main_arg1)
abbrev av : VO := m ((c : Thread nD τ).loc main_arg2)
abbrev ag : VO := m ((c : Thread nD τ).loc main_arg3)

theorem V_v33 : V m c main_v33 = truncf .bf16 (slabQ (aq m c)) bitsLt_bf16_f32 := by
  entry_read; rfl
theorem V_v36 : V m c main_v36 = truncf .bf16 (slabQ (ak m c)) bitsLt_bf16_f32 := by
  entry_read; rfl
theorem V_v39 : V m c main_v39 = truncf .bf16 (slabV (av m c)) bitsLt_bf16_f32 := by
  entry_read; rfl
theorem V_v43 : V m c main_v43 = slabV (ag m c) := by
  entry_read; rfl
theorem V_v30 : V m c main_v30 = lanes (ls (aq m c) (ak m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_reads_simp
  simp only [sM, msk, cid, c64, pos48, id_eq, wide, mx, ls, lanes, zero]
  refine congrArg (fun X : FVec Ideal S4x4224 .f32 => broadcastInDim S4x4224x128 ![0, 1, 2] bcast_S4x4224x1_S4x4224x128_0_1_2 (broadcastInDim S4x4224x1 ![0, 1] bcast_S4x4224_S4x4224x1_0_1 X)) ?_
  refine congrArg (fun X : FVec Ideal S2x4x2064 .f32 => (shapeCast S4x4224 (transpose S4x2x2112 [1, 0, 2] (pad S2x4x2112 ![0, 0, 48] ![0, 0, 0] ![0, 0, 0] X (sitofp (F := Ideal) .f32 (constantI S_ 32 0#32)) pads_S2x4x2064_S2x4x2112_000_000_4800 h_S_) transposes_S2x4x2112_S4x2x2112_1_0_2) shapeCasts_S4x2x2112_S4x4224 : FVec Ideal S4x4224 .f32)) ?_
  rfl
theorem V_v41 : V m c main_v41 = slabV (outp (aq m c) (ak m c) (av m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_reads_simp
  simp only [sM, msk, cid, c64, pos48, id_eq, wide, mx, ls, slabV, outp, zero]
  refine congrArg (fun X : VO => (shapeCast S4224x512 (pad S2x2112x4x128 ![0, 48, 0, 0] ![0, 0, 0, 0] ![0, 0, 0, 0] X (sitofp (F := Ideal) .f32 (constantI S_ 32 0#32)) pads_S2x2064x4x128_S2x2112x4x128_000_4800_000_000 h_S_) shapeCasts_S2x2112x4x128_S4224x512 : FVec Ideal S4224x512 .f32)) ?_
  rfl

end entry
end Cert.Proof.KernelIdeal
-- ==== Proof.AttnAt.lean ====
/-
  The call's operands, read at an index as numbers of the arguments.
-/
module

public import proofs.«01_k».proof.Proof.AttnHost

@[expose] public section

set_option maxRecDepth 16384

noncomputable section

namespace Cert.Proof.KernelIdeal

open Cert.KernelIdeal Cert.KernelIdeal.Gen
open Idealize.ShloMosaic Idealize.ShloMosaic.TcCoe

/-- A position's chunk, of sixty-four after the padding. -/
theorem cid_at (i : Fin 2064) : cid (ix1 i) = BitVec.ofNat 32 ((i.val + 48) / 64) := by
  have e : cid (ix1 i) = Scalar.select
      (IntOp.andi
        (IntOp.cmpi CmpIPredicate.ne
          (if IntOp.addi (BitVec.ofNat 32 i.val) 48#32 = 0 then 0 else if (IntOp.addi (BitVec.ofNat 32 i.val) 48#32).msb = true then (-1 : BitVec 32) else 1)
          (if 64#32 = 0 then 0 else if (64#32).msb = true then (-1 : BitVec 32) else 1))
        (IntOp.cmpi CmpIPredicate.ne (IntOp.remsi ArithUnit.host (IntOp.addi (BitVec.ofNat 32 i.val) 48#32) 64#32) 0#32))
      (IntOp.subi (IntOp.divsi ArithUnit.host (IntOp.addi (BitVec.ofNat 32 i.val) 48#32) 64#32) 1#32)
      (IntOp.divsi ArithUnit.host (IntOp.addi (BitVec.ofNat 32 i.val) 48#32) 64#32) := by
    unfold cid c64 pos48
    pointwise
    rfl
  rw [e]
  clear e
  revert i
  decide +kernel

theorem ofBits_negInf : Ideal.ofBits FTy.f32 4286578688#32 = (⊥ : EReal) := rfl

theorem sM_at (q k : QK) (b : Fin 2) (h : Fin 4) (i j : Fin 2064) :
    sM q k (ix4 b h i j) = if (j.val + 48) / 64 ≤ (i.val + 48) / 64 then ∑ d, q (ix4 b i h d) * k (ix4 b j h d) else ⊥ := by
  have e : sM q k (ix4 b h i j) = Scalar.select (IntOp.cmpi CmpIPredicate.sle (cid (ix1 j)) (cid (ix1 i))) (∑ x, q (ix4 b i h x) * k (ix4 b j h x) : EReal) (⊥ : EReal) := by
    unfold sM msk
    pointwise
    rfl
  have hi := i.isLt
  have hj := j.isLt
  rw [e, cid_at, cid_at, WordCmp.cmpi_sle_ofNat (by norm_num; omega) (by norm_num; omega), WordCmp.select_ofBool]
  simp only [decide_eq_true_eq]

theorem rowmax (X : FVec Ideal S2x4x2064x2064 .f32) (b : Fin 2) (h : Fin 4) (i : Fin 2064) :
    Host.reduce FloatOps.maximumf X (constant (F := Ideal) S_ .f32 0xFF800000#32) reducesTo_S2x4x2064x2064_S2x4x2064_d3 h_S_ (ix3 b h i) = Finset.fold max ⊥ (fun j => X (ix4 b h i j)) Finset.univ := by
  rw [← ofBits_negInf]
  pointwise

theorem mx_at (q k : QK) (b : Fin 2) (h : Fin 4) (i : Fin 2064) :
    mx q k (ix3 b h i) = Finset.fold max ⊥ (fun j => sM q k (ix4 b h i j)) Finset.univ := by
  unfold mx
  exact rowmax _ b h i

theorem rowsum (X : FVec Ideal S2x4x2064x2064 .f32) (M : FVec Ideal S2x4x2064 .f32) (b : Fin 2) (h : Fin 4) (i : Fin 2064) :
    addf M (Host.log (Host.reduceAdd (Host.exp (subf X (wide M))) (constant (F := Ideal) S_ .f32 0x00000000#32) reducesTo_S2x4x2064x2064_S2x4x2064_d3 h_S_)) (ix3 b h i)
      = M (ix3 b h i) + Ideal.log (∑ j, Ideal.exp (X (ix4 b h i j) - M (ix3 b h i))) := by
  unfold wide
  pointwise

theorem ls_at (q k : QK) (b : Fin 2) (h : Fin 4) (i : Fin 2064) :
    ls q k (ix3 b h i) = mx q k (ix3 b h i) + Ideal.log (∑ j, Ideal.exp (sM q k (ix4 b h i j) - mx q k (ix3 b h i))) := by
  unfold ls
  exact rowsum _ _ b h i

theorem heads (X : FVec Ideal S2x4x2064x2064 .f32) (L : FVec Ideal S2x4x2064 .f32) (v : VO) (b : Fin 2) (h : Fin 4) (i : Fin 2064) (d : Fin 128) :
    transpose S2x2064x4x128 [0, 3, 1, 2] (Host.dotGeneral dot_S2x2064x4x128_S2x4x2064x2064_S2x4x128x2064_1_3_3_2_02_01 none v (Host.exp (subf X (wide L)))) transposes_S2x4x128x2064_S2x2064x4x128_0_3_1_2 (ix4 b i h d)
      = ∑ j, v (ix4 b j h d) * Ideal.exp (X (ix4 b h i j) - L (ix3 b h i)) := by
  unfold wide
  pointwise

theorem outp_at (q k : QK) (v : VO) (b : Fin 2) (h : Fin 4) (i : Fin 2064) (d : Fin 128) :
    outp q k v (ix4 b i h d) = ∑ j, v (ix4 b j h d) * Ideal.exp (sM q k (ix4 b h i j) - ls q k (ix3 b h i)) := by
  unfold outp
  exact heads _ _ v b h i d

theorem zero_at : (FloatOps.sitofp FTy.f32 0#32 : Ideal .f32) = (0 : EReal) := by
  show (((0#32 : BitVec 32).toInt : ℝ) : EReal) = 0
  simp

theorem slabQ_at (x : QK) (b : Fin 2) (r : Fin 2112) (h : Fin 4) (d : Fin 256) (h1 : 2112 * b.val + r.val < 4224) (h2 : 256 * h.val + d.val < 1024) :
    slabQ x (ix2 ⟨2112 * b.val + r.val, h1⟩ ⟨256 * h.val + d.val, h2⟩) = if hh : 48 ≤ r.val ∧ d.val < 192 then x (ix4 b ⟨r.val - 48, by omega⟩ h ⟨d.val, hh.2⟩) else 0 := by
  unfold slabQ zero
  pointwise
  rw [zero_at]
  have hr := r.isLt
  by_cases hh : 48 ≤ r.val ∧ d.val < 192
  · rw [dif_pos hh, dif_pos ⟨⟨hh.1, by omega⟩, hh.2⟩]
  · rw [dif_neg hh, dif_neg (fun hc => hh ⟨hc.1.1, hc.2⟩)]

theorem slabV_at (x : VO) (b : Fin 2) (r : Fin 2112) (h : Fin 4) (d : Fin 128) (h1 : 2112 * b.val + r.val < 4224) (h2 : 128 * h.val + d.val < 512) :
    slabV x (ix2 ⟨2112 * b.val + r.val, h1⟩ ⟨128 * h.val + d.val, h2⟩) = if hh : 48 ≤ r.val then x (ix4 b ⟨r.val - 48, by omega⟩ h d) else 0 := by
  unfold slabV zero
  pointwise
  rw [zero_at]
  have hr := r.isLt
  by_cases hh : 48 ≤ r.val
  · rw [dif_pos hh, dif_pos ⟨hh, by omega⟩]
  · rw [dif_neg hh, dif_neg (fun hc => hh hc.1)]

theorem lanes_at (x : FVec Ideal S2x4x2064 .f32) (b : Fin 2) (r : Fin 2112) (h : Fin 4) (d : Fin 128) (h1 : 2112 * b.val + r.val < 4224) :
    lanes x (ix3 h ⟨2112 * b.val + r.val, h1⟩ d) = if hh : 48 ≤ r.val then x (ix3 b h ⟨r.val - 48, by omega⟩) else 0 := by
  unfold lanes zero
  pointwise
  rw [zero_at]
  have hr := r.isLt
  by_cases hh : 48 ≤ r.val
  · rw [dif_pos hh, dif_pos ⟨hh, by omega⟩]
  · rw [dif_neg hh, dif_neg (fun hc => hh hc.1)]

end Cert.Proof.KernelIdeal
-- ==== Proof.AttnBlk.lean ====
/-
  The six blocks of a grid point, read at an index as numbers of the arguments.
-/
module

public import proofs.«01_k».proof.Proof.AttnAt

@[expose] public section

set_option maxRecDepth 16384

noncomputable section

namespace Cert.Proof.KernelIdeal

open Cert.KernelIdeal Cert.KernelIdeal.Gen
open Idealize.ShloMosaic Idealize.ShloMosaic.TcCoe

/-- A grid point's batch and head. -/
abbrev bt (t : Fin cfg0.N) : Fin 2 := grid0.coords t 0
abbrev ht (t : Fin cfg0.N) : Fin 4 := grid0.coords t 1

theorem idx (t : Fin cfg0.N) : win0_0.index t = ![(bt t).val, (ht t).val] ∧ win0_1.index t = ![(bt t).val, (ht t).val]
    ∧ win0_2.index t = ![(bt t).val, (ht t).val] ∧ win0_3.index t = ![(bt t).val, (ht t).val]
    ∧ win0_4.index t = ![(bt t).val, (ht t).val] ∧ win0_5.index t = ![(ht t).val, (bt t).val, 0]
    ∧ win0_6.index t = ![(bt t).val, (ht t).val] ∧ win0_7.index t = ![(bt t).val, (ht t).val]
    ∧ win0_8.index t = ![(bt t).val, (ht t).val] :=
  (by decide +kernel : ∀ t : Fin grid0.N, win0_0.index t = ![(bt t).val, (ht t).val] ∧ win0_1.index t = ![(bt t).val, (ht t).val]
    ∧ win0_2.index t = ![(bt t).val, (ht t).val] ∧ win0_3.index t = ![(bt t).val, (ht t).val]
    ∧ win0_4.index t = ![(bt t).val, (ht t).val] ∧ win0_5.index t = ![(ht t).val, (bt t).val, 0]
    ∧ win0_6.index t = ![(bt t).val, (ht t).val] ∧ win0_7.index t = ![(bt t).val, (ht t).val]
    ∧ win0_8.index t = ![(bt t).val, (ht t).val]) t

/-- Each batch and head has a grid point. -/
theorem point_of (b : Fin 2) (h : Fin 4) : ∃ t : Fin cfg0.N, bt t = b ∧ ht t = h := by
  revert b h; decide +kernel

section entry
variable (m : (ℓ : Loc nD τ sig) → Buf (Elt Ideal) ℓ) (c : Dev nD)

theorem blk_q (t : Fin cfg0.N) (r : Fin 2112) (d : Fin 256) (h1 : 2112 * (bt t).val + r.val < 4224) (h2 : 256 * (ht t).val + d.val < 1024) :
    (blk m c t).q (ix2 r d) = slabQ (aq m c) (ix2 ⟨2112 * (bt t).val + r.val, h1⟩ ⟨256 * (ht t).val + d.val, h2⟩) := by
  have e : iblk m c 0 t (ix2 r d) = V m c main_v33 (ix2 ⟨2112 * (bt t).val + r.val, h1⟩ ⟨256 * (ht t).val + d.val, h2⟩) := by
    unfold iblk
    generalize V m c (Pipeline.arrRef spec0 0) = A
    blk_ext [idx t]
  exact e.trans (by rw [V_v33]; rfl)

theorem blk_k (t : Fin cfg0.N) (r : Fin 2112) (d : Fin 256) (h1 : 2112 * (bt t).val + r.val < 4224) (h2 : 256 * (ht t).val + d.val < 1024) :
    (blk m c t).k (ix2 r d) = slabQ (ak m c) (ix2 ⟨2112 * (bt t).val + r.val, h1⟩ ⟨256 * (ht t).val + d.val, h2⟩) := by
  have e : iblk m c 1 t (ix2 r d) = V m c main_v36 (ix2 ⟨2112 * (bt t).val + r.val, h1⟩ ⟨256 * (ht t).val + d.val, h2⟩) := by
    unfold iblk
    generalize V m c (Pipeline.arrRef spec0 1) = A
    blk_ext [idx t]
  exact e.trans (by rw [V_v36]; rfl)

theorem blk_v (t : Fin cfg0.N) (r : Fin 2112) (d : Fin 128) (h1 : 2112 * (bt t).val + r.val < 4224) (h2 : 128 * (ht t).val + d.val < 512) :
    (blk m c t).v (ix2 r d) = slabV (av m c) (ix2 ⟨2112 * (bt t).val + r.val, h1⟩ ⟨128 * (ht t).val + d.val, h2⟩) := by
  have e : iblk m c 2 t (ix2 r d) = V m c main_v39 (ix2 ⟨2112 * (bt t).val + r.val, h1⟩ ⟨128 * (ht t).val + d.val, h2⟩) := by
    unfold iblk
    generalize V m c (Pipeline.arrRef spec0 2) = A
    blk_ext [idx t]
  exact e.trans (by rw [V_v39]; rfl)

theorem blk_o (t : Fin cfg0.N) (r : Fin 2112) (d : Fin 128) (h1 : 2112 * (bt t).val + r.val < 4224) (h2 : 128 * (ht t).val + d.val < 512) :
    (blk m c t).o (ix2 r d) = slabV (outp (aq m c) (ak m c) (av m c)) (ix2 ⟨2112 * (bt t).val + r.val, h1⟩ ⟨128 * (ht t).val + d.val, h2⟩) := by
  have e : iblk m c 3 t (ix2 r d) = V m c main_v41 (ix2 ⟨2112 * (bt t).val + r.val, h1⟩ ⟨128 * (ht t).val + d.val, h2⟩) := by
    unfold iblk
    generalize V m c (Pipeline.arrRef spec0 3) = A
    blk_ext [idx t]
  exact e.trans (by rw [V_v41])

theorem blk_g (t : Fin cfg0.N) (r : Fin 2112) (d : Fin 128) (h1 : 2112 * (bt t).val + r.val < 4224) (h2 : 128 * (ht t).val + d.val < 512) :
    (blk m c t).g (ix2 r d) = slabV (ag m c) (ix2 ⟨2112 * (bt t).val + r.val, h1⟩ ⟨128 * (ht t).val + d.val, h2⟩) := by
  have e : iblk m c 4 t (ix2 r d) = V m c main_v43 (ix2 ⟨2112 * (bt t).val + r.val, h1⟩ ⟨128 * (ht t).val + d.val, h2⟩) := by
    unfold iblk
    generalize V m c (Pipeline.arrRef spec0 4) = A
    blk_ext [idx t]
  exact e.trans (by rw [V_v43])

theorem blk_l (t : Fin cfg0.N) (r : Fin 2112) (d : Fin 128) (h1 : 2112 * (bt t).val + r.val < 4224) :
    (blk m c t).l (ix3 0 r d) = lanes (ls (aq m c) (ak m c)) (ix3 (ht t) ⟨2112 * (bt t).val + r.val, h1⟩ d) := by
  have e : iblk m c 5 t (ix3 0 r d) = V m c main_v30 (ix3 (ht t) ⟨2112 * (bt t).val + r.val, h1⟩ d) := by
    unfold iblk
    generalize V m c (Pipeline.arrRef spec0 5) = A
    blk_ext [idx t]
  exact e.trans (by rw [V_v30])

end entry
end Cert.Proof.KernelIdeal
-- ==== Proof.AttnRef.lean ====
/-
  The reference's gradients in stages, and each stage read at an index.
-/
module

public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.Proof.ReferenceIdeal

open Cert.ReferenceIdeal Cert.ReferenceIdeal.Gen
open Idealize.ShloMosaic Idealize.ShloMosaic.TcCoe

/-- The arrays of the arguments. -/
abbrev QK := FVec Ideal S2x2064x4x192 .f32
abbrev VO := FVec Ideal S2x2064x4x128 .f32

/-- A position moved behind the padding. -/
def pos48 : IVec S2064 32 := addi (iotaInDim S2064 32 0) (broadcastInDim S2064 ![] bcast_S_S2064 (constantI S_ 32 48#32))
/-- The length of a chunk. -/
def c64 : IVec S2064 32 := broadcastInDim S2064 ![] bcast_S_S2064 (id (constantI S_ 32 64#32))
/-- A position's chunk. -/
def cid : IVec S2064 32 :=
  select (andi (cmpi .ne (signi pos48) (broadcastInDim S2064 ![] bcast_S_S2064 (signi (id (constantI S_ 32 64#32)))))
      (cmpi .ne (Host.remsi pos48 c64) (broadcastInDim S2064 ![] bcast_S_S2064 (constantI S_ 32 0#32))))
    (subi (Host.divsi pos48 c64) (broadcastInDim S2064 ![] bcast_S_S2064 (constantI S_ 32 1#32))) (Host.divsi pos48 c64)
/-- Which key a query sees. -/
def msk : IVec S2064x2064 1 :=
  cmpi .sle (broadcastInDim S2064x2064 ![0, 1] bcast_S1x2064_S2064x2064_0_1 (broadcastInDim S1x2064 ![1] bcast_S2064_S1x2064_1 cid))
    (broadcastInDim S2064x2064 ![0, 1] bcast_S2064x1_S2064x2064_0_1 (broadcastInDim S2064x1 ![0] bcast_S2064_S2064x1_0 cid))
/-- The masked scores. -/
def sM (q k : QK) : FVec Ideal S2x4x2064x2064 .f32 :=
  select (broadcastInDim S2x4x2064x2064 ![0, 1, 2, 3] bcast_S1x1x2064x2064_S2x4x2064x2064_0_1_2_3 (broadcastInDim S1x1x2064x2064 ![2, 3] bcast_S2064x2064_S1x1x2064x2064_2_3 msk))
    (Host.dotGeneral dot_S2x2064x4x192_S2x2064x4x192_S2x4x2064x2064_3_3_1_1_02_02 none q k)
    (broadcastInDim S2x4x2064x2064 ![] bcast_S_S2x4x2064x2064 (id (constant S_ .f32 0xFF800000#32)))
/-- A row's number, for every key. -/
def wide (x : FVec Ideal S2x4x2064 .f32) : FVec Ideal S2x4x2064x2064 .f32 :=
  broadcastInDim S2x4x2064x2064 ![0, 1, 2, 3] bcast_S2x4x2064x1_S2x4x2064x2064_0_1_2_3 (broadcastInDim S2x4x2064x1 ![0, 1, 2] bcast_S2x4x2064_S2x4x2064x1_0_1_2 x)
/-- A row's largest score, at least the mask. -/
def mxr (q k : QK) : FVec Ideal S2x4x2064 .f32 :=
  maximumf (broadcastInDim S2x4x2064 ![] bcast_S_S2x4x2064 (constant S_ .f32 0xFF800000#32)) (Host.reduce FloatOps.maximumf (sM q k) (constant S_ .f32 0xFF800000#32) reducesTo_S2x4x2064x2064_S2x4x2064_d3 h_S_)
/-- The exponentials of the scores. -/
def ex (q k : QK) : FVec Ideal S2x4x2064x2064 .f32 := Host.exp (subf (sM q k) (wide (mxr q k)))
/-- A row's sum of exponentials. -/
def zs (q k : QK) : FVec Ideal S2x4x2064 .f32 := Host.reduceAdd (ex q k) (constant S_ .f32 0x00000000#32) reducesTo_S2x4x2064x2064_S2x4x2064_d3 h_S_
/-- The cotangents with their positions last. -/
def ctT (g : VO) : FVec Ideal S2x4x128x2064 .f32 := transpose S2x4x128x2064 [0, 2, 3, 1] g transposes_S2x2064x4x128_S2x4x128x2064_0_2_3_1
/-- The weights' cotangents. -/
def dp (v g : VO) : FVec Ideal S2x4x2064x2064 .f32 := Host.dotGeneral dot_S2x4x128x2064_S2x2064x4x128_S2x4x2064x2064_2_3_3_1_01_02 none (ctT g) v
/-- One over a row's squared sum. -/
def isq (z : FVec Ideal S2x4x2064 .f32) : FVec Ideal S2x4x2064x1 .f32 :=
  Host.divf (broadcastInDim S2x4x2064x1 ![] bcast_S_S2x4x2064x1 (constant S_ .f32 0x3F800000#32)) (mulf (broadcastInDim S2x4x2064x1 ![0, 1, 2] bcast_S2x4x2064_S2x4x2064x1_0_1_2 z) (broadcastInDim S2x4x2064x1 ![0, 1, 2] bcast_S2x4x2064_S2x4x2064x1_0_1_2 z))
/-- The sum's cotangent, before its sign. -/
def dz (D E : FVec Ideal S2x4x2064x2064 .f32) (z : FVec Ideal S2x4x2064 .f32) : FVec Ideal S2x4x2064 .f32 :=
  Host.reduceAdd (mulf (mulf D (broadcastInDim S2x4x2064x2064 ![0, 1, 2, 3] bcast_S2x4x2064x1_S2x4x2064x2064_0_1_2_3 (isq z))) E) (constant S_ .f32 0x00000000#32) reducesTo_S2x4x2064x2064_S2x4x2064_d3 h_S_
/-- The sum's cotangent. -/
def ndz (x : FVec Ideal S2x4x2064 .f32) : FVec Ideal S2x4x2064 .f32 :=
  Host.reduceAdd (Host.negf (shapeCast S2x4x2064x1 x shapeCasts_S2x4x2064_S2x4x2064x1)) (constant S_ .f32 0x00000000#32) reducesTo_S2x4x2064x1_S2x4x2064_d3 h_S_
/-- The masked scores' cotangents, of the weights' cotangents, the exponentials and their sum. -/
def dsOf (D E : FVec Ideal S2x4x2064x2064 .f32) (z : FVec Ideal S2x4x2064 .f32) : FVec Ideal S2x4x2064x2064 .f32 :=
  select (broadcastInDim S2x4x2064x2064 ![0, 1, 2, 3] bcast_S1x1x2064x2064_S2x4x2064x2064_0_1_2_3 (broadcastInDim S1x1x2064x2064 ![2, 3] bcast_S2064x2064_S1x1x2064x2064_2_3 msk))
    (mulf (addf (Host.divf D (wide z)) (broadcastInDim S2x4x2064x2064 ![0, 1, 2] bcast_S2x4x2064_S2x4x2064x2064_0_1_2 (ndz (dz D E z)))) E)
    (broadcastInDim S2x4x2064x2064 ![] bcast_S_S2x4x2064x2064 (constant S_ .f32 0x00000000#32))
/-- The queries' gradients, of the scores' cotangents and the keys. -/
def gqOf (S : FVec Ideal S2x4x2064x2064 .f32) (k : QK) : QK :=
  transpose S2x2064x4x192 [0, 2, 1, 3] (Host.dotGeneral dot_S2x4x2064x2064_S2x2064x4x192_S2x4x2064x192_3_1_2_3_01_02 none S k) transposes_S2x4x2064x192_S2x2064x4x192_0_2_1_3
/-- The keys' gradients, of the scores' cotangents and the queries. -/
def gkOf (S : FVec Ideal S2x4x2064x2064 .f32) (q : QK) : QK :=
  transpose S2x2064x4x192 [0, 2, 1, 3] (Host.dotGeneral dot_S2x4x2064x2064_S2x2064x4x192_S2x4x2064x192_2_1_3_3_01_02 none S q) transposes_S2x4x2064x192_S2x2064x4x192_0_2_1_3
/-- The values' gradients, of the exponentials, their sum and the cotangents. -/
def gvOf (E : FVec Ideal S2x4x2064x2064 .f32) (z : FVec Ideal S2x4x2064 .f32) (g : VO) : VO :=
  transpose S2x2064x4x128 [0, 3, 1, 2] (Host.dotGeneral dot_S2x4x128x2064_S2x4x2064x2064_S2x4x128x2064_3_2_2_3_01_01 none (ctT g) (Host.divf E (wide z))) transposes_S2x4x128x2064_S2x2064x4x128_0_3_1_2
/-- The padding's zero. -/
def zero : FVec Ideal S_ .f32 := sitofp .f32 (constantI S_ 32 0#32)
/-- Gradients of queries or keys as the results hold them. -/
def slabQ (x : QK) : FVec Ideal S4224x1024 .f32 :=
  shapeCast _ (pad S2x2112x4x256 ![0, 48, 0, 0] ![0, 0, 0, 64] ![0, 0, 0, 0] x zero pads_S2x2064x4x192_S2x2112x4x256_000_4800_000_0640 h_S_) shapeCasts_S2x2112x4x256_S4224x1024
/-- Gradients of values as the results hold them. -/
def slabV (x : VO) : FVec Ideal S4224x512 .f32 :=
  shapeCast _ (pad S2x2112x4x128 ![0, 48, 0, 0] ![0, 0, 0, 0] ![0, 0, 0, 0] x zero pads_S2x2064x4x128_S2x2112x4x128_000_4800_000_000 h_S_) shapeCasts_S2x2112x4x128_S4224x512

/-- The masked scores' cotangents. -/
def dsr (q k : QK) (v g : VO) : FVec Ideal S2x4x2064x2064 .f32 := dsOf (dp v g) (ex q k) (zs q k)

section results
variable (m : (ℓ : Loc nD τ sig) → Buf (Elt Ideal) ℓ) (c : Dev nD)
/-- The arguments. -/
abbrev aq : QK := m ((c.tc : Thread nD τ).loc main_arg0)
abbrev ak : QK := m ((c.tc : Thread nD τ).loc main_arg1)
abbrev av : VO := m ((c.tc : Thread nD τ).loc main_arg2)
abbrev ag : VO := m ((c.tc : Thread nD τ).loc main_arg3)

theorem out0_eq : Cert.ReferenceIdeal.Value.res_main_v64 m c = slabQ (gqOf (dsr (aq m c) (ak m c) (av m c) (ag m c)) (ak m c)) := by
  unfold Cert.ReferenceIdeal.Value.res_main_v64
  rfl
theorem out1_eq : Cert.ReferenceIdeal.Value.res_main_v66 m c = slabQ (gkOf (dsr (aq m c) (ak m c) (av m c) (ag m c)) (aq m c)) := by
  unfold Cert.ReferenceIdeal.Value.res_main_v66
  rfl
theorem out2_eq : Cert.ReferenceIdeal.Value.res_main_v68 m c = slabV (gvOf (ex (aq m c) (ak m c)) (zs (aq m c) (ak m c)) (ag m c)) := by
  unfold Cert.ReferenceIdeal.Value.res_main_v68
  rfl
end results

/-- A position's chunk, of sixty-four after the padding. -/
theorem cid_at (i : Fin 2064) : cid (ix1 i) = BitVec.ofNat 32 ((i.val + 48) / 64) := by
  have e : cid (ix1 i) = Scalar.select
      (IntOp.andi
        (IntOp.cmpi CmpIPredicate.ne
          (if IntOp.addi (BitVec.ofNat 32 i.val) 48#32 = 0 then 0 else if (IntOp.addi (BitVec.ofNat 32 i.val) 48#32).msb = true then (-1 : BitVec 32) else 1)
          (if 64#32 = 0 then 0 else if (64#32).msb = true then (-1 : BitVec 32) else 1))
        (IntOp.cmpi CmpIPredicate.ne (IntOp.remsi ArithUnit.host (IntOp.addi (BitVec.ofNat 32 i.val) 48#32) 64#32) 0#32))
      (IntOp.subi (IntOp.divsi ArithUnit.host (IntOp.addi (BitVec.ofNat 32 i.val) 48#32) 64#32) 1#32)
      (IntOp.divsi ArithUnit.host (IntOp.addi (BitVec.ofNat 32 i.val) 48#32) 64#32) := by
    unfold cid c64 pos48
    pointwise
    rfl
  rw [e]
  clear e
  revert i
  decide +kernel

theorem ofBits_negInf : Ideal.ofBits FTy.f32 4286578688#32 = (⊥ : EReal) := rfl

theorem sM_at (q k : QK) (b : Fin 2) (h : Fin 4) (i j : Fin 2064) :
    sM q k (ix4 b h i j) = if (j.val + 48) / 64 ≤ (i.val + 48) / 64 then ∑ d, q (ix4 b i h d) * k (ix4 b j h d) else ⊥ := by
  have e : sM q k (ix4 b h i j) = Scalar.select (IntOp.cmpi CmpIPredicate.sle (cid (ix1 j)) (cid (ix1 i))) (∑ x, q (ix4 b i h x) * k (ix4 b j h x) : EReal) (⊥ : EReal) := by
    unfold sM msk
    pointwise
    rfl
  have hi := i.isLt
  have hj := j.isLt
  rw [e, cid_at, cid_at, WordCmp.cmpi_sle_ofNat (by norm_num; omega) (by norm_num; omega), WordCmp.select_ofBool]
  simp only [decide_eq_true_eq]

theorem ofBits_one : Ideal.ofBits FTy.f32 1065353216#32 = (1 : EReal) := by
  exact Ideal.ofBits_one_f32

theorem rowmax (X : FVec Ideal S2x4x2064x2064 .f32) (b : Fin 2) (h : Fin 4) (i : Fin 2064) :
    Host.reduce FloatOps.maximumf X (constant (F := Ideal) S_ .f32 0xFF800000#32) reducesTo_S2x4x2064x2064_S2x4x2064_d3 h_S_ (ix3 b h i) = Finset.fold max ⊥ (fun j => X (ix4 b h i j)) Finset.univ := by
  rw [← ofBits_negInf]
  pointwise

theorem atLeast (M : FVec Ideal S2x4x2064 .f32) (b : Fin 2) (h : Fin 4) (i : Fin 2064) :
    maximumf (broadcastInDim S2x4x2064 ![] bcast_S_S2x4x2064 (constant S_ .f32 0xFF800000#32)) M (ix3 b h i) = max (Ideal.ofBits FTy.f32 4286578688#32) (M (ix3 b h i)) := by
  pointwise

theorem mxr_at (q k : QK) (b : Fin 2) (h : Fin 4) (i : Fin 2064) :
    mxr q k (ix3 b h i) = max (⊥ : EReal) (Finset.fold max ⊥ (fun j => sM q k (ix4 b h i j)) Finset.univ) := by
  unfold mxr
  rw [atLeast, rowmax, ofBits_negInf]

theorem expOf (X : FVec Ideal S2x4x2064x2064 .f32) (M : FVec Ideal S2x4x2064 .f32) (b : Fin 2) (h : Fin 4) (i j : Fin 2064) :
    Host.exp (subf X (wide M)) (ix4 b h i j) = Ideal.exp (X (ix4 b h i j) - M (ix3 b h i)) := by
  unfold wide
  pointwise

theorem ex_at (q k : QK) (b : Fin 2) (h : Fin 4) (i j : Fin 2064) :
    ex q k (ix4 b h i j) = Ideal.exp (sM q k (ix4 b h i j) - mxr q k (ix3 b h i)) := by
  unfold ex
  exact expOf _ _ b h i j

theorem zs_at (q k : QK) (b : Fin 2) (h : Fin 4) (i : Fin 2064) :
    zs q k (ix3 b h i) = ∑ j, ex q k (ix4 b h i j) := by
  unfold zs
  generalize ex q k = X
  pointwise

theorem dp_at (v g : VO) (b : Fin 2) (h : Fin 4) (i j : Fin 2064) :
    dp v g (ix4 b h i j) = ∑ d, g (ix4 b i h d) * v (ix4 b j h d) := by
  unfold dp ctT
  pointwise

theorem dz_at (D E : FVec Ideal S2x4x2064x2064 .f32) (z : FVec Ideal S2x4x2064 .f32) (b : Fin 2) (h : Fin 4) (i : Fin 2064) :
    dz D E z (ix3 b h i) = ∑ j, D (ix4 b h i j) * Ideal.div 1 (z (ix3 b h i) * z (ix3 b h i)) * E (ix4 b h i j) := by
  rw [← ofBits_one]
  unfold dz isq
  pointwise

theorem ndz_at (x : FVec Ideal S2x4x2064 .f32) (b : Fin 2) (h : Fin 4) (i : Fin 2064) :
    ndz x (ix3 b h i) = - x (ix3 b h i) := by
  unfold ndz
  pointwise
  exact Fin.sum_univ_one _

theorem dsOf_at (D E : FVec Ideal S2x4x2064x2064 .f32) (z : FVec Ideal S2x4x2064 .f32) (b : Fin 2) (h : Fin 4) (i j : Fin 2064) :
    dsOf D E z (ix4 b h i j) = if (j.val + 48) / 64 ≤ (i.val + 48) / 64 then
      (Ideal.div (D (ix4 b h i j)) (z (ix3 b h i)) + - (dz D E z (ix3 b h i))) * E (ix4 b h i j) else 0 := by
  have e : dsOf D E z (ix4 b h i j) = Scalar.select (IntOp.cmpi CmpIPredicate.sle (cid (ix1 j)) (cid (ix1 i))) ((Ideal.div (D (ix4 b h i j)) (z (ix3 b h i)) + (ndz (dz D E z) (ix3 b h i))) * E (ix4 b h i j) : EReal) (0 : EReal) := by
    rw [← Ideal.ofBits_zero_f32]
    unfold dsOf msk wide
    generalize ndz (dz D E z) = N
    pointwise
    try rfl
  have hi := i.isLt
  have hj := j.isLt
  rw [e, cid_at, cid_at, WordCmp.cmpi_sle_ofNat (by norm_num; omega) (by norm_num; omega), WordCmp.select_ofBool, ndz_at]
  simp only [decide_eq_true_eq]

theorem gqOf_at (S : FVec Ideal S2x4x2064x2064 .f32) (k : QK) (b : Fin 2) (h : Fin 4) (i : Fin 2064) (d : Fin 192) :
    gqOf S k (ix4 b i h d) = ∑ j, S (ix4 b h i j) * k (ix4 b j h d) := by
  unfold gqOf
  pointwise

theorem gkOf_at (S : FVec Ideal S2x4x2064x2064 .f32) (q : QK) (b : Fin 2) (h : Fin 4) (j : Fin 2064) (d : Fin 192) :
    gkOf S q (ix4 b j h d) = ∑ i, S (ix4 b h i j) * q (ix4 b i h d) := by
  unfold gkOf
  pointwise

theorem gvOf_at (E : FVec Ideal S2x4x2064x2064 .f32) (z : FVec Ideal S2x4x2064 .f32) (g : VO) (b : Fin 2) (h : Fin 4) (j : Fin 2064) (d : Fin 128) :
    gvOf E z g (ix4 b j h d) = ∑ i, g (ix4 b i h d) * Ideal.div (E (ix4 b h i j)) (z (ix3 b h i)) := by
  unfold gvOf ctT wide
  pointwise

theorem zero_at : (FloatOps.sitofp FTy.f32 0#32 : Ideal .f32) = (0 : EReal) := by
  show (((0#32 : BitVec 32).toInt : ℝ) : EReal) = 0
  simp

theorem slabQ_at (x : QK) (b : Fin 2) (r : Fin 2112) (h : Fin 4) (d : Fin 256) (h1 : 2112 * b.val + r.val < 4224) (h2 : 256 * h.val + d.val < 1024) :
    slabQ x (ix2 ⟨2112 * b.val + r.val, h1⟩ ⟨256 * h.val + d.val, h2⟩) = if hh : 48 ≤ r.val ∧ d.val < 192 then x (ix4 b ⟨r.val - 48, by omega⟩ h ⟨d.val, hh.2⟩) else 0 := by
  unfold slabQ zero
  pointwise
  rw [zero_at]
  have hr := r.isLt
  by_cases hh : 48 ≤ r.val ∧ d.val < 192
  · rw [dif_pos hh, dif_pos ⟨⟨hh.1, by omega⟩, hh.2⟩]
  · rw [dif_neg hh, dif_neg (fun hc => hh ⟨hc.1.1, hc.2⟩)]

theorem slabV_at (x : VO) (b : Fin 2) (r : Fin 2112) (h : Fin 4) (d : Fin 128) (h1 : 2112 * b.val + r.val < 4224) (h2 : 128 * h.val + d.val < 512) :
    slabV x (ix2 ⟨2112 * b.val + r.val, h1⟩ ⟨128 * h.val + d.val, h2⟩) = if hh : 48 ≤ r.val then x (ix4 b ⟨r.val - 48, by omega⟩ h d) else 0 := by
  unfold slabV zero
  pointwise
  rw [zero_at]
  have hr := r.isLt
  by_cases hh : 48 ≤ r.val
  · rw [dif_pos hh, dif_pos ⟨hh, by omega⟩]
  · rw [dif_neg hh, dif_neg (fun hc => hh hc.1)]

end Cert.Proof.ReferenceIdeal
-- ==== Proof.AttnReal.lean ====
/-
  A softmax row over the reals: the weights by the row's logarithm of the sum, the weights by the row's sum, and the
  gradient of the scores in its two forms.
-/
module

public import Idealize.ShloMosaic.Lib.Pipeline.ValueKit

@[expose] public section

noncomputable section

namespace Cert.Proof.Row

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

theorem coe_dot {ι : Type*} (s : Finset ι) (f g : ι → ℝ) : ∑ i ∈ s, ((f i : EReal) * (g i : EReal)) = ((∑ i ∈ s, f i * g i : ℝ) : EReal) := by
  rw [← coe_sum]
  exact Finset.sum_congr rfl fun i _ => (EReal.coe_mul _ _).symm

theorem div_real {x y : ℝ} (h : y ≠ 0) : Ideal.div (x : EReal) (y : EReal) = ((x / y : ℝ) : EReal) := by
  rw [Ideal.div_coe h, ← EReal.coe_mul]
  congr 1
  ring

section row
variable {n : ℕ} (vis : Fin n → Prop) [DecidablePred vis] (s : Fin n → ℝ)

/-- A row's masked scores. -/
def S (j : Fin n) : EReal := if vis j then (s j : EReal) else ⊥
/-- A row's largest masked score. -/
def top : EReal := Finset.fold max ⊥ (S vis s) Finset.univ
/-- A row's logarithm of the sum of exponentials. -/
def lse : EReal := top vis s + Ideal.log (∑ j, Ideal.exp (S vis s j - top vis s))
/-- The exponentials against the row's largest score. -/
def ex (j : Fin n) : EReal := Ideal.exp (S vis s j - max ⊥ (top vis s))
/-- Their sum. -/
def zs : EReal := ∑ j, ex vis s j

theorem top_real (w : ∃ j, vis j) : ∃ M : ℝ, top vis s = (M : EReal) := by
  obtain ⟨j, hj⟩ := w
  have h1 : (s j : EReal) ≤ top vis s := by
    refine Finset.le_fold_max _ |>.mpr (Or.inr ⟨j, Finset.mem_univ j, ?_⟩)
    rw [S, if_pos hj]
  have h2 : top vis s < ⊤ := by
    refine Finset.fold_max_lt _ |>.mpr ⟨bot_lt_top, fun i _ => ?_⟩
    unfold S
    split
    · exact EReal.coe_lt_top _
    · exact bot_lt_top
  have h3 : top vis s ≠ ⊥ := ne_of_gt (lt_of_lt_of_le (EReal.bot_lt_coe _) h1)
  exact ⟨(top vis s).toReal, (EReal.coe_toReal h2.ne h3).symm⟩

/-- A masked exponential is a real. -/
theorem exp_real (x : ℝ) (j : Fin n) : Ideal.exp (S vis s j - (x : EReal)) = ((if vis j then Real.exp (s j - x) else 0 : ℝ) : EReal) := by
  unfold S
  by_cases h : vis j
  · rw [if_pos h, if_pos h, ← EReal.coe_sub, Ideal.exp_coe]
  · rw [if_neg h, if_neg h, EReal.bot_sub]
    rfl

theorem row (w : ∃ j, vis j) : ∃ p : Fin n → ℝ, (∀ j, ¬ vis j → p j = 0)
    ∧ (∀ j, Ideal.exp (S vis s j - lse vis s) = (p j : EReal))
    ∧ (∀ j, Ideal.div (ex vis s j) (zs vis s) = (p j : EReal))
    ∧ ∀ (d : Fin n → ℝ) (j : Fin n), (Ideal.div (d j : EReal) (zs vis s) + -(∑ k, (d k : EReal) * Ideal.div 1 (zs vis s * zs vis s) * ex vis s k)) * ex vis s j
        = ((p j * (d j - ∑ k, p k * d k) : ℝ) : EReal) := by
  obtain ⟨M, hM⟩ := top_real vis s w
  have hE : ∀ j, ex vis s j = ((if vis j then Real.exp (s j - M) else 0 : ℝ) : EReal) := fun j => by
    rw [ex, hM, max_eq_right bot_le, exp_real]
  set E : Fin n → ℝ := fun j => if vis j then Real.exp (s j - M) else 0 with hEd
  have hE' : ∀ j, ex vis s j = (E j : EReal) := hE
  have hZ : zs vis s = ((∑ j, E j : ℝ) : EReal) := by
    rw [zs, ← coe_sum]
    exact Finset.sum_congr rfl fun j _ => hE' j
  set Z : ℝ := ∑ j, E j with hZd
  have hpos : 0 < Z := by
    obtain ⟨j, hj⟩ := w
    refine Finset.sum_pos' (fun i _ => ?_) ⟨j, Finset.mem_univ j, ?_⟩
    · simp only [hEd]; split
      · exact (Real.exp_pos _).le
      · exact le_rfl
    · simp only [hEd, if_pos hj]; exact Real.exp_pos _
  have hne : Z ≠ 0 := hpos.ne'
  have hL : lse vis s = ((M + Real.log Z : ℝ) : EReal) := by
    rw [lse, hM]
    have : ∑ j, Ideal.exp (S vis s j - (M : EReal)) = (Z : EReal) := by
      rw [hZd, ← coe_sum]
      exact Finset.sum_congr rfl fun j _ => exp_real vis s M j
    rw [this, Ideal.log_coe, if_neg (not_le.mpr hpos), ← EReal.coe_add]
  clear_value Z
  refine ⟨fun j => E j / Z, fun j hj => ?_, fun j => ?_, fun j => ?_, fun d j => ?_⟩
  · simp only [hEd, if_neg hj, zero_div]
  · rw [hL, exp_real]
    congr 1
    by_cases h : vis j
    · simp only [hEd, if_pos h]
      rw [← sub_sub, Real.exp_sub, Real.exp_log hpos]
    · simp only [hEd, if_neg h, zero_div]
  · rw [hE', hZ, div_real hpos.ne']
  · have hs : ∑ k, (d k : EReal) * Ideal.div 1 (zs vis s * zs vis s) * ex vis s k = ((∑ k, d k * (1 / (Z * Z)) * E k : ℝ) : EReal) := by
      rw [← coe_sum]
      refine Finset.sum_congr rfl fun k _ => ?_
      rw [hZ, ← EReal.coe_mul, ← EReal.coe_one, div_real (mul_pos hpos hpos).ne', hE', ← EReal.coe_mul, ← EReal.coe_mul]
    rw [hs, hZ, div_real hpos.ne', hE', ← EReal.coe_neg, ← EReal.coe_add, ← EReal.coe_mul]
    congr 1
    have : ∑ k, d k * (1 / (Z * Z)) * E k = (1 / Z) * ∑ k, E k / Z * d k := by
      rw [Finset.mul_sum Finset.univ (fun k => E k / Z * d k)]
      apply Finset.sum_congr rfl
      intro k _
      field_simp
    rw [this]
    field_simp
    ring

end row

/-- A sum over a padded row's positions, where the padding's terms are zero. -/
theorem padded_rows (f : ℕ → EReal) (h : ∀ K, K < 48 → f K = 0) : ∑ K ∈ Finset.range 2112, f K = ∑ j : Fin 2064, f (48 + j.val) := by
  rw [show (2112 : ℕ) = 48 + 2064 from rfl, Finset.sum_range_add, Finset.sum_eq_zero (fun K hK => h K (Finset.mem_range.mp hK)), zero_add, Finset.sum_range]

/-- A sum over padded columns, where the padding's terms are zero. -/
theorem padded_columns (f : Fin 256 → EReal) (h : ∀ d : Fin 256, 192 ≤ d.val → f d = 0) : ∑ d, f d = ∑ d : Fin 192, f ⟨d.val, by omega⟩ := by
  have e := Fin.sum_univ_add (a := 192) (b := 64) (fun d : Fin (192 + 64) => f d)
  refine e.trans ?_
  rw [Finset.sum_eq_zero (s := Finset.univ) (f := fun i : Fin 64 => f (Fin.natAdd 192 i)) (fun i _ => h _ (by simp [Fin.natAdd])), add_zero]
  rfl

end Cert.Proof.Row
-- ==== Proof.AttnEq.lean ====
/-
  The numbers of a grid point, kernel and reference, for finite arguments: both are one real softmax row's gradient.
-/
module

public import proofs.«01_k».proof.Proof.AttnBlk
public import proofs.«01_k».proof.Proof.AttnRef
public import proofs.«01_k».proof.Proof.AttnReal

@[expose] public section

set_option maxRecDepth 16384

noncomputable section

namespace Cert.Proof.KernelIdeal

open Cert.KernelIdeal Cert.KernelIdeal.Gen
open Idealize.ShloMosaic Idealize.ShloMosaic.TcCoe
open Cert.Proof

/-- Which key a query sees. -/
abbrev vis (i j : Fin 2064) : Prop := (j.val + 48) / 64 ≤ (i.val + 48) / 64

/-- The arguments are real numbers. -/
structure Reals (q k : QK) (v g : VO) where
  qr : S2x2064x4x192.Idx → ℝ
  kr : S2x2064x4x192.Idx → ℝ
  vr : S2x2064x4x128.Idx → ℝ
  gr : S2x2064x4x128.Idx → ℝ
  hq : ∀ i, q i = (qr i : EReal)
  hk : ∀ i, k i = (kr i : EReal)
  hv : ∀ i, v i = (vr i : EReal)
  hg : ∀ i, g i = (gr i : EReal)

namespace Reals
variable {q k : QK} {v g : VO} (R : Reals q k v g)

/-- A score. -/
def s (b : Fin 2) (h : Fin 4) (i j : Fin 2064) : ℝ := ∑ d : Fin 192, R.qr (ix4 b i h d) * R.kr (ix4 b j h d)
/-- A weight's cotangent. -/
def dp (b : Fin 2) (h : Fin 4) (i j : Fin 2064) : ℝ := ∑ d : Fin 128, R.gr (ix4 b i h d) * R.vr (ix4 b j h d)
/-- A weight. -/
def p (b : Fin 2) (h : Fin 4) (i : Fin 2064) : Fin 2064 → ℝ := Classical.choose (Row.row (vis i) (R.s b h i) ⟨i, le_rfl⟩)
theorem p_spec (b : Fin 2) (h : Fin 4) (i : Fin 2064) : (∀ j, ¬ vis i j → R.p b h i j = 0)
    ∧ (∀ j, Ideal.exp (Row.S (vis i) (R.s b h i) j - Row.lse (vis i) (R.s b h i)) = (R.p b h i j : EReal))
    ∧ (∀ j, Ideal.div (Row.ex (vis i) (R.s b h i) j) (Row.zs (vis i) (R.s b h i)) = (R.p b h i j : EReal))
    ∧ ∀ (d : Fin 2064 → ℝ) (j : Fin 2064), (Ideal.div (d j : EReal) (Row.zs (vis i) (R.s b h i)) + -(∑ k, (d k : EReal) * Ideal.div 1 (Row.zs (vis i) (R.s b h i) * Row.zs (vis i) (R.s b h i)) * Row.ex (vis i) (R.s b h i) k)) * Row.ex (vis i) (R.s b h i) j
        = ((R.p b h i j * (d j - ∑ k, R.p b h i k * d k) : ℝ) : EReal) := Classical.choose_spec (Row.row (vis i) (R.s b h i) ⟨i, le_rfl⟩)
/-- A score's gradient. -/
def ds (b : Fin 2) (h : Fin 4) (i j : Fin 2064) : ℝ := R.p b h i j * (R.dp b h i j - ∑ κ, R.p b h i κ * R.dp b h i κ)

theorem dot_qk (b : Fin 2) (h : Fin 4) (i j : Fin 2064) : ∑ d : Fin 192, (q (ix4 b i h d) * k (ix4 b j h d) : EReal) = (R.s b h i j : EReal) := by
  rw [s, ← Row.coe_dot]
  exact Finset.sum_congr rfl fun d _ => by rw [R.hq, R.hk]

theorem dot_gv (b : Fin 2) (h : Fin 4) (i j : Fin 2064) : ∑ d : Fin 128, (g (ix4 b i h d) * v (ix4 b j h d) : EReal) = (R.dp b h i j : EReal) := by
  rw [dp, ← Row.coe_dot]
  exact Finset.sum_congr rfl fun d _ => by rw [R.hg, R.hv]

/-! The host part of the kernel. -/

theorem sM_row (b : Fin 2) (h : Fin 4) (i j : Fin 2064) : sM q k (ix4 b h i j) = Row.S (vis i) (R.s b h i) j := by
  rw [sM_at, Row.S, R.dot_qk]
theorem mx_row (b : Fin 2) (h : Fin 4) (i : Fin 2064) : mx q k (ix3 b h i) = Row.top (vis i) (R.s b h i) := by
  rw [mx_at, Row.top]
  exact congrArg (fun f => Finset.fold max (⊥ : EReal) f Finset.univ) (funext fun j => R.sM_row b h i j)
theorem ls_row (b : Fin 2) (h : Fin 4) (i : Fin 2064) : ls q k (ix3 b h i) = Row.lse (vis i) (R.s b h i) := by
  rw [ls_at, Row.lse, R.mx_row]
  exact congrArg (fun X : EReal => Row.top (vis i) (R.s b h i) + Ideal.log X) (Finset.sum_congr rfl fun j _ => by rw [R.sM_row])
theorem outp_row (b : Fin 2) (h : Fin 4) (i : Fin 2064) (d : Fin 128) :
    outp q k v (ix4 b i h d) = ((∑ j, R.vr (ix4 b j h d) * R.p b h i j : ℝ) : EReal) := by
  rw [outp_at, ← Row.coe_dot]
  exact Finset.sum_congr rfl fun j _ => by rw [R.sM_row, R.ls_row, R.hv, (R.p_spec b h i).2.1 j]

/-! The reference. -/

theorem ref_sM_row (b : Fin 2) (h : Fin 4) (i j : Fin 2064) : ReferenceIdeal.sM q k (ix4 b h i j) = Row.S (vis i) (R.s b h i) j := by
  rw [ReferenceIdeal.sM_at, Row.S, R.dot_qk]
theorem ref_mx_row (b : Fin 2) (h : Fin 4) (i : Fin 2064) : ReferenceIdeal.mxr q k (ix3 b h i) = max ⊥ (Row.top (vis i) (R.s b h i)) := by
  rw [ReferenceIdeal.mxr_at, Row.top]
  exact congrArg (fun f => max (⊥ : EReal) (Finset.fold max (⊥ : EReal) f Finset.univ)) (funext fun j => R.ref_sM_row b h i j)
theorem ref_ex_row (b : Fin 2) (h : Fin 4) (i j : Fin 2064) : ReferenceIdeal.ex q k (ix4 b h i j) = Row.ex (vis i) (R.s b h i) j := by
  rw [ReferenceIdeal.ex_at, R.ref_sM_row, R.ref_mx_row, Row.ex]
theorem ref_zs_row (b : Fin 2) (h : Fin 4) (i : Fin 2064) : ReferenceIdeal.zs q k (ix3 b h i) = Row.zs (vis i) (R.s b h i) := by
  rw [ReferenceIdeal.zs_at, Row.zs]
  exact Finset.sum_congr rfl fun j _ => R.ref_ex_row b h i j
theorem ref_dp_row (b : Fin 2) (h : Fin 4) (i j : Fin 2064) : ReferenceIdeal.dp v g (ix4 b h i j) = (R.dp b h i j : EReal) := by
  rw [ReferenceIdeal.dp_at, R.dot_gv]
theorem ref_ds_row (b : Fin 2) (h : Fin 4) (i j : Fin 2064) : ReferenceIdeal.dsr q k v g (ix4 b h i j) = (R.ds b h i j : EReal) := by
  rw [ReferenceIdeal.dsr, ReferenceIdeal.dsOf_at]
  by_cases hv : vis i j
  · rw [if_pos hv, ReferenceIdeal.dz_at, R.ref_zs_row, R.ref_dp_row, R.ref_ex_row]
    have e : ∑ κ, ReferenceIdeal.dp v g (ix4 b h i κ) * Ideal.div 1 (Row.zs (vis i) (R.s b h i) * Row.zs (vis i) (R.s b h i)) * ReferenceIdeal.ex q k (ix4 b h i κ)
        = ∑ κ, (R.dp b h i κ : EReal) * Ideal.div 1 (Row.zs (vis i) (R.s b h i) * Row.zs (vis i) (R.s b h i)) * Row.ex (vis i) (R.s b h i) κ :=
      Finset.sum_congr rfl fun κ _ => by rw [R.ref_dp_row, R.ref_ex_row]
    rw [e]
    exact (R.p_spec b h i).2.2.2 (R.dp b h i) j
  · rw [if_neg hv, ds]
    have := (R.p_spec b h i).1 j hv
    rw [show R.p b h i j = 0 from this, zero_mul, EReal.coe_zero]
theorem ref_gq (b : Fin 2) (h : Fin 4) (i : Fin 2064) (d : Fin 192) :
    ReferenceIdeal.gqOf (ReferenceIdeal.dsr q k v g) k (ix4 b i h d) = ∑ j, (R.ds b h i j : EReal) * k (ix4 b j h d) := by
  rw [ReferenceIdeal.gqOf_at]
  exact Finset.sum_congr rfl fun j _ => by rw [R.ref_ds_row]
theorem ref_gk (b : Fin 2) (h : Fin 4) (j : Fin 2064) (d : Fin 192) :
    ReferenceIdeal.gkOf (ReferenceIdeal.dsr q k v g) q (ix4 b j h d) = ∑ i, (R.ds b h i j : EReal) * q (ix4 b i h d) := by
  rw [ReferenceIdeal.gkOf_at]
  exact Finset.sum_congr rfl fun i _ => by rw [R.ref_ds_row]
theorem ref_gv (b : Fin 2) (h : Fin 4) (j : Fin 2064) (d : Fin 128) :
    ReferenceIdeal.gvOf (ReferenceIdeal.ex q k) (ReferenceIdeal.zs q k) g (ix4 b j h d) = ∑ i, (R.p b h i j : EReal) * g (ix4 b i h d) := by
  rw [ReferenceIdeal.gvOf_at]
  refine Finset.sum_congr rfl fun i _ => ?_
  rw [R.ref_ex_row, R.ref_zs_row, (R.p_spec b h i).2.2.1 j, mul_comm]

end Reals

theorem fold_const (a : EReal) : Finset.fold max (⊥ : EReal) (fun _ : Fin 128 => a) Finset.univ = a := by
  refine le_antisymm ?_ ?_
  · exact (Finset.fold_max_le _).mpr ⟨bot_le, fun _ _ => le_rfl⟩
  · exact (Finset.le_fold_max _).mpr (Or.inr ⟨0, Finset.mem_univ _, le_rfl⟩)

section point
variable (m : (ℓ : Loc nD τ sig) → Buf (Elt Ideal) ℓ) (c : Dev nD) (t : Fin cfg0.N)

theorem rowB_lt (I : ℕ) (hI : I < 2112) : 2112 * (bt t).val + I < 4224 := by have := (bt t).isLt; omega
theorem colB_lt (d : Fin 256) : 256 * (ht t).val + d.val < 1024 := by have := (ht t).isLt; omega
theorem colV_lt (d : Fin 128) : 128 * (ht t).val + d.val < 512 := by have := (ht t).isLt; omega

theorem rq_eq (I : ℕ) (hI : I < 2112) (d : Fin 256) :
    rq (blk m c t) I d = if hh : 48 ≤ I ∧ d.val < 192 then aq m c (ix4 (bt t) ⟨I - 48, by omega⟩ (ht t) ⟨d.val, hh.2⟩) else 0 := by
  rw [rq, dif_pos hI, blk_q m c t ⟨I, hI⟩ d (rowB_lt t I hI) (colB_lt t d)]
  exact slabQ_at (aq m c) (bt t) ⟨I, hI⟩ (ht t) d _ _
theorem rk_eq (I : ℕ) (hI : I < 2112) (d : Fin 256) :
    rk (blk m c t) I d = if hh : 48 ≤ I ∧ d.val < 192 then ak m c (ix4 (bt t) ⟨I - 48, by omega⟩ (ht t) ⟨d.val, hh.2⟩) else 0 := by
  rw [rk, dif_pos hI, blk_k m c t ⟨I, hI⟩ d (rowB_lt t I hI) (colB_lt t d)]
  exact slabQ_at (ak m c) (bt t) ⟨I, hI⟩ (ht t) d _ _
theorem rv_eq (I : ℕ) (hI : I < 2112) (d : Fin 128) :
    rv (blk m c t) I d = if hh : 48 ≤ I then av m c (ix4 (bt t) ⟨I - 48, by omega⟩ (ht t) d) else 0 := by
  rw [rv, dif_pos hI, blk_v m c t ⟨I, hI⟩ d (rowB_lt t I hI) (colV_lt t d)]
  exact slabV_at (av m c) (bt t) ⟨I, hI⟩ (ht t) d _ _
theorem ro_eq (I : ℕ) (hI : I < 2112) (d : Fin 128) :
    ro (blk m c t) I d = if hh : 48 ≤ I then outp (aq m c) (ak m c) (av m c) (ix4 (bt t) ⟨I - 48, by omega⟩ (ht t) d) else 0 := by
  rw [ro, dif_pos hI, blk_o m c t ⟨I, hI⟩ d (rowB_lt t I hI) (colV_lt t d)]
  exact slabV_at _ (bt t) ⟨I, hI⟩ (ht t) d _ _
theorem rg_eq (I : ℕ) (hI : I < 2112) (d : Fin 128) :
    rg (blk m c t) I d = if hh : 48 ≤ I then ag m c (ix4 (bt t) ⟨I - 48, by omega⟩ (ht t) d) else 0 := by
  rw [rg, dif_pos hI, blk_g m c t ⟨I, hI⟩ d (rowB_lt t I hI) (colV_lt t d)]
  exact slabV_at _ (bt t) ⟨I, hI⟩ (ht t) d _ _
theorem rl_eq (I : ℕ) (hI : I < 2112) :
    rl (blk m c t) I = if hh : 48 ≤ I then ls (aq m c) (ak m c) (ix3 (bt t) (ht t) ⟨I - 48, by omega⟩) else 0 := by
  rw [rl, dif_pos hI, ofBits_negInf]
  have e : (fun d : Fin 128 => (blk m c t).l (ix3 0 ⟨I, hI⟩ d)) = fun _ => if hh : 48 ≤ I then ls (aq m c) (ak m c) (ix3 (bt t) (ht t) ⟨I - 48, by omega⟩) else 0 := by
    funext d
    rw [blk_l m c t ⟨I, hI⟩ d (rowB_lt t I hI)]
    exact lanes_at _ (bt t) ⟨I, hI⟩ (ht t) d _
  rw [e, fold_const]

/-! The padding's rows and columns. -/
theorem rq_pad (I : ℕ) (hI : I < 48) (d : Fin 256) : rq (blk m c t) I d = 0 := by
  rw [rq_eq m c t I (by omega) d, dif_neg (fun h => by omega)]
theorem rg_pad (I : ℕ) (hI : I < 48) (d : Fin 128) : rg (blk m c t) I d = 0 := by
  rw [rg_eq m c t I (by omega) d, dif_neg (fun h => by omega)]
theorem rq_col (I : ℕ) (hI : I < 2112) (d : Fin 256) (hd : 192 ≤ d.val) : rq (blk m c t) I d = 0 := by
  rw [rq_eq m c t I hI d, dif_neg (fun h => by omega)]
theorem rk_col (I : ℕ) (hI : I < 2112) (d : Fin 256) (hd : 192 ≤ d.val) : rk (blk m c t) I d = 0 := by
  rw [rk_eq m c t I hI d, dif_neg (fun h => by omega)]

/-! The positions behind the padding. -/
theorem sub48 (i : Fin 2064) (h : 48 + i.val - 48 < 2064) : (⟨48 + i.val - 48, h⟩ : Fin 2064) = i := Fin.ext (by simp)
theorem rq_at (i : Fin 2064) (d : Fin 192) : rq (blk m c t) (48 + i.val) ⟨d.val, by omega⟩ = aq m c (ix4 (bt t) i (ht t) d) := by
  rw [rq_eq m c t _ (by omega) _, dif_pos ⟨by omega, d.isLt⟩, sub48]
theorem rk_at (i : Fin 2064) (d : Fin 192) : rk (blk m c t) (48 + i.val) ⟨d.val, by omega⟩ = ak m c (ix4 (bt t) i (ht t) d) := by
  rw [rk_eq m c t _ (by omega) _, dif_pos ⟨by omega, d.isLt⟩, sub48]
theorem rv_at (i : Fin 2064) (d : Fin 128) : rv (blk m c t) (48 + i.val) d = av m c (ix4 (bt t) i (ht t) d) := by
  rw [rv_eq m c t _ (by omega) _, dif_pos (by omega), sub48]
theorem ro_at (i : Fin 2064) (d : Fin 128) : ro (blk m c t) (48 + i.val) d = outp (aq m c) (ak m c) (av m c) (ix4 (bt t) i (ht t) d) := by
  rw [ro_eq m c t _ (by omega) _, dif_pos (by omega), sub48]
theorem rg_at (i : Fin 2064) (d : Fin 128) : rg (blk m c t) (48 + i.val) d = ag m c (ix4 (bt t) i (ht t) d) := by
  rw [rg_eq m c t _ (by omega) _, dif_pos (by omega), sub48]
theorem rl_at (i : Fin 2064) : rl (blk m c t) (48 + i.val) = ls (aq m c) (ak m c) (ix3 (bt t) (ht t) i) := by
  rw [rl_eq m c t _ (by omega), dif_pos (by omega), sub48]

variable (R : Reals (aq m c) (ak m c) (av m c) (ag m c))

theorem sc_at (i j : Fin 2064) : sc (blk m c t) (48 + i.val) (48 + j.val) = (R.s (bt t) (ht t) i j : EReal) := by
  rw [sc, Row.padded_columns _ (fun d hd => by rw [rq_col m c t _ (by omega) d hd, zero_mul]), ← R.dot_qk]
  exact Finset.sum_congr rfl fun d _ => by rw [rq_at, rk_at]

theorem pr_at (i j : Fin 2064) : pr (blk m c t) (48 + i.val) (48 + j.val) = (R.p (bt t) (ht t) i j : EReal) := by
  by_cases hv : vis i j
  · have hv' : (48 + j.val) / 64 ≤ (48 + i.val) / 64 := by have := hv; unfold vis at this; omega
    rw [pr, if_pos ⟨hv', by omega⟩, sc_at m c t R, rl_at, R.ls_row]
    have := (R.p_spec (bt t) (ht t) i).2.1 j
    rw [Row.S, if_pos hv] at this
    exact this
  · have hv' : ¬(48 + j.val) / 64 ≤ (48 + i.val) / 64 := by have := hv; unfold vis at this; omega
    rw [pr, if_neg (fun h => hv' h.1)]
    have := (R.p_spec (bt t) (ht t) i).1 j hv
    rw [show R.p (bt t) (ht t) i j = 0 from this, EReal.coe_zero]

theorem del_at (i : Fin 2064) : del (blk m c t) (48 + i.val) = ((∑ κ, R.p (bt t) (ht t) i κ * R.dp (bt t) (ht t) i κ : ℝ) : EReal) := by
  have e : del (blk m c t) (48 + i.val) = ((∑ d : Fin 128, (∑ j, R.vr (ix4 (bt t) j (ht t) d) * R.p (bt t) (ht t) i j) * R.gr (ix4 (bt t) i (ht t) d) : ℝ) : EReal) := by
    rw [del, ← Row.coe_dot]
    exact Finset.sum_congr rfl fun d _ => by rw [ro_at, rg_at, R.outp_row, R.hg]
  rw [e]
  congr 1
  simp only [Finset.sum_mul, Reals.dp, Finset.mul_sum]
  rw [Finset.sum_comm]
  exact Finset.sum_congr rfl fun j _ => Finset.sum_congr rfl fun d _ => by ring

theorem dsc_at (i j : Fin 2064) : dsc (blk m c t) (48 + i.val) (48 + j.val) = (R.ds (bt t) (ht t) i j : EReal) := by
  have e : ∑ d : Fin 128, rg (blk m c t) (48 + i.val) d * rv (blk m c t) (48 + j.val) d = (R.dp (bt t) (ht t) i j : EReal) := by
    rw [← R.dot_gv]
    exact Finset.sum_congr rfl fun d _ => by rw [rg_at, rv_at]
  rw [dsc, e, pr_at m c t R, del_at m c t R, ← EReal.coe_sub, ← EReal.coe_mul]
  rfl

/-- A padding query's scores have no gradient. -/
theorem dsc_pad (I K : ℕ) (hI : I < 48) : dsc (blk m c t) I K = 0 := by
  have e : ∑ d : Fin 128, rg (blk m c t) I d * rv (blk m c t) K d = 0 := Finset.sum_eq_zero fun d _ => by rw [rg_pad m c t I hI d, zero_mul]
  have e' : del (blk m c t) I = 0 := Finset.sum_eq_zero fun d _ => by rw [rg_pad m c t I hI d, mul_zero]
  rw [dsc, e, e', sub_zero, mul_zero]

/-! The body's results. -/

include R in
theorem dq_eq (I : Fin 2112) (d : Fin 256) (h1 : 2112 * (bt t).val + I.val < 4224) (h2 : 256 * (ht t).val + d.val < 1024) :
    (fin (blk m c t)).dq (ix2 I d) = ReferenceIdeal.slabQ (ReferenceIdeal.gqOf (ReferenceIdeal.dsr (aq m c) (ak m c) (av m c) (ag m c)) (ak m c))
      (ix2 ⟨2112 * (bt t).val + I.val, h1⟩ ⟨256 * (ht t).val + d.val, h2⟩) := by
  rw [fin_dq, ReferenceIdeal.slabQ_at _ (bt t) I (ht t) d h1 h2]
  by_cases hI : 48 ≤ I.val
  · by_cases hd : d.val < 192
    · rw [dif_pos ⟨hI, hd⟩, R.ref_gq, Row.padded_rows _ (fun K hK => by rw [dsc_zero _ (fun h => by omega), zero_mul])]
      refine Finset.sum_congr rfl fun j _ => ?_
      have e : I.val = 48 + (⟨I.val - 48, by omega⟩ : Fin 2064).val := by show I.val = 48 + (I.val - 48); omega
      have e' := dsc_at m c t R ⟨I.val - 48, by omega⟩ j
      rw [← e] at e'
      rw [e', ← rk_at m c t j ⟨d.val, hd⟩]
    · rw [dif_neg (fun h => hd h.2)]
      exact Finset.sum_eq_zero fun K hK => by rw [rk_col m c t K (Finset.mem_range.mp hK) d (by omega), mul_zero]
  · rw [dif_neg (fun h => hI h.1)]
    exact Finset.sum_eq_zero fun K hK => by rw [dsc_pad m c t _ K (by omega), zero_mul]

include R in
theorem dk_eq (K : Fin 2112) (d : Fin 256) (h1 : 2112 * (bt t).val + K.val < 4224) (h2 : 256 * (ht t).val + d.val < 1024) :
    (fin (blk m c t)).dk (ix2 K d) = ReferenceIdeal.slabQ (ReferenceIdeal.gkOf (ReferenceIdeal.dsr (aq m c) (ak m c) (av m c) (ag m c)) (aq m c))
      (ix2 ⟨2112 * (bt t).val + K.val, h1⟩ ⟨256 * (ht t).val + d.val, h2⟩) := by
  rw [fin_dk, ReferenceIdeal.slabQ_at _ (bt t) K (ht t) d h1 h2]
  by_cases hK : 48 ≤ K.val
  · by_cases hd : d.val < 192
    · rw [dif_pos ⟨hK, hd⟩, R.ref_gk, Row.padded_rows _ (fun I hI => by rw [dsc_pad m c t I _ hI, zero_mul])]
      refine Finset.sum_congr rfl fun i _ => ?_
      have e : K.val = 48 + (⟨K.val - 48, by omega⟩ : Fin 2064).val := by show K.val = 48 + (K.val - 48); omega
      have e' := dsc_at m c t R i ⟨K.val - 48, by omega⟩
      rw [← e] at e'
      rw [e', ← rq_at m c t i ⟨d.val, hd⟩]
    · rw [dif_neg (fun h => hd h.2)]
      exact Finset.sum_eq_zero fun I hI => by rw [rq_col m c t I (Finset.mem_range.mp hI) d (by omega), mul_zero]
  · rw [dif_neg (fun h => hK h.1)]
    exact Finset.sum_eq_zero fun I hI => by rw [dsc_zero _ (fun h => by omega), zero_mul]

include R in
theorem dv_eq (K : Fin 2112) (d : Fin 128) (h1 : 2112 * (bt t).val + K.val < 4224) (h2 : 128 * (ht t).val + d.val < 512) :
    (fin (blk m c t)).dv (ix2 K d) = ReferenceIdeal.slabV (ReferenceIdeal.gvOf (ReferenceIdeal.ex (aq m c) (ak m c)) (ReferenceIdeal.zs (aq m c) (ak m c)) (ag m c))
      (ix2 ⟨2112 * (bt t).val + K.val, h1⟩ ⟨128 * (ht t).val + d.val, h2⟩) := by
  rw [fin_dv, ReferenceIdeal.slabV_at _ (bt t) K (ht t) d h1 h2]
  by_cases hK : 48 ≤ K.val
  · rw [dif_pos hK, R.ref_gv, Row.padded_rows _ (fun I hI => by rw [rg_pad m c t I hI d, mul_zero])]
    refine Finset.sum_congr rfl fun i _ => ?_
    have e : K.val = 48 + (⟨K.val - 48, by omega⟩ : Fin 2064).val := by show K.val = 48 + (K.val - 48); omega
    have e' := pr_at m c t R i ⟨K.val - 48, by omega⟩
    rw [← e] at e'
    rw [e', ← rg_at m c t i d]
  · rw [dif_neg hK]
    exact Finset.sum_eq_zero fun I hI => by rw [pr_zero _ (fun h => by omega), zero_mul]

end point
end Cert.Proof.KernelIdeal
-- ==== Proof.AttnOut.lean ====
/-
  The kernel's three arrays after the run are the reference's, for finite arguments.
-/
module

public import proofs.«01_k».proof.Proof.AttnEq
public import proofs.«01_k».proof.Defs

@[expose] public section

set_option maxRecDepth 16384

noncomputable section

namespace Cert.Proof.KernelIdeal

open Cert.KernelIdeal Cert.KernelIdeal.Gen
open Idealize.ShloMosaic Idealize.ShloMosaic.TcCoe
open Cert.Proof
open Idealize.SL.Sem
open Idealize.ShloMosaic.Pipeline (Dat Cfg Window)

section arrays
variable (m : (ℓ : Loc nD τ sig) → Buf (Elt Ideal) ℓ) (c : Dev nD) (R : Reals (aq m c) (ak m c) (av m c) (ag m c))

/-- The reference's three arrays of the kernel's arguments. -/
def refQ : FVec Ideal S4224x1024 .f32 := ReferenceIdeal.slabQ (ReferenceIdeal.gqOf (ReferenceIdeal.dsr (aq m c) (ak m c) (av m c) (ag m c)) (ak m c))
def refK : FVec Ideal S4224x1024 .f32 := ReferenceIdeal.slabQ (ReferenceIdeal.gkOf (ReferenceIdeal.dsr (aq m c) (ak m c) (av m c) (ag m c)) (aq m c))
def refV : FVec Ideal S4224x512 .f32 := ReferenceIdeal.slabV (ReferenceIdeal.gvOf (ReferenceIdeal.ex (aq m c) (ak m c)) (ReferenceIdeal.zs (aq m c) (ak m c)) (ag m c))

/-- The index of a point's block in the array. -/
theorem place6 (t : Fin cfg0.N) (A : FVec Ideal S4224x1024 .f32) (I : Fin 2112) (d : Fin 256) :
    A ((win0_6.blk t).view.emb (ix2 I d)) = A (ix2 ⟨2112 * (bt t).val + I.val, rowB_lt t I.val I.isLt⟩ ⟨256 * (ht t).val + d.val, colB_lt t d⟩) := by
  blk_ext [idx t]
theorem place7 (t : Fin cfg0.N) (A : FVec Ideal S4224x1024 .f32) (I : Fin 2112) (d : Fin 256) :
    A ((win0_7.blk t).view.emb (ix2 I d)) = A (ix2 ⟨2112 * (bt t).val + I.val, rowB_lt t I.val I.isLt⟩ ⟨256 * (ht t).val + d.val, colB_lt t d⟩) := by
  blk_ext [idx t]
theorem place8 (t : Fin cfg0.N) (A : FVec Ideal S4224x512 .f32) (I : Fin 2112) (d : Fin 128) :
    A ((win0_8.blk t).view.emb (ix2 I d)) = A (ix2 ⟨2112 * (bt t).val + I.val, rowB_lt t I.val I.isLt⟩ ⟨128 * (ht t).val + d.val, colV_lt t d⟩) := by
  blk_ext [idx t]

include R in
theorem arr6 : (dats m 0 c).arrAt 6 cfg0.N = refQ m c := by
  refine (dats m 0 c).arrAt_eq_of_covers 6 _ (by decide +kernel) fun t hf y => ?_
  blk_simp
  rw [after0_6]
  have hy : (y : S2112x256.Idx) = ix2 (y 0) (y 1) := by funext a; fin_cases a <;> rfl
  exact (congrArg (fin (blk m c t)).dq hy).trans ((dq_eq m c t R (y 0) (y 1) (rowB_lt t _ (y 0).isLt) (colB_lt t (y 1))).trans
    ((place6 t (refQ m c) (y 0) (y 1)).symm.trans (congrArg (fun z => refQ m c ((win0_6.blk t).view.emb z)) hy.symm)))
include R in
theorem arr7 : (dats m 0 c).arrAt 7 cfg0.N = refK m c := by
  refine (dats m 0 c).arrAt_eq_of_covers 7 _ (by decide +kernel) fun t hf y => ?_
  blk_simp
  rw [after0_7]
  have hy : (y : S2112x256.Idx) = ix2 (y 0) (y 1) := by funext a; fin_cases a <;> rfl
  exact (congrArg (fin (blk m c t)).dk hy).trans ((dk_eq m c t R (y 0) (y 1) (rowB_lt t _ (y 0).isLt) (colB_lt t (y 1))).trans
    ((place7 t (refK m c) (y 0) (y 1)).symm.trans (congrArg (fun z => refK m c ((win0_7.blk t).view.emb z)) hy.symm)))
include R in
theorem arr8 : (dats m 0 c).arrAt 8 cfg0.N = refV m c := by
  refine (dats m 0 c).arrAt_eq_of_covers 8 _ (by decide +kernel) fun t hf y => ?_
  blk_simp
  rw [after0_8]
  have hy : (y : S2112x128.Idx) = ix2 (y 0) (y 1) := by funext a; fin_cases a <;> rfl
  exact (congrArg (fin (blk m c t)).dv hy).trans ((dv_eq m c t R (y 0) (y 1) (rowB_lt t _ (y 0).isLt) (colV_lt t (y 1))).trans
    ((place8 t (refV m c) (y 0) (y 1)).symm.trans (congrArg (fun z => refV m c ((win0_8.blk t).view.emb z)) hy.symm)))

/-- A number below the largest in size is real. -/
theorem real_of (x : EReal) (h : FloatOps.cmpf (F := Ideal) (φ := .f32) .olt (FloatOps.hostAbsf (F := Ideal) (φ := .f32) x) (FloatOps.ofBits (F := Ideal) .f32 0x7F800000#32) = 1#1) : x = (x.toReal : EReal) := by
  have e : FloatOps.cmpf (F := Ideal) (φ := .f32) .olt (FloatOps.hostAbsf (F := Ideal) (φ := .f32) x) (FloatOps.ofBits (F := Ideal) .f32 0x7F800000#32) = Ideal.cmp .olt (max x (-x)) (⊤ : EReal) := rfl
  rw [e] at h
  have h' : max x (-x) < ⊤ := by
    by_contra hn
    rw [Ideal.cmp] at h
    simp [hn] at h
  refine (EReal.coe_toReal ?_ ?_).symm
  · rintro rfl; simp at h'
  · rintro rfl; simp at h'

/-- The precondition's two facts on broadcasts. -/
theorem preFacts : Cert.Pre_all_finite.Facts := ⟨by decide, by decide⟩

/-- The precondition's words. -/
theorem reals (h : Cert.Pre_KernelIdeal_all_finite (hPre_all_finite := preFacts) m) : Nonempty (Reals (aq m c) (ak m c) (av m c) (ag m c)) := by
  obtain ⟨h0, h1, h2, h3⟩ := h c
  exact ⟨⟨fun i => (aq m c i).toReal, fun i => (ak m c i).toReal, fun i => (av m c i).toReal, fun i => (ag m c i).toReal,
    fun i => real_of _ (congrFun h0 i), fun i => real_of _ (congrFun h1 i), fun i => real_of _ (congrFun h2 i), fun i => real_of _ (congrFun h3 i)⟩⟩

variable (ρ : Dev nD → PrngReg)

/-- The run with its results. -/
theorem run_values (h : Cert.Pre_KernelIdeal_all_finite (hPre_all_finite := preFacts) m) :
    θ_run defs (onTc (τ := τ) (main (F := Ideal))) ⟨m, fun _ => 0, ρ⟩ (fun r => ∀ c : Dev nD,
      r.2.mem ((c.tc : Thread nD τ).loc main_v44_0) = refQ m c
      ∧ r.2.mem ((c.tc : Thread nD τ).loc main_v44_1) = refK m c
      ∧ r.2.mem ((c.tc : Thread nD τ).loc main_v44_2) = refV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => by
      obtain ⟨R⟩ := reals m c h
      exact ⟨((hr.1 c).1 6).trans (arr6 m c R), ((hr.1 c).1 7).trans (arr7 m c R), ((hr.1 c).1 8).trans (arr8 m c R), hr.2 c⟩)
    (θ_run_and (run_main m ρ) (unchanged m ρ))

end arrays
end Cert.Proof.KernelIdeal
-- ==== Proof.FfnHost.lean ====
/-
  The feed-forward half block's arrays, by the reference's host operations, as named stages of its arguments.
-/
module

public import proofs.«01_k».proof.Proof.Gen.Reference4Ideal
public import proofs.«01_k».proof.Proof.Gen.Reference6Ideal
public import Idealize.ShloMosaic.Lib.Pipeline.ValueKit

@[expose] public section

set_option maxRecDepth 16384

noncomputable section

namespace Cert.Proof.Ffn

open Cert.Reference4Ideal Cert.Reference4Ideal.Gen
open Idealize.ShloMosaic Idealize.ShloMosaic.TcCoe

variable {F : FTy → Type} [FloatOps F]

/-- A number at every place. -/
abbrev fill (w : BitVec 32) : FVec F S4224x2816 .f32 := broadcastInDim S4224x2816 ![] bcast_S_S4224x2816 (constant S_ .f32 w)
abbrev fillH (w : BitVec 32) : FVec F S4224x1024 .f32 := broadcastInDim S4224x1024 ![] bcast_S_S4224x1024 (constant S_ .f32 w)
abbrev fill1 (w : BitVec 32) : FVec F S4224x1 .f32 := broadcastInDim S4224x1 ![] bcast_S_S4224x1 (constant S_ .f32 w)

/-- The reciprocal root of a row's mean square. -/
def rr (h : FVec F S4224x1024 .f32) : FVec F S4224x1 .f32 :=
  Host.rsqrt (addf (Host.divf (broadcastInDim S4224x1 ![0] bcast_S4224_S4224x1_0 (Host.reduceAdd (mulf h h) (constant S_ .f32 0x00000000#32) reducesTo_S4224x1024_S4224_d1 h_S_)) (fill1 0x44800000#32)) (fill1 0x358637BD#32))
/-- A row's number at every column. -/
def wideH (r : FVec F S4224x1 .f32) : FVec F S4224x1024 .f32 := broadcastInDim S4224x1024 ![0, 1] bcast_S4224x1_S4224x1024_0_1 r
/-- A column's number at every row. -/
def tallH (g : FVec F S1024 .f32) : FVec F S4224x1024 .f32 := broadcastInDim S4224x1024 ![0, 1] bcast_S1x1024_S4224x1024_0_1 (broadcastInDim S1x1024 ![1] bcast_S1024_S1x1024_1 g)
/-- The rows normalised, times the gain. -/
def un (h : FVec F S4224x1024 .f32) (g : FVec F S1024 .f32) : FVec F S4224x1024 .f32 := mulf (mulf h (wideH (rr h))) (tallH g)
/-- A product with one of the two weights that widen. -/
def up (u : FVec F S4224x1024 .f32) (w : FVec F S1024x2816 .f32) : FVec F S4224x2816 .f32 := Host.dotGeneral dot_S4224x1024_S1024x2816_S4224x2816_1_0_0_1_n_n none u w
/-- The logistic function. -/
def sg (a : FVec F S4224x2816 .f32) : FVec F S4224x2816 .f32 := Host.divf (fill 0x3F800000#32) (addf (fill 0x3F800000#32) (Host.exp (Host.negf a)))
/-- The gated product. -/
def xs (a b : FVec F S4224x2816 .f32) : FVec F S4224x2816 .f32 := mulf (mulf a (sg a)) b
/-- Half of it. -/
def sx (a b : FVec F S4224x2816 .f32) : FVec F S4224x2816 .f32 := mulf (fill 0x3F000000#32) (xs a b)
/-- Half the incoming gradient. -/
def hc (ct : FVec F S4224x1024 .f32) : FVec F S4224x1024 .f32 := mulf (fillH 0x3F000000#32) ct
/-- The gated product's gradient. -/
def ds (ct : FVec F S4224x1024 .f32) (wd : FVec F S2816x1024 .f32) : FVec F S4224x2816 .f32 := Host.dotGeneral dot_S4224x1024_S2816x1024_S4224x2816_1_1_0_0_n_n none (hc ct) wd
/-- The gradients of its two factors' products. -/
def db (a d : FVec F S4224x2816 .f32) : FVec F S4224x2816 .f32 := mulf (mulf a (sg a)) d
def da (a b d : FVec F S4224x2816 .f32) : FVec F S4224x2816 .f32 :=
  addf (mulf (mulf d b) (sg a)) (mulf (mulf a (mulf d b)) (mulf (sg a) (subf (fill 0x3F800000#32) (sg a))))
/-- The gradient of a weight that widens, transposed. -/
def dw (y : FVec F S4224x2816 .f32) (u : FVec F S4224x1024 .f32) : FVec F S2816x1024 .bf16 :=
  truncf .bf16 (Host.dotGeneral dot_S4224x2816_S4224x1024_S2816x1024_0_0_1_1_n_n none y u) bitsLt_bf16_f32
/-- The gradient of the weight that narrows. -/
def dwd (x : FVec F S4224x2816 .f32) (ct : FVec F S4224x1024 .f32) : FVec F S2816x1024 .bf16 :=
  truncf .bf16 (transpose S2816x1024 [1, 0] (Host.dotGeneral Cert.Reference6Ideal.dot_S4224x1024_S4224x2816_S1024x2816_0_0_1_1_n_n none (hc ct) x) Cert.Reference6Ideal.Gen.transposes_S1024x2816_S2816x1024_1_0) bitsLt_bf16_f32

end Cert.Proof.Ffn
end
-- ==== Proof.FfnReal.lean ====
/-
  One row of a half block's backward pass over the reals, and the values of its constants.
-/
module

public import proofs.«01_k».proof.Proof.AttnReal

@[expose] public section

noncomputable section

namespace Cert.Proof.FfnReal

open Idealize.ShloMosaic

/-! The constants. -/

theorem c_half : Ideal.ofBits .f32 0x3F000000#32 = ((1 / 2 : ℝ) : EReal) := by
  simp [Ideal.ofBits, Ideal.ieee, -EReal.coe_mul]; norm_num
theorem c_mhalf : Ideal.ofBits .f32 0xBF000000#32 = ((-(1 / 2) : ℝ) : EReal) := by
  simp [Ideal.ofBits, Ideal.ieee, -EReal.coe_mul]; norm_num
theorem c_inv : Ideal.ofBits .f32 0x3A800000#32 = ((1 / 1024 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_one : Ideal.ofBits .f32 0x3F800000#32 = 1 := by
  simp [Ideal.ofBits, Ideal.ieee, -EReal.coe_mul]; norm_num
/-- The number under the root. -/
def eps : ℝ := 8796093 / 2 ^ 43
theorem eps_pos : 0 < eps := by unfold eps; positivity
theorem c_eps : Ideal.ofBits .f32 0x358637BD#32 = (eps : EReal) := by
  unfold eps
  simp [Ideal.ofBits, Ideal.ieee, -EReal.coe_mul]; norm_num

/-! A row. -/

/-- A row's mean square, the number under the root added, and the root's reciprocal. -/
def ms (h : Fin 1024 → ℝ) : ℝ := (∑ d, h d * h d) / 1024 + eps
def rt (h : Fin 1024 → ℝ) : ℝ := (Real.sqrt (ms h))⁻¹
/-- The row normalised, times the gain, and its product with a weight that widens. -/
def un (h g : Fin 1024 → ℝ) (d : Fin 1024) : ℝ := h d * rt h * g d
def up (u : Fin 1024 → ℝ) (w : Fin 1024 → Fin 2816 → ℝ) (j : Fin 2816) : ℝ := ∑ d, u d * w d j
/-- The logistic function. -/
def sg (x : ℝ) : ℝ := 1 / (1 + Real.exp (-x))
/-- The gradient of the gated product, of its two factors' products, and half the gated product. -/
def ds (c : Fin 1024 → ℝ) (wd : Fin 2816 → Fin 1024 → ℝ) (j : Fin 2816) : ℝ := ∑ d, 1 / 2 * c d * wd j d
def da (a b d : ℝ) : ℝ := d * b * (sg a * (1 + a * (1 - sg a)))
def db (a d : ℝ) : ℝ := d * (a * sg a)
def sx (a b : ℝ) : ℝ := 1 / 2 * (a * sg a) * b
/-- The gradient of the normalised row times the gain. -/
def du (x y : Fin 2816 → ℝ) (wg wu : Fin 1024 → Fin 2816 → ℝ) (d : Fin 1024) : ℝ := ∑ j, x j * wg d j + ∑ j, y j * wu d j
/-- The gradients of the row and (the row's share) of the gain. -/
def dh (h g c u : Fin 1024 → ℝ) (d : Fin 1024) : ℝ :=
  c d + rt h * (u d * g d - h d * rt h * ((∑ e, u e * g e * (h e * rt h)) * (1 / 1024)))
def dg (h u : Fin 1024 → ℝ) (d : Fin 1024) : ℝ := u d * (h d * rt h)

theorem ms_pos (h : Fin 1024 → ℝ) : 0 < ms h := by
  unfold ms
  have : 0 ≤ ∑ d, h d * h d := Finset.sum_nonneg fun d _ => mul_self_nonneg _
  have := eps_pos
  positivity
theorem rsqrt_ms (h : Fin 1024 → ℝ) : Ideal.rsqrt ((ms h : ℝ) : EReal) = (rt h : EReal) := by
  rw [Ideal.rsqrt_coe, if_neg (not_lt.mpr (ms_pos h).le), if_neg (ms_pos h).ne']
  rfl
theorem rt_sq (h : Fin 1024 → ℝ) : rt h * rt h * ms h = 1 := by
  have h1 := Real.mul_self_sqrt (ms_pos h).le
  have h2 : Real.sqrt (ms h) ≠ 0 := (Real.sqrt_pos.mpr (ms_pos h)).ne'
  unfold rt
  field_simp
  nlinarith [h1]
theorem sg_real (x : ℝ) : Ideal.div 1 (1 + Ideal.exp (-(x : EReal))) = (sg x : EReal) := by
  rw [← EReal.coe_neg, Ideal.exp_coe, ← EReal.coe_one, ← EReal.coe_add, Row.div_real (by have := Real.exp_pos (-x); positivity)]
  rfl

end Cert.Proof.FfnReal
end
-- ==== Proof.FfnVal.lean ====
/-
  The half block's arrays by host operations, over the reals: each stage of real arguments at an index.
-/
module

public import proofs.«01_k».proof.Proof.FfnHost
public import proofs.«01_k».proof.Proof.FfnReal
public import proofs.«01_k».proof.Proof.Gen.Reference2Ideal

@[expose] public section

set_option maxRecDepth 16384

noncomputable section

namespace Cert.Proof.Ffn

open Cert.Reference2Ideal Cert.Reference2Ideal.Gen
open Idealize.ShloMosaic Idealize.ShloMosaic.TcCoe

/-! The stages of the row's and the gain's gradients. -/
section stages
variable {F : FTy → Type} [FloatOps F]

/-- A row's mean square, the number under the root added. -/
def ms (h : FVec F S4224x1024 .f32) : FVec F S4224x1 .f32 :=
  addf (Host.divf (broadcastInDim S4224x1 ![0] bcast_S4224_S4224x1_0 (Host.reduceAdd (mulf h h) (constant S_ .f32 0x00000000#32) reducesTo_S4224x1024_S4224_d1 h_S_)) (fill1 0x44800000#32)) (fill1 0x358637BD#32)
/-- An array read by its own shape. -/
def same (x : FVec F S4224x1024 .f32) : FVec F S4224x1024 .f32 := shapeCast _ x shapeCasts_S4224x1024_S4224x1024
/-- The normalised row, and the gradient of it times the gain. -/
def xh (h : FVec F S4224x1024 .f32) : FVec F S4224x1024 .f32 := mulf h (wideH (rr h))
def du (x y : FVec F S4224x2816 .f32) (wg wu : FVec F S1024x2816 .f32) : FVec F S4224x1024 .f32 :=
  addf (Host.dotGeneral dot_S4224x2816_S1024x2816_S4224x1024_1_1_0_0_n_n none y wu) (Host.dotGeneral dot_S4224x2816_S1024x2816_S4224x1024_1_1_0_0_n_n none x wg)
/-- The gain's gradient. -/
def dg (h u : FVec F S4224x1024 .f32) : FVec F S1x1024 .f32 :=
  shapeCast _ (Host.reduceAdd (shapeCast _ (Host.reduceAdd (mulf (xh h) u) (constant S_ .f32 0x00000000#32) reducesTo_S4224x1024_S1024_d0 h_S_) shapeCasts_S1024_S1x1024) (constant S_ .f32 0x00000000#32) reducesTo_S1x1024_S1024_d0 h_S_) shapeCasts_S1024_S1x1024
/-- The gradient of the mean square, over the count. -/
def qs (h v : FVec F S4224x1024 .f32) : FVec F S4224x1 .f32 :=
  Host.divf (mulf (shapeCast _ (Host.reduceAdd (mulf h v) (constant S_ .f32 0x00000000#32) reducesTo_S4224x1024_S4224_d1 h_S_) shapeCasts_S4224_S4224x1) (mulf (fill1 0xBF000000#32) (Host.divf (rr h) (ms h)))) (fill1 0x44800000#32)
def qw (q : FVec F S4224x1 .f32) : FVec F S4224x1024 .f32 :=
  broadcastInDim S4224x1024 ![0] bcast_S4224_S4224x1024_0 (Host.reduceAdd q (constant S_ .f32 0x00000000#32) reducesTo_S4224x1_S4224_d1 h_S_)
/-- The row's gradient. -/
def dh (h ct v : FVec F S4224x1024 .f32) : FVec F S4224x1024 .f32 :=
  addf (addf (addf ct (mulf v (wideH (rr h)))) (mulf h (qw (qs h v)))) (mulf (qw (qs h v)) h)
end stages

/-! The stages at an index. -/
section reads
variable (h u v ct : FVec Ideal S4224x1024 .f32) (r q : FVec Ideal S4224x1 .f32) (g : FVec Ideal S1024 .f32) (w wg wu : FVec Ideal S1024x2816 .f32)
  (wd : FVec Ideal S2816x1024 .f32) (a b d x y : FVec Ideal S4224x2816 .f32) (i : Fin 4224) (j : Fin 2816) (e : Fin 1024)

theorem ms_at : ms h (ix2 i 0) = Ideal.div (∑ e, h (ix2 i e) * h (ix2 i e)) (Ideal.ofBits .f32 0x44800000#32) + Ideal.ofBits .f32 0x358637BD#32 := by
  unfold ms
  pointwise
theorem rr_at : rr h (ix2 i 0) = Ideal.rsqrt (ms h (ix2 i 0)) := by
  unfold rr ms
  pointwise
theorem same_at : same h (ix2 i e) = h (ix2 i e) := by
  unfold same
  pointwise
theorem wideH_at : wideH r (ix2 i e) = r (ix2 i 0) := by
  unfold wideH
  pointwise
theorem tallH_at : tallH g (ix2 i e) = g (ix1 e) := by
  unfold tallH
  pointwise
theorem xh_at : xh h (ix2 i e) = h (ix2 i e) * rr h (ix2 i 0) := by
  unfold xh
  rw [← wideH_at (rr h) i e]
  rfl
theorem un_at : un h g (ix2 i e) = h (ix2 i e) * rr h (ix2 i 0) * g (ix1 e) := by
  rw [← xh_at, ← tallH_at g i e]
  rfl
theorem up_at : up u w (ix2 i j) = ∑ e, u (ix2 i e) * w (ix2 e j) := by
  unfold up
  pointwise
theorem sg_at : sg a (ix2 i j) = Ideal.div (Ideal.ofBits .f32 0x3F800000#32) (Ideal.ofBits .f32 0x3F800000#32 + Ideal.exp (-a (ix2 i j))) := by
  unfold sg
  pointwise
theorem sx_at : sx a b (ix2 i j) = Ideal.ofBits .f32 0x3F000000#32 * (a (ix2 i j) * sg a (ix2 i j) * b (ix2 i j)) := by
  unfold sx xs
  generalize sg a = s
  pointwise
theorem ds_at : ds ct wd (ix2 i j) = ∑ e, Ideal.ofBits .f32 0x3F000000#32 * ct (ix2 i e) * wd (ix2 j e) := by
  unfold ds hc
  pointwise
theorem db_at : db a d (ix2 i j) = a (ix2 i j) * sg a (ix2 i j) * d (ix2 i j) := by
  unfold db
  generalize sg a = s
  pointwise
theorem da_at : da a b d (ix2 i j) = d (ix2 i j) * b (ix2 i j) * sg a (ix2 i j) + a (ix2 i j) * (d (ix2 i j) * b (ix2 i j)) * (sg a (ix2 i j) * (Ideal.ofBits .f32 0x3F800000#32 - sg a (ix2 i j))) := by
  unfold da
  generalize sg a = s
  pointwise
theorem du_at : du x y wg wu (ix2 i e) = ∑ j, y (ix2 i j) * wu (ix2 e j) + ∑ j, x (ix2 i j) * wg (ix2 e j) := by
  unfold du
  pointwise
theorem dg_at : dg h u (ix2 0 e) = ∑ i, xh h (ix2 i e) * u (ix2 i e) := by
  unfold dg
  generalize xh h = X
  pointwise
  exact Fin.sum_univ_one _
theorem qs_at : qs h v (ix2 i 0) = Ideal.div ((∑ e, h (ix2 i e) * v (ix2 i e)) * (Ideal.ofBits .f32 0xBF000000#32 * Ideal.div (rr h (ix2 i 0)) (ms h (ix2 i 0)))) (Ideal.ofBits .f32 0x44800000#32) := by
  unfold qs
  generalize rr h = R
  generalize ms h = M
  pointwise
theorem qw_at : qw q (ix2 i e) = q (ix2 i 0) := by
  unfold qw
  pointwise
  exact Fin.sum_univ_one _
theorem dh_at : dh h ct v (ix2 i e) = ct (ix2 i e) + v (ix2 i e) * rr h (ix2 i 0) + h (ix2 i e) * qs h v (ix2 i 0) + qs h v (ix2 i 0) * h (ix2 i e) := by
  unfold dh
  rw [← wideH_at (rr h) i e, ← qw_at (qs h v) i e]
  rfl
end reads

/-! The stages of reals. -/
section reals
variable {h u v ct : FVec Ideal S4224x1024 .f32} {g : FVec Ideal S1024 .f32} {w wg wu : FVec Ideal S1024x2816 .f32}
  {wd : FVec Ideal S2816x1024 .f32} {a b d x y : FVec Ideal S4224x2816 .f32}
  {H U V C : Fin 4224 → Fin 1024 → ℝ} {G : Fin 1024 → ℝ} {W Wg Wu : Fin 1024 → Fin 2816 → ℝ} {Wd : Fin 2816 → Fin 1024 → ℝ} {A B D X Y : Fin 4224 → Fin 2816 → ℝ}

theorem ms_real (eh : ∀ i e, h (ix2 i e) = (H i e : EReal)) (i : Fin 4224) : ms h (ix2 i 0) = (FfnReal.ms (H i) : EReal) := by
  rw [ms_at]
  simp only [eh, FfnReal.c_1024, FfnReal.c_eps, ← EReal.coe_mul, Row.coe_sum]
  rw [Row.div_real (by norm_num), ← EReal.coe_add]
  rfl
theorem rr_real (eh : ∀ i e, h (ix2 i e) = (H i e : EReal)) (i : Fin 4224) : rr h (ix2 i 0) = (FfnReal.rt (H i) : EReal) := by
  rw [rr_at, ms_real eh, FfnReal.rsqrt_ms]
theorem xh_real (eh : ∀ i e, h (ix2 i e) = (H i e : EReal)) (i : Fin 4224) (e : Fin 1024) : xh h (ix2 i e) = ((H i e * FfnReal.rt (H i) : ℝ) : EReal) := by
  rw [xh_at, rr_real eh, eh, EReal.coe_mul]
theorem un_real (eh : ∀ i e, h (ix2 i e) = (H i e : EReal)) (eg : ∀ e, g (ix1 e) = (G e : EReal)) (i : Fin 4224) (e : Fin 1024) :
    un h g (ix2 i e) = (FfnReal.un (H i) G e : EReal) := by
  rw [un_at, rr_real eh, eh, eg, ← EReal.coe_mul, ← EReal.coe_mul]
  rfl
theorem up_real (eu : ∀ i e, u (ix2 i e) = (U i e : EReal)) (ew : ∀ e j, w (ix2 e j) = (W e j : EReal)) (i : Fin 4224) (j : Fin 2816) :
    up u w (ix2 i j) = (FfnReal.up (U i) W j : EReal) := by
  rw [up_at]
  simp only [eu, ew, ← EReal.coe_mul, Row.coe_sum]
  rfl
theorem sg_real (ea : ∀ i j, a (ix2 i j) = (A i j : EReal)) (i : Fin 4224) (j : Fin 2816) : sg a (ix2 i j) = (FfnReal.sg (A i j) : EReal) := by
  rw [sg_at, ea, FfnReal.c_one, FfnReal.sg_real]
theorem sx_real (ea : ∀ i j, a (ix2 i j) = (A i j : EReal)) (eb : ∀ i j, b (ix2 i j) = (B i j : EReal)) (i : Fin 4224) (j : Fin 2816) :
    sx a b (ix2 i j) = (FfnReal.sx (A i j) (B i j) : EReal) := by
  rw [sx_at, sg_real ea, ea, eb, FfnReal.c_half]
  simp only [← EReal.coe_mul]
  congr 1
  unfold FfnReal.sx
  ring
theorem ds_real (ec : ∀ i e, ct (ix2 i e) = (C i e : EReal)) (ew : ∀ j e, wd (ix2 j e) = (Wd j e : EReal)) (i : Fin 4224) (j : Fin 2816) :
    ds ct wd (ix2 i j) = (FfnReal.ds (C i) Wd j : EReal) := by
  rw [ds_at]
  simp only [ec, ew, FfnReal.c_half, ← EReal.coe_mul, Row.coe_sum]
  rfl
theorem db_real (ea : ∀ i j, a (ix2 i j) = (A i j : EReal)) (ed : ∀ i j, d (ix2 i j) = (D i j : EReal)) (i : Fin 4224) (j : Fin 2816) :
    db a d (ix2 i j) = (FfnReal.db (A i j) (D i j) : EReal) := by
  rw [db_at, sg_real ea, ea, ed]
  simp only [← EReal.coe_mul]
  congr 1
  unfold FfnReal.db
  ring
theorem da_real (ea : ∀ i j, a (ix2 i j) = (A i j : EReal)) (eb : ∀ i j, b (ix2 i j) = (B i j : EReal)) (ed : ∀ i j, d (ix2 i j) = (D i j : EReal))
    (i : Fin 4224) (j : Fin 2816) : da a b d (ix2 i j) = (FfnReal.da (A i j) (B i j) (D i j) : EReal) := by
  rw [da_at, sg_real ea, ea, eb, ed, FfnReal.c_one, ← EReal.coe_one]
  simp only [← EReal.coe_mul, ← EReal.coe_add, ← EReal.coe_sub]
  congr 1
  unfold FfnReal.da
  ring
theorem du_real (ex : ∀ i j, x (ix2 i j) = (X i j : EReal)) (ey : ∀ i j, y (ix2 i j) = (Y i j : EReal))
    (eg : ∀ e j, wg (ix2 e j) = (Wg e j : EReal)) (eu : ∀ e j, wu (ix2 e j) = (Wu e j : EReal)) (i : Fin 4224) (e : Fin 1024) :
    du x y wg wu (ix2 i e) = (FfnReal.du (X i) (Y i) Wg Wu e : EReal) := by
  rw [du_at]
  simp only [ex, ey, eg, eu, ← EReal.coe_mul, Row.coe_sum, ← EReal.coe_add]
  congr 1
  unfold FfnReal.du
  ring
theorem dg_real (eh : ∀ i e, h (ix2 i e) = (H i e : EReal)) (eu : ∀ i e, u (ix2 i e) = (U i e : EReal)) (e : Fin 1024) :
    dg h u (ix2 0 e) = ((∑ i, FfnReal.dg (H i) (U i) e : ℝ) : EReal) := by
  rw [dg_at]
  simp only [xh_real eh, eu, ← EReal.coe_mul, Row.coe_sum]
  congr 1
  refine Finset.sum_congr rfl fun i _ => ?_
  unfold FfnReal.dg
  ring
/-- The row's gradient by the derivative of the reciprocal root, and as the row writes it. -/
theorem dh_form (h g c u : Fin 1024 → ℝ) (d : Fin 1024) :
    c d + u d * g d * FfnReal.rt h + h d * ((∑ e, h e * (u e * g e)) * (-(1 / 2) * (FfnReal.rt h / FfnReal.ms h)) / 1024)
      + (∑ e, h e * (u e * g e)) * (-(1 / 2) * (FfnReal.rt h / FfnReal.ms h)) / 1024 * h d = FfnReal.dh h g c u d := by
  have hm : FfnReal.ms h ≠ 0 := (FfnReal.ms_pos h).ne'
  have e1 : FfnReal.rt h / FfnReal.ms h = FfnReal.rt h * (FfnReal.rt h * FfnReal.rt h) := by
    rw [div_eq_iff hm, mul_assoc, FfnReal.rt_sq, mul_one]
  have e2 : ∑ e, u e * g e * (h e * FfnReal.rt h) = (∑ e, h e * (u e * g e)) * FfnReal.rt h := by
    rw [Finset.sum_mul]
    exact Finset.sum_congr rfl fun e _ => by ring
  unfold FfnReal.dh
  rw [e1, e2]
  ring
theorem dh_real (eh : ∀ i e, h (ix2 i e) = (H i e : EReal)) (eg : ∀ e, g (ix1 e) = (G e : EReal)) (ec : ∀ i e, ct (ix2 i e) = (C i e : EReal))
    (eu : ∀ i e, u (ix2 i e) = (U i e : EReal)) (i : Fin 4224) (e : Fin 1024) :
    dh h ct (mulf u (tallH g)) (ix2 i e) = (FfnReal.dh (H i) G (C i) (U i) e : EReal) := by
  have ev : ∀ e, mulf u (tallH g) (ix2 i e) = ((U i e * G e : ℝ) : EReal) := fun e => by
    rw [EReal.coe_mul, ← eu, ← eg, ← tallH_at g i e]
    rfl
  have eq : qs h (mulf u (tallH g)) (ix2 i 0) = (((∑ e, H i e * (U i e * G e)) * (-(1 / 2) * (FfnReal.rt (H i) / FfnReal.ms (H i))) / 1024 : ℝ) : EReal) := by
    rw [qs_at, rr_real eh, ms_real eh, Row.div_real (FfnReal.ms_pos _).ne']
    simp only [eh, ev, FfnReal.c_mhalf, FfnReal.c_1024, ← EReal.coe_mul, Row.coe_sum]
    rw [Row.div_real (by norm_num)]
  rw [dh_at, rr_real eh, eq, ev, eh, ec, ← dh_form]
  simp only [← EReal.coe_mul, ← EReal.coe_add]
end reals

end Cert.Proof.Ffn
end
-- ==== Proof.FfnBwdBlk.lean ====
/-
  What a point of the half block's backward call leaves in its five output blocks, over the reals.
-/
module

public import proofs.«01_k».proof.Proof.FfnReal
public import proofs.«01_k».proof.Proof.Gen.Kernel2Ideal.Value

@[expose] public section

set_option maxRecDepth 16384

noncomputable section

namespace Cert.Proof.FfnBwd

open Cert.Kernel2Ideal Cert.Kernel2Ideal.Gen
open Idealize.ShloMosaic Idealize.ShloMosaic.TcCoe
open Idealize.ShloMosaic.Pipeline (Dat Cfg Window)

/-- The two halves of a weight and of a row's products. -/
def lo (x : Vec Ideal S2816x1024 .bf16) : Vec Ideal S1408x1024 .bf16 := View.ld x (Rect.unit ![0, 0] ![1408, 1024] inb_S2816x1024_S1408x1024_0_0)
def hi (x : Vec Ideal S2816x1024 .bf16) : Vec Ideal S1408x1024 .bf16 := View.ld x (Rect.unit ![1408, 0] ![1408, 1024] inb_S2816x1024_S1408x1024_1408_0)
def le (x : Vec Ideal S352x2816 .bf16) : Vec Ideal S352x1408 .bf16 := View.ld x (Rect.unit ![0, 0] ![352, 1408] inb_S352x2816_S352x1408_0_0)
def ri (x : Vec Ideal S352x2816 .bf16) : Vec Ideal S352x1408 .bf16 := View.ld x (Rect.unit ![0, 1408] ![352, 1408] inb_S352x2816_S352x1408_0_1408)

/-- A half's column in the whole. -/
abbrev c0 (j : Fin 1408) : Fin 2816 := Fin.castAdd 1408 j
abbrev c1 (j : Fin 1408) : Fin 2816 := Fin.natAdd 1408 j

theorem lo_at (x : Vec Ideal S2816x1024 .bf16) (j : Fin 1408) (d : Fin 1024) : lo x (ix2 j d) = x (ix2 (c0 j) d) :=
  View.ld_unit_apply_of x ![0, 0] ![1408, 1024] _ (ix2 j d) (ix2 (c0 j) d) (by intro a; fin_cases a <;> simp [Nat.add_comm])
theorem hi_at (x : Vec Ideal S2816x1024 .bf16) (j : Fin 1408) (d : Fin 1024) : hi x (ix2 j d) = x (ix2 (c1 j) d) :=
  View.ld_unit_apply_of x ![1408, 0] ![1408, 1024] _ (ix2 j d) (ix2 (c1 j) d) (by intro a; fin_cases a <;> simp [Nat.add_comm])
theorem le_at (x : Vec Ideal S352x2816 .bf16) (i : Fin 352) (j : Fin 1408) : le x (ix2 i j) = x (ix2 i (c0 j)) :=
  View.ld_unit_apply_of x ![0, 0] ![352, 1408] _ (ix2 i j) (ix2 i (c0 j)) (by intro a; fin_cases a <;> simp [Nat.add_comm])
theorem ri_at (x : Vec Ideal S352x2816 .bf16) (i : Fin 352) (j : Fin 1408) : ri x (ix2 i j) = x (ix2 i (c1 j)) :=
  View.ld_unit_apply_of x ![0, 1408] ![352, 1408] _ (ix2 i j) (ix2 i (c1 j)) (by intro a; fin_cases a <;> simp [Nat.add_comm])

/-! The payloads at an index. -/
section pays
variable (y h : Vec Ideal S352x1024 .f32) (w wg wu : Vec Ideal S1408x1024 .bf16) (a b : Vec Ideal S352x1408 .bf16)
  (i : Fin 352) (j : Fin 1408) (d : Fin 1024)

theorem pay4_at : k0_pay4 h (ix2 i 0) = Ideal.rsqrt ((∑ x, h (ix2 i x) * h (ix2 i x)) * Ideal.ofBits .f32 0x3A800000#32 + Ideal.ofBits .f32 0x358637BD#32) := by
  unfold k0_pay4
  pointwise
theorem pay7_at : k0_pay7 y w (ix2 i j) = ∑ x, Ideal.ofBits .f32 0x3F000000#32 * y (ix2 i x) * w (ix2 j x) := by
  unfold k0_pay7 k0_pay5
  pointwise
theorem pay18_at : k0_pay18 (k0_pay5 y) w (ix2 i j) = ∑ x, Ideal.ofBits .f32 0x3F000000#32 * y (ix2 i x) * w (ix2 j x) := by
  unfold k0_pay18 k0_pay5
  pointwise
theorem pay10_at : k0_pay10 a (ix2 i j) = Ideal.div 1 (1 + Ideal.exp (0 - a (ix2 i j))) := by
  unfold k0_pay10 k0_pay8
  pointwise
theorem pay23_at : k0_pay23 (k0_pay21 a) k0_pay22 (ix2 i j) = Ideal.div 1 (1 + Ideal.exp (0 - a (ix2 i j))) := by
  unfold k0_pay23 k0_pay21 k0_pay22 k0_pay19
  pointwise
theorem pay14_at : k0_pay14 (k0_pay12 y w b) (k0_pay13 a) (ix2 i j)
    = k0_pay7 y w (ix2 i j) * b (ix2 i j) * (k0_pay10 a (ix2 i j) * (1 + a (ix2 i j) * (1 - k0_pay10 a (ix2 i j)))) := by
  unfold k0_pay14 k0_pay12 k0_pay13 k0_pay8 k0_pay9
  pointwise
theorem pay15_at : k0_pay15 (k0_pay7 y w) (k0_pay11 a) (ix2 i j) = k0_pay7 y w (ix2 i j) * (a (ix2 i j) * k0_pay10 a (ix2 i j)) := by
  unfold k0_pay15 k0_pay11 k0_pay8
  pointwise
theorem pay16_at : k0_pay16 (k0_pay9 b) (k0_pay11 a) (ix2 i j) = Ideal.ofBits .f32 0x3F000000#32 * (a (ix2 i j) * k0_pay10 a (ix2 i j)) * b (ix2 i j) := by
  unfold k0_pay16 k0_pay11 k0_pay8 k0_pay9
  pointwise
end pays
section pays
variable (z r q : FVec Ideal S352x1024 .f32) (s t u : FVec Ideal S352x1 .f32) (g : Vec Ideal S1x1024 .f32) (w wg wu : Vec Ideal S1408x1024 .bf16)
  (a b e f p : FVec Ideal S352x1408 .f32) (o : Vec Ideal S1x1024 .f32) (i : Fin 352) (j : Fin 1408) (d : Fin 1024)

theorem pay25_at : k0_pay25 a b e f p (ix2 i j) = a (ix2 i j) * e (ix2 i j) * (k0_pay23 f p (ix2 i j) * (1 + b (ix2 i j) * (1 - k0_pay23 f p (ix2 i j)))) := by
  unfold k0_pay25
  pointwise
theorem pay26_at : k0_pay26 a b f p (ix2 i j) = a (ix2 i j) * (b (ix2 i j) * k0_pay23 f p (ix2 i j)) := by
  unfold k0_pay26 k0_pay24
  pointwise
theorem pay27_at : k0_pay27 b e f p (ix2 i j) = Ideal.ofBits .f32 0x3F000000#32 * (b (ix2 i j) * k0_pay23 f p (ix2 i j)) * e (ix2 i j) := by
  unfold k0_pay27 k0_pay24
  pointwise
theorem pay19_at (x : Vec Ideal S352x1408 .bf16) : k0_pay19 x (ix2 i j) = x (ix2 i j) := by
  unfold k0_pay19
  pointwise
theorem pay20_at (x : Vec Ideal S352x1408 .bf16) : k0_pay20 x (ix2 i j) = x (ix2 i j) := by
  unfold k0_pay20
  pointwise
theorem pay17_at : k0_pay17 k0_pay6 a b e f wg wu (ix2 i d)
    = ∑ x, k0_pay14 e f (ix2 i x) * wg (ix2 x d) + ∑ x, k0_pay15 a b (ix2 i x) * wu (ix2 x d) := by
  unfold k0_pay17 k0_pay6
  generalize k0_pay14 e f = X
  generalize k0_pay15 a b = Y
  pointwise
theorem pay28_at : k0_pay28 z a b e f p wg wu (ix2 i d)
    = z (ix2 i d) + ∑ x, k0_pay25 a b e f p (ix2 i x) * wg (ix2 x d) + ∑ x, k0_pay26 a b f p (ix2 i x) * wu (ix2 x d) := by
  unfold k0_pay28
  generalize k0_pay25 a b e f p = X
  generalize k0_pay26 a b f p = Y
  pointwise
theorem pay29_at : k0_pay29 z s (ix2 i d) = z (ix2 i d) * s (ix2 i 0) := by
  unfold k0_pay29
  pointwise
theorem pay30_at : k0_pay30 z a b e f p wg wu g (ix2 i d) = k0_pay28 z a b e f p wg wu (ix2 i d) * g (ix2 0 d) := by
  unfold k0_pay30
  generalize k0_pay28 z a b e f p wg wu = X
  pointwise
theorem pay31_at : k0_pay31 z s r a b e f p wg wu g (ix2 i 0)
    = ∑ x, k0_pay28 r a b e f p wg wu (ix2 i x) * g (ix2 0 x) * (z (ix2 i x) * s (ix2 i 0)) := by
  simp only [← pay29_at]
  unfold k0_pay31
  have he : ∀ x, k0_pay28 r a b e f p wg wu (ix2 i x) * g (ix2 0 x) = k0_pay30 r a b e f p wg wu g (ix2 i x) := fun x => (pay30_at ..).symm
  simp only [he]
  generalize k0_pay30 r a b e f p wg wu g = X
  generalize k0_pay29 z s = Y
  pointwise
theorem pay2_at : k0_pay2 z s r q t k0_pay32 (ix2 i d)
    = z (ix2 i d) + s (ix2 i 0) * (q (ix2 i d) - r (ix2 i d) * (t (ix2 i 0) * Ideal.ofBits .f32 0x3A800000#32)) := by
  unfold k0_pay2 k0_pay32
  pointwise
theorem pay1_at : k0_pay1 z r (ix2 0 d) = ∑ x, z (ix2 x d) * r (ix2 x d) := by
  unfold k0_pay1
  pointwise
theorem pay3_at : k0_pay3 z r o (ix2 0 d) = o (ix2 0 d) + ∑ x, z (ix2 x d) * r (ix2 x d) := by
  unfold k0_pay3
  rw [← pay1_at]
  generalize k0_pay1 z r = X
  pointwise
end pays

/-! The blocks, of eight input blocks of reals. -/

/-- The gradient of the normalised row times the gain, and the normalised row, as the body has them. -/
def DU (y : Vec Ideal S352x1024 .f32) (a b : Vec Ideal S352x2816 .bf16) (wg wu wd : Vec Ideal S2816x1024 .bf16) : FVec Ideal S352x1024 .f32 :=
  k0_pay28 (k0_pay17 k0_pay6 (k0_pay7 y (lo wd)) (k0_pay11 (le a)) (k0_pay12 y (lo wd) (le b)) (k0_pay13 (le a)) (lo wg) (lo wu))
    (k0_pay18 (k0_pay5 y) (hi wd)) (k0_pay19 (ri a)) (k0_pay20 (ri b)) (k0_pay21 (ri a)) k0_pay22 (hi wg) (hi wu)
def XH (h : Vec Ideal S352x1024 .f32) : FVec Ideal S352x1024 .f32 := k0_pay29 h (k0_pay4 h)
/-- The row's gradient. -/
def DH (y h : Vec Ideal S352x1024 .f32) (g : Vec Ideal S1x1024 .f32) (a b : Vec Ideal S352x2816 .bf16) (wg wu wd : Vec Ideal S2816x1024 .bf16) : Vec Ideal S352x1024 .f32 :=
  k0_pay2 y (k0_pay4 h) (XH h)
    (k0_pay30 (k0_pay17 k0_pay6 (k0_pay7 y (lo wd)) (k0_pay11 (le a)) (k0_pay12 y (lo wd) (le b)) (k0_pay13 (le a)) (lo wg) (lo wu))
      (k0_pay18 (k0_pay5 y) (hi wd)) (k0_pay19 (ri a)) (k0_pay20 (ri b)) (k0_pay21 (ri a)) k0_pay22 (hi wg) (hi wu) g)
    (k0_pay31 h (k0_pay4 h) (k0_pay17 k0_pay6 (k0_pay7 y (lo wd)) (k0_pay11 (le a)) (k0_pay12 y (lo wd) (le b)) (k0_pay13 (le a)) (lo wg) (lo wu))
      (k0_pay18 (k0_pay5 y) (hi wd)) (k0_pay19 (ri a)) (k0_pay20 (ri b)) (k0_pay21 (ri a)) k0_pay22 (hi wg) (hi wu) g) k0_pay32

/-- Eight input blocks that hold reals. -/
structure Reals (y h : Vec Ideal S352x1024 .f32) (g : Vec Ideal S1x1024 .f32) (a b : Vec Ideal S352x2816 .bf16) (wg wu wd : Vec Ideal S2816x1024 .bf16)
    (C H : Fin 352 → Fin 1024 → ℝ) (G : Fin 1024 → ℝ) (A B : Fin 352 → Fin 2816 → ℝ) (Wg Wu : Fin 1024 → Fin 2816 → ℝ) (Wd : Fin 2816 → Fin 1024 → ℝ) : Prop where
  y : ∀ i d, y (ix2 i d) = (C i d : EReal)
  h : ∀ i d, h (ix2 i d) = (H i d : EReal)
  g : ∀ d, g (ix2 0 d) = (G d : EReal)
  a : ∀ i j, a (ix2 i j) = (A i j : EReal)
  b : ∀ i j, b (ix2 i j) = (B i j : EReal)
  wg : ∀ j d, wg (ix2 j d) = (Wg d j : EReal)
  wu : ∀ j d, wu (ix2 j d) = (Wu d j : EReal)
  wd : ∀ j d, wd (ix2 j d) = (Wd j d : EReal)

/-- The row's gradients of the two products. -/
def daR (C : Fin 352 → Fin 1024 → ℝ) (A B : Fin 352 → Fin 2816 → ℝ) (Wd : Fin 2816 → Fin 1024 → ℝ) (i : Fin 352) (j : Fin 2816) : ℝ := FfnReal.da (A i j) (B i j) (FfnReal.ds (C i) Wd j)
def dbR (C : Fin 352 → Fin 1024 → ℝ) (A : Fin 352 → Fin 2816 → ℝ) (Wd : Fin 2816 → Fin 1024 → ℝ) (i : Fin 352) (j : Fin 2816) : ℝ := FfnReal.db (A i j) (FfnReal.ds (C i) Wd j)

section reals
variable {y h : Vec Ideal S352x1024 .f32} {g : Vec Ideal S1x1024 .f32} {a b : Vec Ideal S352x2816 .bf16} {wg wu wd : Vec Ideal S2816x1024 .bf16}
  {C H : Fin 352 → Fin 1024 → ℝ} {G : Fin 1024 → ℝ} {A B : Fin 352 → Fin 2816 → ℝ} {Wg Wu : Fin 1024 → Fin 2816 → ℝ} {Wd : Fin 2816 → Fin 1024 → ℝ}
  (R : Reals y h g a b wg wu wd C H G A B Wg Wu Wd) (i : Fin 352) (j : Fin 1408) (d : Fin 1024)

include R
theorem ds0 : k0_pay7 y (lo wd) (ix2 i j) = (FfnReal.ds (C i) Wd (c0 j) : EReal) := by
  rw [pay7_at]
  simp only [lo_at, R.y, R.wd, FfnReal.c_half, ← EReal.coe_mul]
  exact Row.coe_sum _ _
theorem ds1 : k0_pay18 (k0_pay5 y) (hi wd) (ix2 i j) = (FfnReal.ds (C i) Wd (c1 j) : EReal) := by
  rw [pay18_at]
  simp only [hi_at, R.y, R.wd, FfnReal.c_half, ← EReal.coe_mul]
  exact Row.coe_sum _ _
theorem sg0 : k0_pay10 (le a) (ix2 i j) = (FfnReal.sg (A i (c0 j)) : EReal) := by
  rw [pay10_at, le_at, R.a, zero_sub, FfnReal.sg_real]
theorem sg1 : k0_pay23 (k0_pay21 (ri a)) k0_pay22 (ix2 i j) = (FfnReal.sg (A i (c1 j)) : EReal) := by
  rw [pay23_at, ri_at, R.a, zero_sub, FfnReal.sg_real]
theorem da0 : k0_pay14 (k0_pay12 y (lo wd) (le b)) (k0_pay13 (le a)) (ix2 i j) = (FfnReal.da (A i (c0 j)) (B i (c0 j)) (FfnReal.ds (C i) Wd (c0 j)) : EReal) := by
  rw [pay14_at, ds0 R, sg0 R, le_at, le_at, R.a, R.b, ← EReal.coe_one]
  simp only [← EReal.coe_mul, ← EReal.coe_add, ← EReal.coe_sub]
  rfl
theorem da1 : k0_pay25 (k0_pay18 (k0_pay5 y) (hi wd)) (k0_pay19 (ri a)) (k0_pay20 (ri b)) (k0_pay21 (ri a)) k0_pay22 (ix2 i j)
    = (FfnReal.da (A i (c1 j)) (B i (c1 j)) (FfnReal.ds (C i) Wd (c1 j)) : EReal) := by
  rw [pay25_at, ds1 R, sg1 R, pay19_at, pay20_at, ri_at, ri_at, R.a, R.b, ← EReal.coe_one]
  simp only [← EReal.coe_mul, ← EReal.coe_add, ← EReal.coe_sub]
  rfl
theorem db0 : k0_pay15 (k0_pay7 y (lo wd)) (k0_pay11 (le a)) (ix2 i j) = (FfnReal.db (A i (c0 j)) (FfnReal.ds (C i) Wd (c0 j)) : EReal) := by
  rw [pay15_at, ds0 R, sg0 R, le_at, R.a]
  simp only [← EReal.coe_mul]
  rfl
theorem db1 : k0_pay26 (k0_pay18 (k0_pay5 y) (hi wd)) (k0_pay19 (ri a)) (k0_pay21 (ri a)) k0_pay22 (ix2 i j)
    = (FfnReal.db (A i (c1 j)) (FfnReal.ds (C i) Wd (c1 j)) : EReal) := by
  rw [pay26_at, ds1 R, sg1 R, pay19_at, ri_at, R.a]
  simp only [← EReal.coe_mul]
  rfl
theorem sx0 : k0_pay16 (k0_pay9 (le b)) (k0_pay11 (le a)) (ix2 i j) = (FfnReal.sx (A i (c0 j)) (B i (c0 j)) : EReal) := by
  rw [pay16_at, sg0 R, le_at, le_at, R.a, R.b, FfnReal.c_half]
  simp only [← EReal.coe_mul]
  rfl
theorem sx1 : k0_pay27 (k0_pay19 (ri a)) (k0_pay20 (ri b)) (k0_pay21 (ri a)) k0_pay22 (ix2 i j) = (FfnReal.sx (A i (c1 j)) (B i (c1 j)) : EReal) := by
  rw [pay27_at, sg1 R, pay19_at, pay20_at, ri_at, ri_at, R.a, R.b, FfnReal.c_half]
  simp only [← EReal.coe_mul]
  rfl

theorem du_eq : DU y a b wg wu wd (ix2 i d) = (FfnReal.du (daR C A B Wd i) (dbR C A Wd i) Wg Wu d : EReal) := by
  unfold DU
  rw [pay28_at, pay17_at]
  simp only [da0 R, da1 R, db0 R, db1 R, lo_at, hi_at, R.wg, R.wu]
  simp only [← EReal.coe_mul, Row.coe_sum, ← EReal.coe_add]
  congr 1
  unfold FfnReal.du
  rw [Fin.sum_univ_add (a := 1408) (b := 1408), Fin.sum_univ_add (a := 1408) (b := 1408)]
  unfold daR dbR
  ring
theorem rt_eq : k0_pay4 h (ix2 i 0) = (FfnReal.rt (H i) : EReal) := by
  rw [pay4_at]
  simp only [R.h, FfnReal.c_inv, FfnReal.c_eps, ← EReal.coe_mul, Row.coe_sum, ← EReal.coe_add]
  rw [← FfnReal.rsqrt_ms]
  congr 2
  unfold FfnReal.ms
  ring
theorem xh_eq : XH h (ix2 i d) = ((H i d * FfnReal.rt (H i) : ℝ) : EReal) := by
  unfold XH
  rw [pay29_at, rt_eq R, R.h, EReal.coe_mul]
theorem dh_eq : DH y h g a b wg wu wd (ix2 i d)
    = (FfnReal.dh (H i) G (C i) (FfnReal.du (daR C A B Wd i) (dbR C A Wd i) Wg Wu) d : EReal) := by
  have e : ∀ x, k0_pay28 (k0_pay17 k0_pay6 (k0_pay7 y (lo wd)) (k0_pay11 (le a)) (k0_pay12 y (lo wd) (le b)) (k0_pay13 (le a)) (lo wg) (lo wu))
      (k0_pay18 (k0_pay5 y) (hi wd)) (k0_pay19 (ri a)) (k0_pay20 (ri b)) (k0_pay21 (ri a)) k0_pay22 (hi wg) (hi wu) (ix2 i x)
      = (FfnReal.du (daR C A B Wd i) (dbR C A Wd i) Wg Wu x : EReal) := fun x => du_eq R i x
  unfold DH
  rw [pay2_at, pay30_at, pay31_at, rt_eq R, xh_eq R, R.y]
  simp only [e, R.g, R.h, FfnReal.c_inv, ← EReal.coe_mul, Row.coe_sum, ← EReal.coe_add, ← EReal.coe_sub]
  rfl
theorem dg_eq : ∑ x, DU y a b wg wu wd (ix2 x d) * XH h (ix2 x d)
    = ((∑ x, FfnReal.dg (H x) (FfnReal.du (daR C A B Wd x) (dbR C A Wd x) Wg Wu) d : ℝ) : EReal) := by
  simp only [du_eq R, xh_eq R, ← EReal.coe_mul, Row.coe_sum]
  rfl
end reals

/-! What a point leaves. -/
section after
variable (m : (ℓ : Loc nD τ sig) → Buf (Elt Ideal) ℓ) (c : Dev nD) (t : Fin cfg0.N)

theorem caseB (h0 : ¬t.val % 12 = 0) : 1 ≤ t.val := by
  rcases Nat.eq_zero_or_pos t.val with h | h
  · exact absurd (by rw [h]) h0
  · exact h
theorem caseA (h0 : t.val % 12 = 0) : ¬1 ≤ t.val := by have : t.val < 12 := t.isLt; omega

theorem after8 : (outsAt0 m c t.val t.isLt).1 = DH (iblk m c 0 t) (iblk m c 1 t) (iblk m c 2 t) (iblk m c 3 t) (iblk m c 4 t) (iblk m c 5 t) (iblk m c 6 t) (iblk m c 7 t) := by
  by_cases h0 : t.val % 12 = 0
  · rw [outsAt0_A m c t h0 (caseA t h0)]
    frame_out
    rfl
  · rw [outsAt0_B m c t h0 (caseB t h0)]
    frame_out
    rfl
theorem after12A (h0 : t.val % 12 = 0) (d : Fin 1024) : (outsAt0 m c t.val t.isLt).2.2.2.2 (ix2 0 d)
    = ∑ x, DU (iblk m c 0 t) (iblk m c 3 t) (iblk m c 4 t) (iblk m c 5 t) (iblk m c 6 t) (iblk m c 7 t) (ix2 x d) * XH (iblk m c 1 t) (ix2 x d) := by
  rw [outsAt0_A m c t h0 (caseA t h0)]
  frame_out
  exact pay1_at _ _ _
theorem after12B (h0 : ¬t.val % 12 = 0) (d : Fin 1024) : (outsAt0 m c t.val t.isLt).2.2.2.2 (ix2 0 d)
    = (outsAt0 m c (t.val - 1) (Nat.lt_of_le_of_lt (Nat.sub_le _ _) t.isLt)).2.2.2.2 (ix2 0 d)
      + ∑ x, DU (iblk m c 0 t) (iblk m c 3 t) (iblk m c 4 t) (iblk m c 5 t) (iblk m c 6 t) (iblk m c 7 t) (ix2 x d) * XH (iblk m c 1 t) (ix2 x d) := by
  rw [outsAt0_B m c t h0 (caseB t h0)]
  frame_out
  exact pay3_at _ _ _ _

variable {C H : Fin 352 → Fin 1024 → ℝ} {G : Fin 1024 → ℝ} {A B : Fin 352 → Fin 2816 → ℝ} {Wg Wu : Fin 1024 → Fin 2816 → ℝ} {Wd : Fin 2816 → Fin 1024 → ℝ}
  (R : Reals (iblk m c 0 t) (iblk m c 1 t) (iblk m c 2 t) (iblk m c 3 t) (iblk m c 4 t) (iblk m c 5 t) (iblk m c 6 t) (iblk m c 7 t) C H G A B Wg Wu Wd)
  (i : Fin 352) (j : Fin 2816)

/-- Two pieces side by side, each at the values of one function. -/
theorem two (p q : FVec Ideal S352x1408 .bf16) (f : Fin 2816 → EReal) (hp : ∀ j, p (ix2 i j) = f (c0 j)) (hq : ∀ j, q (ix2 i j) = f (c1 j)) :
    View.canon (Val := Elt Ideal) (e := .bf16) [⟨Rect.unit ![0, 1408] ![352, 1408] inb_S352x2816_S352x1408_0_1408, q⟩, ⟨Rect.unit ![0, 0] ![352, 1408] inb_S352x2816_S352x1408_0_0, p⟩] (ix2 i j) = f j := by
  canon_tiles x h
  · have hx : (x : S352x1408.Idx) = ix2 i ⟨(x 1).val, x1_lt⟩ := by
      funext k
      fin_cases k
      · exact Fin.ext h0.symm
      · rfl
    rw [hx, hq]
    exact congrArg f (Fin.ext h1.symm)
  · have hx : (x : S352x1408.Idx) = ix2 i ⟨(x 1).val, x1_lt⟩ := by
      funext k
      fin_cases k
      · exact Fin.ext h0.symm
      · rfl
    rw [hx, hp]
    exact congrArg f (Fin.ext h1.symm)

include R
theorem after9 : (outsAt0 m c t.val t.isLt).2.1 (ix2 i j) = (daR C A B Wd i j : EReal) := by
  by_cases h0 : t.val % 12 = 0
  · rw [outsAt0_A m c t h0 (caseA t h0)]
    frame_out
    exact two i j _ _ (fun j => (daR C A B Wd i j : EReal)) (fun j => da0 R i j) (fun j => da1 R i j)
  · rw [outsAt0_B m c t h0 (caseB t h0)]
    frame_out
    exact two i j _ _ (fun j => (daR C A B Wd i j : EReal)) (fun j => da0 R i j) (fun j => da1 R i j)
theorem after10 : (outsAt0 m c t.val t.isLt).2.2.1 (ix2 i j) = (dbR C A Wd i j : EReal) := by
  by_cases h0 : t.val % 12 = 0
  · rw [outsAt0_A m c t h0 (caseA t h0)]
    frame_out
    exact two i j _ _ (fun j => (dbR C A Wd i j : EReal)) (fun j => db0 R i j) (fun j => db1 R i j)
  · rw [outsAt0_B m c t h0 (caseB t h0)]
    frame_out
    exact two i j _ _ (fun j => (dbR C A Wd i j : EReal)) (fun j => db0 R i j) (fun j => db1 R i j)
theorem after11 : (outsAt0 m c t.val t.isLt).2.2.2.1 (ix2 i j) = (FfnReal.sx (A i j) (B i j) : EReal) := by
  by_cases h0 : t.val % 12 = 0
  · rw [outsAt0_A m c t h0 (caseA t h0)]
    frame_out
    exact two i j _ _ (fun j => (FfnReal.sx (A i j) (B i j) : EReal)) (fun j => sx0 R i j) (fun j => sx1 R i j)
  · rw [outsAt0_B m c t h0 (caseB t h0)]
    frame_out
    exact two i j _ _ (fun j => (FfnReal.sx (A i j) (B i j) : EReal)) (fun j => sx0 R i j) (fun j => sx1 R i j)
end after

end Cert.Proof.FfnBwd
end
-- ==== Proof.FfnBwdHost.lean ====
/-
  The operands of a half block's backward call, over the reals, and its input blocks.
-/
module

public import proofs.«01_k».proof.Defs
public import proofs.«01_k».proof.Proof.FfnVal
public import proofs.«01_k».proof.Proof.FfnBwdBlk
public import proofs.«01_k».proof.Proof.AttnOut
public import Idealize.ShloMosaic.Lib.StableHlo.RunRead

@[expose] public section

set_option maxRecDepth 16384

noncomputable section

namespace Cert.Proof.FfnBwd

open Cert.Kernel2Ideal Cert.Kernel2Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev ct : FVec F S4224x1024 .f32 := m ((c : Thread nD τ).loc main_arg5)
abbrev aa : FVec F S4224x2816 .f32 := Ffn.up (Ffn.un (h0 m c) (g0 m c)) (wg m c)
abbrev bb : FVec F S4224x2816 .f32 := Ffn.up (Ffn.un (h0 m c) (g0 m c)) (wu m c)

theorem V_v15 : V m c main_v15 = shapeCast S1x1024 (g0 m c) shapeCasts_S1024_S1x1024 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v16 : V m c main_v16 = truncf .bf16 (aa m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v17 : V m c main_v17 = truncf .bf16 (bb m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v19 : V m c main_v19 = truncf .bf16 (transpose S2816x1024 [1, 0] (wg m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v21 : V m c main_v21 = truncf .bf16 (transpose S2816x1024 [1, 0] (wu m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v22 : V m c main_v22 = truncf .bf16 (wd m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
end host

theorem row_at (g : FVec Ideal S1024 .f32) (d : Fin 1024) : shapeCast S1x1024 g shapeCasts_S1024_S1x1024 (ix2 0 d) = g (ix1 d) := by
  pointwise
theorem turn_at (w : FVec Ideal S1024x2816 .f32) (j : Fin 2816) (d : Fin 1024) :
    truncf .bf16 (transpose S2816x1024 [1, 0] w transposes_S1024x2816_S2816x1024_1_0) bitsLt_bf16_f32 (ix2 j d) = w (ix2 d j) := by
  pointwise

section blocks
variable (m : (ℓ : Loc nD τ sig) → Buf (Elt Ideal) ℓ) (c : Dev nD) (t : Fin cfg0.N)

/-- A block's row in the array. -/
theorem row_lt (i : Fin 352) : 352 * t.val + i.val < 4224 := by have : t.val < 12 := t.isLt; omega
def ro (i : Fin 352) : Fin 4224 := ⟨352 * t.val + i.val, row_lt t i⟩
theorem idx0 : win0_0.index t = ![t.val, 0] := (by decide +kernel : ∀ t : Fin grid0.N, win0_0.index t = ![t.val, 0]) t
theorem idx1 : win0_1.index t = ![t.val, 0] := (by decide +kernel : ∀ t : Fin grid0.N, win0_1.index t = ![t.val, 0]) t
theorem idx2 : win0_2.index t = ![0, 0] := (by decide +kernel : ∀ t : Fin grid0.N, win0_2.index t = ![0, 0]) t
theorem idx3 : win0_3.index t = ![t.val, 0] := (by decide +kernel : ∀ t : Fin grid0.N, win0_3.index t = ![t.val, 0]) t
theorem idx4 : win0_4.index t = ![t.val, 0] := (by decide +kernel : ∀ t : Fin grid0.N, win0_4.index t = ![t.val, 0]) t
theorem idx5 : win0_5.index t = ![0, 0] := (by decide +kernel : ∀ t : Fin grid0.N, win0_5.index t = ![0, 0]) t
theorem idx6 : win0_6.index t = ![0, 0] := (by decide +kernel : ∀ t : Fin grid0.N, win0_6.index t = ![0, 0]) t
theorem idx7 : win0_7.index t = ![0, 0] := (by decide +kernel : ∀ t : Fin grid0.N, win0_7.index t = ![0, 0]) t
theorem idx8 : win0_8.index t = ![t.val, 0] := (by decide +kernel : ∀ t : Fin grid0.N, win0_8.index t = ![t.val, 0]) t
theorem idx9 : win0_9.index t = ![t.val, 0] := (by decide +kernel : ∀ t : Fin grid0.N, win0_9.index t = ![t.val, 0]) t
theorem idx10 : win0_10.index t = ![t.val, 0] := (by decide +kernel : ∀ t : Fin grid0.N, win0_10.index t = ![t.val, 0]) t
theorem idx11 : win0_11.index t = ![t.val, 0] := (by decide +kernel : ∀ t : Fin grid0.N, win0_11.index t = ![t.val, 0]) t

theorem read0 (i : Fin 352) (d : Fin 1024) : iblk m c 0 t (ix2 i d) = ct m c (ix2 (ro t i) d) := by
  rw [ct, ← V_main_arg5 m c]
  unfold iblk ro
  generalize V m c (Pipeline.arrRef spec0 0) = A
  blk_ext [idx0 t]
theorem read1 (i : Fin 352) (d : Fin 1024) : iblk m c 1 t (ix2 i d) = h0 m c (ix2 (ro t i) d) := by
  rw [h0, ← V_main_arg0 m c]
  unfold iblk ro
  generalize V m c (Pipeline.arrRef spec0 1) = A
  blk_ext [idx1 t]
theorem read2 (d : Fin 1024) : iblk m c 2 t (ix2 0 d) = V m c main_v15 (ix2 0 d) := by
  unfold iblk
  generalize V m c (Pipeline.arrRef spec0 2) = A
  blk_ext [idx2 t]
theorem read3 (i : Fin 352) (j : Fin 2816) : iblk m c 3 t (ix2 i j) = V m c main_v16 (ix2 (ro t i) j) := by
  unfold iblk ro
  generalize V m c (Pipeline.arrRef spec0 3) = A
  blk_ext [idx3 t]
theorem read4 (i : Fin 352) (j : Fin 2816) : iblk m c 4 t (ix2 i j) = V m c main_v17 (ix2 (ro t i) j) := by
  unfold iblk ro
  generalize V m c (Pipeline.arrRef spec0 4) = A
  blk_ext [idx4 t]
theorem read5 (j : Fin 2816) (d : Fin 1024) : iblk m c 5 t (ix2 j d) = V m c main_v19 (ix2 j d) := by
  unfold iblk
  generalize V m c (Pipeline.arrRef spec0 5) = A
  blk_ext [idx5 t]
theorem read6 (j : Fin 2816) (d : Fin 1024) : iblk m c 6 t (ix2 j d) = V m c main_v21 (ix2 j d) := by
  unfold iblk
  generalize V m c (Pipeline.arrRef spec0 6) = A
  blk_ext [idx6 t]
theorem read7 (j : Fin 2816) (d : Fin 1024) : iblk m c 7 t (ix2 j d) = V m c main_v22 (ix2 j d) := by
  unfold iblk
  generalize V m c (Pipeline.arrRef spec0 7) = A
  blk_ext [idx7 t]

/-- Arguments that hold reals. -/
structure Args (H : Fin 4224 → Fin 1024 → ℝ) (G : Fin 1024 → ℝ) (Wg Wu : Fin 1024 → Fin 2816 → ℝ) (Wd : Fin 2816 → Fin 1024 → ℝ) (C : Fin 4224 → Fin 1024 → ℝ) : Prop where
  h : ∀ i d, h0 m c (ix2 i d) = (H i d : EReal)
  g : ∀ d, g0 m c (ix1 d) = (G d : EReal)
  wg : ∀ d j, wg m c (ix2 d j) = (Wg d j : EReal)
  wu : ∀ d j, wu m c (ix2 d j) = (Wu d j : EReal)
  wd : ∀ j d, wd m c (ix2 j d) = (Wd j d : EReal)
  ct : ∀ i d, ct m c (ix2 i d) = (C i d : EReal)

variable {m c} {H : Fin 4224 → Fin 1024 → ℝ} {G : Fin 1024 → ℝ} {Wg Wu : Fin 1024 → Fin 2816 → ℝ} {Wd : Fin 2816 → Fin 1024 → ℝ} {C : Fin 4224 → Fin 1024 → ℝ}
  (P : Args m c H G Wg Wu Wd C)

/-- The two products of the rows. -/
def aR (H : Fin 4224 → Fin 1024 → ℝ) (G : Fin 1024 → ℝ) (W : Fin 1024 → Fin 2816 → ℝ) (i : Fin 4224) (j : Fin 2816) : ℝ := FfnReal.up (FfnReal.un (H i) G) W j

include P
theorem aa_real (i : Fin 4224) (j : Fin 2816) : aa m c (ix2 i j) = (aR H G Wg i j : EReal) :=
  Ffn.up_real (Ffn.un_real P.h P.g) P.wg i j
theorem bb_real (i : Fin 4224) (j : Fin 2816) : bb m c (ix2 i j) = (aR H G Wu i j : EReal) :=
  Ffn.up_real (Ffn.un_real P.h P.g) P.wu i j
theorem blocks : Reals (iblk m c 0 t) (iblk m c 1 t) (iblk m c 2 t) (iblk m c 3 t) (iblk m c 4 t) (iblk m c 5 t) (iblk m c 6 t) (iblk m c 7 t)
    (fun i => C (ro t i)) (fun i => H (ro t i)) G (fun i => aR H G Wg (ro t i)) (fun i => aR H G Wu (ro t i)) Wg Wu Wd where
  y i d := (read0 m c t i d).trans (P.ct _ _)
  h i d := (read1 m c t i d).trans (P.h _ _)
  g d := (read2 m c t d).trans ((congrFun (V_v15 m c) _).trans ((row_at _ d).trans (P.g d)))
  a i j := (read3 m c t i j).trans ((congrFun (V_v16 m c) _).trans (aa_real P _ _))
  b i j := (read4 m c t i j).trans ((congrFun (V_v17 m c) _).trans (bb_real P _ _))
  wg j d := (read5 m c t j d).trans ((congrFun (V_v19 m c) _).trans ((turn_at _ j d).trans (P.wg d j)))
  wu j d := (read6 m c t j d).trans ((congrFun (V_v21 m c) _).trans ((turn_at _ j d).trans (P.wu d j)))
  wd j d := (read7 m c t j d).trans ((congrFun (V_v22 m c) _).trans (P.wd j d))
end blocks

end Cert.Proof.FfnBwd
end
-- ==== Proof.FfnBwdOut.lean ====
/-
  The half block's backward call: for finite arguments its five arrays are the reference's.
-/
module

public import proofs.«01_k».proof.Proof.FfnBwdHost
public import proofs.«01_k».proof.Proof.Gen.Reference2Ideal.Run

@[expose] public section

set_option maxRecDepth 16384

noncomputable section

namespace Cert.Proof.FfnBwd

open Cert.Kernel2Ideal Cert.Kernel2Ideal.Gen
open Idealize.ShloMosaic Idealize.ShloMosaic.TcCoe
open Idealize.SL.Sem
open Idealize.ShloMosaic.Pipeline (Dat Cfg Window)

/-! The reference's arrays, of the arguments. -/
section ref
variable {F : FTy → Type} [FloatOps F]
variable (h : FVec F S4224x1024 .f32) (g : FVec F S1024 .f32) (wg wu : FVec F S1024x2816 .f32) (wd : FVec F S2816x1024 .f32) (ct : FVec F S4224x1024 .f32)

def rDa : FVec F S4224x2816 .bf16 := truncf .bf16 (Ffn.da (Ffn.up (Ffn.un h g) wg) (Ffn.up (Ffn.un h g) wu) (Ffn.ds ct wd)) bitsLt_bf16_f32
def rDb : FVec F S4224x2816 .bf16 := truncf .bf16 (Ffn.db (Ffn.up (Ffn.un h g) wg) (Ffn.ds ct wd)) bitsLt_bf16_f32
def rS : FVec F S4224x2816 .bf16 := truncf .bf16 (Ffn.sx (Ffn.up (Ffn.un h g) wg) (Ffn.up (Ffn.un h g) wu)) bitsLt_bf16_f32
def rDu : FVec F S4224x1024 .f32 :=
  Ffn.du (Ffn.da (Ffn.up (Ffn.un h g) wg) (Ffn.up (Ffn.un h g) wu) (Ffn.ds (Ffn.same ct) wd)) (Ffn.db (Ffn.up (Ffn.un h g) wg) (Ffn.ds (Ffn.same ct) wd)) wg wu
def rDh : FVec F S4224x1024 .f32 := Ffn.dh h ct (mulf (rDu h g wg wu wd ct) (Ffn.tallH g))
def rDg : FVec F S1x1024 .f32 := Ffn.dg h (rDu h g wg wu wd ct)
end ref

section arrays
variable (m : (ℓ : Loc nD τ sig) → Buf (Elt Ideal) ℓ) (c : Dev nD) (t : Fin cfg0.N)

theorem place8 (A : FVec Ideal S4224x1024 .f32) (i : Fin 352) (d : Fin 1024) : A ((win0_8.blk t).view.emb (ix2 i d)) = A (ix2 (ro t i) d) := by
  unfold ro
  blk_ext [idx8 t]
theorem place9 (A : FVec Ideal S4224x2816 .bf16) (i : Fin 352) (j : Fin 2816) : A ((win0_9.blk t).view.emb (ix2 i j)) = A (ix2 (ro t i) j) := by
  unfold ro
  blk_ext [idx9 t]
theorem place10 (A : FVec Ideal S4224x2816 .bf16) (i : Fin 352) (j : Fin 2816) : A ((win0_10.blk t).view.emb (ix2 i j)) = A (ix2 (ro t i) j) := by
  unfold ro
  blk_ext [idx10 t]
theorem place11 (A : FVec Ideal S4224x2816 .bf16) (i : Fin 352) (j : Fin 2816) : A ((win0_11.blk t).view.emb (ix2 i j)) = A (ix2 (ro t i) j) := by
  unfold ro
  blk_ext [idx11 t]

variable {m c} {H : Fin 4224 → Fin 1024 → ℝ} {G : Fin 1024 → ℝ} {Wg Wu : Fin 1024 → Fin 2816 → ℝ} {Wd : Fin 2816 → Fin 1024 → ℝ} {C : Fin 4224 → Fin 1024 → ℝ}
  (P : Args m c H G Wg Wu Wd C)
include P

theorem rDa_real (i : Fin 4224) (j : Fin 2816) : rDa (h0 m c) (g0 m c) (wg m c) (wu m c) (wd m c) (ct m c) (ix2 i j)
    = (FfnReal.da (aR H G Wg i j) (aR H G Wu i j) (FfnReal.ds (C i) Wd j) : EReal) :=
  Ffn.da_real (aa_real P) (bb_real P) (Ffn.ds_real P.ct P.wd) i j
theorem rDb_real (i : Fin 4224) (j : Fin 2816) : rDb (h0 m c) (g0 m c) (wg m c) (wd m c) (ct m c) (ix2 i j)
    = (FfnReal.db (aR H G Wg i j) (FfnReal.ds (C i) Wd j) : EReal) :=
  Ffn.db_real (aa_real P) (Ffn.ds_real P.ct P.wd) i j
theorem rS_real (i : Fin 4224) (j : Fin 2816) : rS (h0 m c) (g0 m c) (wg m c) (wu m c) (ix2 i j) = (FfnReal.sx (aR H G Wg i j) (aR H G Wu i j) : EReal) :=
  Ffn.sx_real (aa_real P) (bb_real P) i j
theorem rDu_real (i : Fin 4224) (d : Fin 1024) : rDu (h0 m c) (g0 m c) (wg m c) (wu m c) (wd m c) (ct m c) (ix2 i d)
    = (FfnReal.du (fun j => FfnReal.da (aR H G Wg i j) (aR H G Wu i j) (FfnReal.ds (C i) Wd j)) (fun j => FfnReal.db (aR H G Wg i j) (FfnReal.ds (C i) Wd j)) Wg Wu d : EReal) := by
  have es : ∀ i d, Ffn.same (ct m c) (ix2 i d) = (C i d : EReal) := fun i d => (Ffn.same_at _ i d).trans (P.ct i d)
  exact Ffn.du_real (X := fun i j => FfnReal.da (aR H G Wg i j) (aR H G Wu i j) (FfnReal.ds (C i) Wd j)) (Y := fun i j => FfnReal.db (aR H G Wg i j) (FfnReal.ds (C i) Wd j))
    (Ffn.da_real (aa_real P) (bb_real P) (Ffn.ds_real es P.wd)) (Ffn.db_real (aa_real P) (Ffn.ds_real es P.wd)) P.wg P.wu i d

theorem arr8 : (dats m 0 c).arrAt 8 cfg0.N = rDh (h0 m c) (g0 m c) (wg m c) (wu m c) (wd m c) (ct m c) := by
  refine (dats m 0 c).arrAt_eq_of_covers 8 _ (by decide +kernel) fun t hf y => ?_
  blk_simp
  rw [after0_8, after8]
  have hy : (y : S352x1024.Idx) = ix2 (y 0) (y 1) := by funext a; fin_cases a <;> rfl
  exact (congrArg (DH _ _ _ _ _ _ _ _) hy).trans ((dh_eq (blocks t P) (y 0) (y 1)).trans ((Ffn.dh_real P.h P.g P.ct (rDu_real P) (ro t (y 0)) (y 1)).symm.trans
    ((place8 t _ (y 0) (y 1)).symm.trans (congrArg (fun z => rDh (h0 m c) (g0 m c) (wg m c) (wu m c) (wd m c) (ct m c) ((win0_8.blk t).view.emb z)) hy.symm))))
theorem arr9 : (dats m 0 c).arrAt 9 cfg0.N = rDa (h0 m c) (g0 m c) (wg m c) (wu m c) (wd m c) (ct m c) := by
  refine (dats m 0 c).arrAt_eq_of_covers 9 _ (by decide +kernel) fun t hf y => ?_
  blk_simp
  rw [after0_9]
  have hy : (y : S352x2816.Idx) = ix2 (y 0) (y 1) := by funext a; fin_cases a <;> rfl
  exact (congrArg (outsAt0 m c t.val t.isLt).2.1 hy).trans ((after9 m c t (blocks t P) (y 0) (y 1)).trans ((rDa_real P (ro t (y 0)) (y 1)).symm.trans
    ((place9 t _ (y 0) (y 1)).symm.trans (congrArg (fun z => rDa (h0 m c) (g0 m c) (wg m c) (wu m c) (wd m c) (ct m c) ((win0_9.blk t).view.emb z)) hy.symm))))
theorem arr10 : (dats m 0 c).arrAt 10 cfg0.N = rDb (h0 m c) (g0 m c) (wg m c) (wd m c) (ct m c) := by
  refine (dats m 0 c).arrAt_eq_of_covers 10 _ (by decide +kernel) fun t hf y => ?_
  blk_simp
  rw [after0_10]
  have hy : (y : S352x2816.Idx) = ix2 (y 0) (y 1) := by funext a; fin_cases a <;> rfl
  exact (congrArg (outsAt0 m c t.val t.isLt).2.2.1 hy).trans ((after10 m c t (blocks t P) (y 0) (y 1)).trans ((rDb_real P (ro t (y 0)) (y 1)).symm.trans
    ((place10 t _ (y 0) (y 1)).symm.trans (congrArg (fun z => rDb (h0 m c) (g0 m c) (wg m c) (wd m c) (ct m c) ((win0_10.blk t).view.emb z)) hy.symm))))
theorem arr11 : (dats m 0 c).arrAt 11 cfg0.N = rS (h0 m c) (g0 m c) (wg m c) (wu m c) := by
  refine (dats m 0 c).arrAt_eq_of_covers 11 _ (by decide +kernel) fun t hf y => ?_
  blk_simp
  rw [after0_11]
  have hy : (y : S352x2816.Idx) = ix2 (y 0) (y 1) := by funext a; fin_cases a <;> rfl
  exact (congrArg (outsAt0 m c t.val t.isLt).2.2.2.1 hy).trans ((after11 m c t (blocks t P) (y 0) (y 1)).trans ((rS_real P (ro t (y 0)) (y 1)).symm.trans
    ((place11 t _ (y 0) (y 1)).symm.trans (congrArg (fun z => rS (h0 m c) (g0 m c) (wg m c) (wu m c) ((win0_11.blk t).view.emb z)) hy.symm))))
theorem arr12 : (dats m 0 c).arrAt 12 cfg0.N = rDg (h0 m c) (g0 m c) (wg m c) (wu m c) (wd m c) (ct m c) := by
  refine (dats m 0 c).arrAt_eq_of_after_last 12 t0_11 (by decide +kernel) _ fun y => ?_
  blk_simp
  have hy : (y : S1x1024.Idx) = ix2 0 (y 1) := by funext a; fin_cases a; exact Fin.ext (by have := (y 0).isLt; change (y 0).val = 0; change (y 0).val < 1 at this; omega); rfl
  have e : ∀ d : Fin 1024, (outsAt0 m c t0_11.val t0_11.isLt).2.2.2.2 (ix2 0 d)
      = ∑ t : Fin cfg0.N, ∑ x, DU (iblk m c 0 t) (iblk m c 3 t) (iblk m c 4 t) (iblk m c 5 t) (iblk m c 6 t) (iblk m c 7 t) (ix2 x d) * XH (iblk m c 1 t) (ix2 x d) := fun d => by
    rw [Pipeline.eq_sum_fin_of_reset_step_apply_last (fun n h (d : Fin 1024) => (outsAt0 m c n h).2.2.2.2 (ix2 0 d)) 12 (fun _ => 0)
      (fun t d => ∑ x, DU (iblk m c 0 t) (iblk m c 3 t) (iblk m c 4 t) (iblk m c 5 t) (iblk m c 6 t) (iblk m c 7 t) (ix2 x d) * XH (iblk m c 1 t) (ix2 x d))
      (fun t h d => by rw [after12A m c t h, zero_add]) (fun t h d => by rw [after12B m c t h]) (le_of_eq N_0) t0_11 rfl d, zero_add]
  rw [after0_12]
  refine (congrArg (outsAt0 m c t0_11.val t0_11.isLt).2.2.2.2 hy).trans ((e (y 1)).trans (Eq.trans ?_ (congrArg (rDg (h0 m c) (g0 m c) (wg m c) (wu m c) (wd m c) (ct m c)) hy.symm)))
  generalize y 1 = d
  refine Eq.trans ?_ (Ffn.dg_real P.h (rDu_real P) d).symm
  simp only [fun t => dg_eq (blocks t P) d, Row.coe_sum]
  congr 1
  refine Eq.trans ?_ (Fin.sum_mul_add_fin 12 352 (fun i : Fin 4224 => _) rfl)
  refine Finset.sum_congr rfl fun t _ => Finset.sum_congr rfl fun x _ => ?_
  have hr : ro t x = ⟨t.val * 352 + x.val, by have : t.val < 12 := t.isLt; omega⟩ := Fin.ext (by unfold ro; simp [Nat.mul_comm])
  rw [← hr]
  rfl
end arrays

/-- The precondition's facts on broadcasts, and its words. -/
theorem preFacts : Cert.Pre_all_finite2.Facts := ⟨by decide, by decide, by decide, by decide⟩

theorem algebraic : Cert.algebraic_Kernel2Ideal_Reference2Ideal_pre_all_finite2 (hPre_all_finite2 := preFacts) := by
  intro m g m' g' hpre hagree
  refine ⟨fun c => rDh (h0 m c) (g0 m c) (wg m c) (wu m c) (wd m c) (ct m c), fun c => rDa (h0 m c) (g0 m c) (wg m c) (wu m c) (wd m c) (ct m c),
    fun c => rDb (h0 m c) (g0 m c) (wg m c) (wd m c) (ct m c), fun c => rS (h0 m c) (g0 m c) (wg m c) (wu m c),
    fun c => rDg (h0 m c) (g0 m c) (wg m c) (wu m c) (wd m c) (ct m c), ?_, ?_⟩
  · refine (θ_run defs _ _).mono (fun r h c => ?_) (Value.run_blocks m g)
    obtain ⟨p0, p1, p2, p3, p4, p5⟩ := hpre c
    have P : Args m c (fun i d => (h0 m c (ix2 i d)).toReal) (fun d => (g0 m c (ix1 d)).toReal) (fun d j => (wg m c (ix2 d j)).toReal) (fun d j => (wu m c (ix2 d j)).toReal)
        (fun j d => (wd m c (ix2 j d)).toReal) (fun i d => (ct m c (ix2 i d)).toReal) :=
      ⟨fun i d => KernelIdeal.real_of _ (congrFun p0 _), fun d => KernelIdeal.real_of _ (congrFun p1 _), fun d j => KernelIdeal.real_of _ (congrFun p2 _),
        fun d j => KernelIdeal.real_of _ (congrFun p3 _), fun j d => KernelIdeal.real_of _ (congrFun p4 _), fun i d => KernelIdeal.real_of _ (congrFun p5 _)⟩
    obtain ⟨r8, r9, r10, r11, r12, hargs⟩ := h c
    exact ⟨r8.trans (arr8 P), r9.trans (arr9 P), r10.trans (arr10 P), r11.trans (arr11 P), r12.trans (arr12 P), hargs⟩
  · refine (θ_run Cert.Reference2Ideal.defs _ _).mono (fun r h c => ?_) (Cert.Reference2Ideal.Value.run (F := Ideal) m' g')
    obtain ⟨e0, e1, e2, e3, e4, e5⟩ := hagree c
    obtain ⟨r0, r1, r2, r3, r4, hargs⟩ := h c
    refine ⟨r0.trans ?_, r1.trans ?_, r2.trans ?_, r3.trans ?_, r4.trans ?_, hargs⟩
    · unfold Cert.Reference2Ideal.Value.res_main_v54
      rw [e0, e1, e2, e3, e4, e5]
      rfl
    · unfold Cert.Reference2Ideal.Value.res_main_v85
      rw [e0, e1, e2, e3, e4, e5]
      rfl
    · rw [e0, e1, e2, e4, e5]
      rfl
    · rw [e0, e1, e2, e3]
      rfl
    · unfold Cert.Reference2Ideal.Value.res_main_v88
      rw [e0, e1, e2, e3, e4, e5]
      rfl

end Cert.Proof.FfnBwd
end
-- ==== Proof.FfnBwdABlk.lean ====
/-
  What a point of the first half block's backward call leaves in its four output blocks, over the reals.
-/
module

public import proofs.«01_k».proof.Proof.FfnReal
public import proofs.«01_k».proof.Proof.Gen.Kernel7Ideal.Value

@[expose] public section

set_option maxRecDepth 16384

noncomputable section

namespace Cert.Proof.FfnBwdA

open Cert.Kernel7Ideal Cert.Kernel7Ideal.Gen
open Idealize.ShloMosaic Idealize.ShloMosaic.TcCoe
open Idealize.ShloMosaic.Pipeline (Dat Cfg Window)

/-- The two halves of a weight and of a row's products. -/
def lo (x : Vec Ideal S2816x1024 .bf16) : Vec Ideal S1408x1024 .bf16 := View.ld x (Rect.unit ![0, 0] ![1408, 1024] inb_S2816x1024_S1408x1024_0_0)
def hi (x : Vec Ideal S2816x1024 .bf16) : Vec Ideal S1408x1024 .bf16 := View.ld x (Rect.unit ![1408, 0] ![1408, 1024] inb_S2816x1024_S1408x1024_1408_0)
def le (x : Vec Ideal S384x2816 .bf16) : Vec Ideal S384x1408 .bf16 := View.ld x (Rect.unit ![0, 0] ![384, 1408] inb_S384x2816_S384x1408_0_0)
def ri (x : Vec Ideal S384x2816 .bf16) : Vec Ideal S384x1408 .bf16 := View.ld x (Rect.unit ![0, 1408] ![384, 1408] inb_S384x2816_S384x1408_0_1408)

/-- A half's column in the whole. -/
abbrev c0 (j : Fin 1408) : Fin 2816 := Fin.castAdd 1408 j
abbrev c1 (j : Fin 1408) : Fin 2816 := Fin.natAdd 1408 j

theorem lo_at (x : Vec Ideal S2816x1024 .bf16) (j : Fin 1408) (d : Fin 1024) : lo x (ix2 j d) = x (ix2 (c0 j) d) :=
  View.ld_unit_apply_of x ![0, 0] ![1408, 1024] _ (ix2 j d) (ix2 (c0 j) d) (by intro a; fin_cases a <;> simp [Nat.add_comm])
theorem hi_at (x : Vec Ideal S2816x1024 .bf16) (j : Fin 1408) (d : Fin 1024) : hi x (ix2 j d) = x (ix2 (c1 j) d) :=
  View.ld_unit_apply_of x ![1408, 0] ![1408, 1024] _ (ix2 j d) (ix2 (c1 j) d) (by intro a; fin_cases a <;> simp [Nat.add_comm])
theorem le_at (x : Vec Ideal S384x2816 .bf16) (i : Fin 384) (j : Fin 1408) : le x (ix2 i j) = x (ix2 i (c0 j)) :=
  View.ld_unit_apply_of x ![0, 0] ![384, 1408] _ (ix2 i j) (ix2 i (c0 j)) (by intro a; fin_cases a <;> simp [Nat.add_comm])
theorem ri_at (x : Vec Ideal S384x2816 .bf16) (i : Fin 384) (j : Fin 1408) : ri x (ix2 i j) = x (ix2 i (c1 j)) :=
  View.ld_unit_apply_of x ![0, 1408] ![384, 1408] _ (ix2 i j) (ix2 i (c1 j)) (by intro a; fin_cases a <;> simp [Nat.add_comm])

/-! The payloads at an index; those of the second half are those of the first. -/
section pays
variable (y h : Vec Ideal S384x1024 .f32) (w wg wu : Vec Ideal S1408x1024 .bf16) (a b : Vec Ideal S384x1408 .bf16)
  (i : Fin 384) (j : Fin 1408) (d : Fin 1024)

theorem pay2_at : k0_pay2 h (ix2 i 0) = Ideal.rsqrt ((∑ x, h (ix2 i x) * h (ix2 i x)) * Ideal.ofBits .f32 0x3A800000#32 + Ideal.ofBits .f32 0x358637BD#32) := by
  unfold k0_pay2
  pointwise
theorem pay5_at : k0_pay5 y w (ix2 i j) = ∑ x, Ideal.ofBits .f32 0x3F000000#32 * y (ix2 i x) * w (ix2 j x) := by
  unfold k0_pay5 k0_pay3
  pointwise
theorem pay7_at : k0_pay7 a (ix2 i j) = Ideal.div 1 (1 + Ideal.exp (0 - a (ix2 i j))) := by
  unfold k0_pay7 k0_pay6
  pointwise
theorem pay11_at : k0_pay11 (k0_pay9 y w b) (k0_pay10 a) (ix2 i j)
    = k0_pay5 y w (ix2 i j) * b (ix2 i j) * (k0_pay7 a (ix2 i j) * (1 + a (ix2 i j) * (1 - k0_pay7 a (ix2 i j)))) := by
  unfold k0_pay11 k0_pay9 k0_pay10 k0_pay6
  pointwise
theorem pay12_at : k0_pay12 (k0_pay5 y w) (k0_pay8 a) (ix2 i j) = k0_pay5 y w (ix2 i j) * (a (ix2 i j) * k0_pay7 a (ix2 i j)) := by
  unfold k0_pay12 k0_pay8 k0_pay6
  pointwise
theorem pay21_eq : k0_pay21 (k0_pay16 a) (k0_pay18 (k0_pay3 y) w b) (k0_pay19 a) k0_pay20 = k0_pay11 (k0_pay9 y w b) (k0_pay10 a) := rfl
theorem pay22_eq : k0_pay22 (k0_pay14 (k0_pay3 y) w) (k0_pay17 a) = k0_pay12 (k0_pay5 y w) (k0_pay8 a) := rfl
end pays
section pays
variable (z y h : FVec Ideal S384x1024 .f32) (r : FVec Ideal S384x1 .f32) (g : Vec Ideal S1x1024 .f32) (wg wu : Vec Ideal S1408x1024 .bf16)
  (a f s e t p : FVec Ideal S384x1408 .f32) (o q : Vec Ideal S1x1024 .f32) (i : Fin 384) (j : Fin 1408) (d : Fin 1024)

theorem pay13_at : k0_pay13 k0_pay4 a s e f wg wu (ix2 i d)
    = ∑ x, k0_pay11 e f (ix2 i x) * wg (ix2 x d) + ∑ x, k0_pay12 a s (ix2 i x) * wu (ix2 x d) := by
  unfold k0_pay13 k0_pay4
  generalize k0_pay11 e f = X
  generalize k0_pay12 a s = Y
  pointwise
theorem pay23_at : k0_pay23 z a f s e t p wg wu (ix2 i d)
    = z (ix2 i d) + ∑ x, k0_pay21 f e t p (ix2 i x) * wg (ix2 x d) + ∑ x, k0_pay22 a s (ix2 i x) * wu (ix2 x d) := by
  unfold k0_pay23
  generalize k0_pay21 f e t p = X
  generalize k0_pay22 a s = Y
  pointwise
theorem pay24_at : k0_pay24 h r (ix2 i d) = h (ix2 i d) * r (ix2 i 0) := by
  unfold k0_pay24
  pointwise
theorem pay25_at : k0_pay25 h r z a f s e t p wg wu (ix2 0 d) = ∑ x, k0_pay23 z a f s e t p wg wu (ix2 x d) * k0_pay24 h r (ix2 x d) := by
  unfold k0_pay25
  generalize k0_pay23 z a f s e t p wg wu = X
  generalize k0_pay24 h r = Y
  pointwise
theorem pay26_at : k0_pay26 h y r z a f s e t p wg wu g (ix2 i d)
    = y (ix2 i d) + r (ix2 i 0) * (k0_pay23 z a f s e t p wg wu (ix2 i d) * g (ix2 0 d)
      - k0_pay24 h r (ix2 i d) * ((∑ x, k0_pay23 z a f s e t p wg wu (ix2 i x) * g (ix2 0 x) * k0_pay24 h r (ix2 i x)) * Ideal.ofBits .f32 0x3A800000#32)) := by
  unfold k0_pay26
  generalize k0_pay23 z a f s e t p wg wu = X
  generalize k0_pay24 h r = Y
  pointwise
theorem pay1_at : k0_pay1 q o (ix2 0 d) = o (ix2 0 d) + q (ix2 0 d) := by
  unfold k0_pay1
  pointwise
end pays

/-! The blocks, of eight input blocks of reals. -/

/-- The gradient of the normalised row times the gain, and the normalised row, as the body has them. -/
def DU (y : Vec Ideal S384x1024 .f32) (a b : Vec Ideal S384x2816 .bf16) (wg wu wd : Vec Ideal S2816x1024 .bf16) : FVec Ideal S384x1024 .f32 :=
  k0_pay23 (k0_pay13 k0_pay4 (k0_pay5 y (lo wd)) (k0_pay8 (le a)) (k0_pay9 y (lo wd) (le b)) (k0_pay10 (le a)) (lo wg) (lo wu))
    (k0_pay14 (k0_pay3 y) (hi wd)) (k0_pay16 (ri a)) (k0_pay17 (ri a)) (k0_pay18 (k0_pay3 y) (hi wd) (ri b)) (k0_pay19 (ri a)) k0_pay20 (hi wg) (hi wu)
def XH (h : Vec Ideal S384x1024 .f32) : FVec Ideal S384x1024 .f32 := k0_pay24 h (k0_pay2 h)
/-- The row's gradient. -/
def DH (y h : Vec Ideal S384x1024 .f32) (g : Vec Ideal S1x1024 .f32) (a b : Vec Ideal S384x2816 .bf16) (wg wu wd : Vec Ideal S2816x1024 .bf16) : Vec Ideal S384x1024 .f32 :=
  k0_pay26 h y (k0_pay2 h) (k0_pay13 k0_pay4 (k0_pay5 y (lo wd)) (k0_pay8 (le a)) (k0_pay9 y (lo wd) (le b)) (k0_pay10 (le a)) (lo wg) (lo wu))
    (k0_pay14 (k0_pay3 y) (hi wd)) (k0_pay16 (ri a)) (k0_pay17 (ri a)) (k0_pay18 (k0_pay3 y) (hi wd) (ri b)) (k0_pay19 (ri a)) k0_pay20 (hi wg) (hi wu) g

/-- Eight input blocks that hold reals. -/
structure Reals (y h : Vec Ideal S384x1024 .f32) (g : Vec Ideal S1x1024 .f32) (a b : Vec Ideal S384x2816 .bf16) (wg wu wd : Vec Ideal S2816x1024 .bf16)
    (C H : Fin 384 → Fin 1024 → ℝ) (G : Fin 1024 → ℝ) (A B : Fin 384 → Fin 2816 → ℝ) (Wg Wu : Fin 1024 → Fin 2816 → ℝ) (Wd : Fin 2816 → Fin 1024 → ℝ) : Prop where
  y : ∀ i d, y (ix2 i d) = (C i d : EReal)
  h : ∀ i d, h (ix2 i d) = (H i d : EReal)
  g : ∀ d, g (ix2 0 d) = (G d : EReal)
  a : ∀ i j, a (ix2 i j) = (A i j : EReal)
  b : ∀ i j, b (ix2 i j) = (B i j : EReal)
  wg : ∀ j d, wg (ix2 j d) = (Wg d j : EReal)
  wu : ∀ j d, wu (ix2 j d) = (Wu d j : EReal)
  wd : ∀ j d, wd (ix2 j d) = (Wd j d : EReal)

/-- The row's gradients of the two products. -/
def daR (C : Fin 384 → Fin 1024 → ℝ) (A B : Fin 384 → Fin 2816 → ℝ) (Wd : Fin 2816 → Fin 1024 → ℝ) (i : Fin 384) (j : Fin 2816) : ℝ := FfnReal.da (A i j) (B i j) (FfnReal.ds (C i) Wd j)
def dbR (C : Fin 384 → Fin 1024 → ℝ) (A : Fin 384 → Fin 2816 → ℝ) (Wd : Fin 2816 → Fin 1024 → ℝ) (i : Fin 384) (j : Fin 2816) : ℝ := FfnReal.db (A i j) (FfnReal.ds (C i) Wd j)

section reals
variable {y h : Vec Ideal S384x1024 .f32} {g : Vec Ideal S1x1024 .f32} {a b : Vec Ideal S384x2816 .bf16} {wg wu wd : Vec Ideal S2816x1024 .bf16}
  {C H : Fin 384 → Fin 1024 → ℝ} {G : Fin 1024 → ℝ} {A B : Fin 384 → Fin 2816 → ℝ} {Wg Wu : Fin 1024 → Fin 2816 → ℝ} {Wd : Fin 2816 → Fin 1024 → ℝ}
  (R : Reals y h g a b wg wu wd C H G A B Wg Wu Wd) (i : Fin 384) (j : Fin 1408) (d : Fin 1024)

include R
/-- The first half, of either half's columns. -/
theorem ds_half (w : Vec Ideal S1408x1024 .bf16) (k : Fin 1408 → Fin 2816) (hw : ∀ j d, w (ix2 j d) = wd (ix2 (k j) d)) :
    k0_pay5 y w (ix2 i j) = (FfnReal.ds (C i) Wd (k j) : EReal) := by
  rw [pay5_at]
  simp only [hw, R.y, R.wd, FfnReal.c_half, ← EReal.coe_mul]
  exact Row.coe_sum _ _
theorem sg_half (p : Vec Ideal S384x1408 .bf16) (k : Fin 1408 → Fin 2816) (hp : ∀ i j, p (ix2 i j) = a (ix2 i (k j))) :
    k0_pay7 p (ix2 i j) = (FfnReal.sg (A i (k j)) : EReal) := by
  rw [pay7_at, hp, R.a, zero_sub, FfnReal.sg_real]
theorem da_half (w : Vec Ideal S1408x1024 .bf16) (p q : Vec Ideal S384x1408 .bf16) (k : Fin 1408 → Fin 2816) (hw : ∀ j d, w (ix2 j d) = wd (ix2 (k j) d))
    (hp : ∀ i j, p (ix2 i j) = a (ix2 i (k j))) (hq : ∀ i j, q (ix2 i j) = b (ix2 i (k j))) :
    k0_pay11 (k0_pay9 y w q) (k0_pay10 p) (ix2 i j) = (daR C A B Wd i (k j) : EReal) := by
  rw [pay11_at, ds_half R i j w k hw, sg_half R i j p k hp, hp, hq, R.a, R.b, ← EReal.coe_one]
  simp only [← EReal.coe_mul, ← EReal.coe_add, ← EReal.coe_sub]
  rfl
theorem db_half (w : Vec Ideal S1408x1024 .bf16) (p : Vec Ideal S384x1408 .bf16) (k : Fin 1408 → Fin 2816) (hw : ∀ j d, w (ix2 j d) = wd (ix2 (k j) d))
    (hp : ∀ i j, p (ix2 i j) = a (ix2 i (k j))) :
    k0_pay12 (k0_pay5 y w) (k0_pay8 p) (ix2 i j) = (dbR C A Wd i (k j) : EReal) := by
  rw [pay12_at, ds_half R i j w k hw, sg_half R i j p k hp, hp, R.a]
  simp only [← EReal.coe_mul]
  rfl
theorem da0 : k0_pay11 (k0_pay9 y (lo wd) (le b)) (k0_pay10 (le a)) (ix2 i j) = (daR C A B Wd i (c0 j) : EReal) :=
  da_half R i j _ _ _ c0 (lo_at wd) (le_at a) (le_at b)
theorem da1 : k0_pay11 (k0_pay9 y (hi wd) (ri b)) (k0_pay10 (ri a)) (ix2 i j) = (daR C A B Wd i (c1 j) : EReal) :=
  da_half R i j _ _ _ c1 (hi_at wd) (ri_at a) (ri_at b)
theorem db0 : k0_pay12 (k0_pay5 y (lo wd)) (k0_pay8 (le a)) (ix2 i j) = (dbR C A Wd i (c0 j) : EReal) := db_half R i j _ _ c0 (lo_at wd) (le_at a)
theorem db1 : k0_pay12 (k0_pay5 y (hi wd)) (k0_pay8 (ri a)) (ix2 i j) = (dbR C A Wd i (c1 j) : EReal) := db_half R i j _ _ c1 (hi_at wd) (ri_at a)

theorem du_eq : DU y a b wg wu wd (ix2 i d) = (FfnReal.du (daR C A B Wd i) (dbR C A Wd i) Wg Wu d : EReal) := by
  unfold DU
  rw [pay23_at, pay13_at, pay21_eq, pay22_eq]
  simp only [da0 R, da1 R, db0 R, db1 R, lo_at, hi_at, R.wg, R.wu]
  simp only [← EReal.coe_mul, Row.coe_sum, ← EReal.coe_add]
  congr 1
  unfold FfnReal.du
  rw [Fin.sum_univ_add (a := 1408) (b := 1408), Fin.sum_univ_add (a := 1408) (b := 1408)]
  ring
theorem rt_eq : k0_pay2 h (ix2 i 0) = (FfnReal.rt (H i) : EReal) := by
  rw [pay2_at]
  simp only [R.h, FfnReal.c_inv, FfnReal.c_eps, ← EReal.coe_mul, Row.coe_sum, ← EReal.coe_add]
  rw [← FfnReal.rsqrt_ms]
  congr 2
  unfold FfnReal.ms
  ring
theorem xh_eq : XH h (ix2 i d) = ((H i d * FfnReal.rt (H i) : ℝ) : EReal) := by
  unfold XH
  rw [pay24_at, rt_eq R, R.h, EReal.coe_mul]
theorem dh_eq : DH y h g a b wg wu wd (ix2 i d)
    = (FfnReal.dh (H i) G (C i) (FfnReal.du (daR C A B Wd i) (dbR C A Wd i) Wg Wu) d : EReal) := by
  have e : ∀ x, k0_pay23 (k0_pay13 k0_pay4 (k0_pay5 y (lo wd)) (k0_pay8 (le a)) (k0_pay9 y (lo wd) (le b)) (k0_pay10 (le a)) (lo wg) (lo wu))
      (k0_pay14 (k0_pay3 y) (hi wd)) (k0_pay16 (ri a)) (k0_pay17 (ri a)) (k0_pay18 (k0_pay3 y) (hi wd) (ri b)) (k0_pay19 (ri a)) k0_pay20 (hi wg) (hi wu) (ix2 i x)
      = (FfnReal.du (daR C A B Wd i) (dbR C A Wd i) Wg Wu x : EReal) := fun x => du_eq R i x
  have ex : ∀ x, k0_pay24 h (k0_pay2 h) (ix2 i x) = ((H i x * FfnReal.rt (H i) : ℝ) : EReal) := fun x => xh_eq R i x
  unfold DH
  rw [pay26_at, rt_eq R, R.y]
  simp only [e, ex, R.g, FfnReal.c_inv, ← EReal.coe_mul, Row.coe_sum, ← EReal.coe_add, ← EReal.coe_sub]
  rfl
theorem dg_eq : ∑ x, DU y a b wg wu wd (ix2 x d) * XH h (ix2 x d)
    = ((∑ x, FfnReal.dg (H x) (FfnReal.du (daR C A B Wd x) (dbR C A Wd x) Wg Wu) d : ℝ) : EReal) := by
  simp only [du_eq R, xh_eq R, ← EReal.coe_mul, Row.coe_sum]
  rfl
end reals

/-! What a point leaves. -/
section after
variable (m : (ℓ : Loc nD τ sig) → Buf (Elt Ideal) ℓ) (c : Dev nD) (t : Fin cfg0.N)

theorem caseB (h0 : ¬t.val % 11 = 0) : 1 ≤ t.val := by
  rcases Nat.eq_zero_or_pos t.val with h | h
  · exact absurd (by rw [h]) h0
  · exact h
theorem caseA (h0 : t.val % 11 = 0) : ¬1 ≤ t.val := by have : t.val < 11 := t.isLt; omega

theorem after8 : (outsAt0 m c t.val t.isLt).1 = DH (iblk m c 0 t) (iblk m c 1 t) (iblk m c 2 t) (iblk m c 3 t) (iblk m c 4 t) (iblk m c 5 t) (iblk m c 6 t) (iblk m c 7 t) := by
  by_cases h0 : t.val % 11 = 0
  · rw [outsAt0_A m c t h0 (caseA t h0)]
    frame_out
    rfl
  · rw [outsAt0_B m c t h0 (caseB t h0)]
    frame_out
    rfl
theorem after11A (h0 : t.val % 11 = 0) (d : Fin 1024) : (outsAt0 m c t.val t.isLt).2.2.2 (ix2 0 d)
    = ∑ x, DU (iblk m c 0 t) (iblk m c 3 t) (iblk m c 4 t) (iblk m c 5 t) (iblk m c 6 t) (iblk m c 7 t) (ix2 x d) * XH (iblk m c 1 t) (ix2 x d) := by
  rw [outsAt0_A m c t h0 (caseA t h0)]
  frame_out
  exact pay25_at _ _ _ _ _ _ _ _ _ _ _ _
theorem after11B (h0 : ¬t.val % 11 = 0) (d : Fin 1024) : (outsAt0 m c t.val t.isLt).2.2.2 (ix2 0 d)
    = (outsAt0 m c (t.val - 1) (Nat.lt_of_le_of_lt (Nat.sub_le _ _) t.isLt)).2.2.2 (ix2 0 d)
      + ∑ x, DU (iblk m c 0 t) (iblk m c 3 t) (iblk m c 4 t) (iblk m c 5 t) (iblk m c 6 t) (iblk m c 7 t) (ix2 x d) * XH (iblk m c 1 t) (ix2 x d) := by
  rw [outsAt0_B m c t h0 (caseB t h0)]
  frame_out
  exact (pay1_at _ _ _).trans (congrArg (_ + ·) (pay25_at _ _ _ _ _ _ _ _ _ _ _ _))

variable {C H : Fin 384 → Fin 1024 → ℝ} {G : Fin 1024 → ℝ} {A B : Fin 384 → Fin 2816 → ℝ} {Wg Wu : Fin 1024 → Fin 2816 → ℝ} {Wd : Fin 2816 → Fin 1024 → ℝ}
  (R : Reals (iblk m c 0 t) (iblk m c 1 t) (iblk m c 2 t) (iblk m c 3 t) (iblk m c 4 t) (iblk m c 5 t) (iblk m c 6 t) (iblk m c 7 t) C H G A B Wg Wu Wd)
  (i : Fin 384) (j : Fin 2816)

/-- Two pieces side by side, each at the values of one function. -/
theorem two (p q : FVec Ideal S384x1408 .bf16) (f : Fin 2816 → EReal) (hp : ∀ j, p (ix2 i j) = f (c0 j)) (hq : ∀ j, q (ix2 i j) = f (c1 j)) :
    View.canon (Val := Elt Ideal) (e := .bf16) [⟨Rect.unit ![0, 1408] ![384, 1408] inb_S384x2816_S384x1408_0_1408, q⟩, ⟨Rect.unit ![0, 0] ![384, 1408] inb_S384x2816_S384x1408_0_0, p⟩] (ix2 i j) = f j := by
  canon_tiles x h
  · have hx : (x : S384x1408.Idx) = ix2 i ⟨(x 1).val, x1_lt⟩ := by
      funext k
      fin_cases k
      · exact Fin.ext h0.symm
      · rfl
    rw [hx, hq]
    exact congrArg f (Fin.ext h1.symm)
  · have hx : (x : S384x1408.Idx) = ix2 i ⟨(x 1).val, x1_lt⟩ := by
      funext k
      fin_cases k
      · exact Fin.ext h0.symm
      · rfl
    rw [hx, hp]
    exact congrArg f (Fin.ext h1.symm)

include R
theorem after9 : (outsAt0 m c t.val t.isLt).2.1 (ix2 i j) = (daR C A B Wd i j : EReal) := by
  by_cases h0 : t.val % 11 = 0
  · rw [outsAt0_A m c t h0 (caseA t h0)]
    frame_out
    exact two i j _ _ (fun j => (daR C A B Wd i j : EReal)) (fun j => da0 R i j) (fun j => da1 R i j)
  · rw [outsAt0_B m c t h0 (caseB t h0)]
    frame_out
    exact two i j _ _ (fun j => (daR C A B Wd i j : EReal)) (fun j => da0 R i j) (fun j => da1 R i j)
theorem after10 : (outsAt0 m c t.val t.isLt).2.2.1 (ix2 i j) = (dbR C A Wd i j : EReal) := by
  by_cases h0 : t.val % 11 = 0
  · rw [outsAt0_A m c t h0 (caseA t h0)]
    frame_out
    exact two i j _ _ (fun j => (dbR C A Wd i j : EReal)) (fun j => db0 R i j) (fun j => db1 R i j)
  · rw [outsAt0_B m c t h0 (caseB t h0)]
    frame_out
    exact two i j _ _ (fun j => (dbR C A Wd i j : EReal)) (fun j => db0 R i j) (fun j => db1 R i j)
end after

end Cert.Proof.FfnBwdA
end
-- ==== Proof.FfnBwdAHost.lean ====
/-
  The operands of the first half block's backward call, over the reals, and its input blocks.
-/
module

public import proofs.«01_k».proof.Defs
public import proofs.«01_k».proof.Proof.FfnBwdABlk
public import proofs.«01_k».proof.Proof.FfnBwdOut
public import Idealize.ShloMosaic.Lib.StableHlo.RunRead

@[expose] public section

set_option maxRecDepth 16384

noncomputable section

namespace Cert.Proof.FfnBwdA

open Cert.Kernel7Ideal Cert.Kernel7Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev ct : FVec F S4224x1024 .f32 := m ((c : Thread nD τ).loc main_arg5)
abbrev aa : FVec F S4224x2816 .f32 := Ffn.up (Ffn.un (h0 m c) (g0 m c)) (wg m c)
abbrev bb : FVec F S4224x2816 .f32 := Ffn.up (Ffn.un (h0 m c) (g0 m c)) (wu m c)

theorem V_v15 : V m c main_v15 = shapeCast S1x1024 (g0 m c) shapeCasts_S1024_S1x1024 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v16 : V m c main_v16 = truncf .bf16 (aa m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v17 : V m c main_v17 = truncf .bf16 (bb m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v19 : V m c main_v19 = truncf .bf16 (transpose S2816x1024 [1, 0] (wg m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v21 : V m c main_v21 = truncf .bf16 (transpose S2816x1024 [1, 0] (wu m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v22 : V m c main_v22 = truncf .bf16 (wd m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
end host

section blocks
variable (m : (ℓ : Loc nD τ sig) → Buf (Elt Ideal) ℓ) (c : Dev nD) (t : Fin cfg0.N)

/-- A block's row in the array. -/
theorem row_lt (i : Fin 384) : 384 * t.val + i.val < 4224 := by have : t.val < 11 := t.isLt; omega
def ro (i : Fin 384) : Fin 4224 := ⟨384 * t.val + i.val, row_lt t i⟩
theorem idx0 : win0_0.index t = ![t.val, 0] := (by decide +kernel : ∀ t : Fin grid0.N, win0_0.index t = ![t.val, 0]) t
theorem idx1 : win0_1.index t = ![t.val, 0] := (by decide +kernel : ∀ t : Fin grid0.N, win0_1.index t = ![t.val, 0]) t
theorem idx2 : win0_2.index t = ![0, 0] := (by decide +kernel : ∀ t : Fin grid0.N, win0_2.index t = ![0, 0]) t
theorem idx3 : win0_3.index t = ![t.val, 0] := (by decide +kernel : ∀ t : Fin grid0.N, win0_3.index t = ![t.val, 0]) t
theorem idx4 : win0_4.index t = ![t.val, 0] := (by decide +kernel : ∀ t : Fin grid0.N, win0_4.index t = ![t.val, 0]) t
theorem idx5 : win0_5.index t = ![0, 0] := (by decide +kernel : ∀ t : Fin grid0.N, win0_5.index t = ![0, 0]) t
theorem idx6 : win0_6.index t = ![0, 0] := (by decide +kernel : ∀ t : Fin grid0.N, win0_6.index t = ![0, 0]) t
theorem idx7 : win0_7.index t = ![0, 0] := (by decide +kernel : ∀ t : Fin grid0.N, win0_7.index t = ![0, 0]) t
theorem idx8 : win0_8.index t = ![t.val, 0] := (by decide +kernel : ∀ t : Fin grid0.N, win0_8.index t = ![t.val, 0]) t
theorem idx9 : win0_9.index t = ![t.val, 0] := (by decide +kernel : ∀ t : Fin grid0.N, win0_9.index t = ![t.val, 0]) t
theorem idx10 : win0_10.index t = ![t.val, 0] := (by decide +kernel : ∀ t : Fin grid0.N, win0_10.index t = ![t.val, 0]) t

theorem read0 (i : Fin 384) (d : Fin 1024) : iblk m c 0 t (ix2 i d) = ct m c (ix2 (ro t i) d) := by
  rw [ct, ← V_main_arg5 m c]
  unfold iblk ro
  generalize V m c (Pipeline.arrRef spec0 0) = A
  blk_ext [idx0 t]
theorem read1 (i : Fin 384) (d : Fin 1024) : iblk m c 1 t (ix2 i d) = h0 m c (ix2 (ro t i) d) := by
  rw [h0, ← V_main_arg0 m c]
  unfold iblk ro
  generalize V m c (Pipeline.arrRef spec0 1) = A
  blk_ext [idx1 t]
theorem read2 (d : Fin 1024) : iblk m c 2 t (ix2 0 d) = V m c main_v15 (ix2 0 d) := by
  unfold iblk
  generalize V m c (Pipeline.arrRef spec0 2) = A
  blk_ext [idx2 t]
theorem read3 (i : Fin 384) (j : Fin 2816) : iblk m c 3 t (ix2 i j) = V m c main_v16 (ix2 (ro t i) j) := by
  unfold iblk ro
  generalize V m c (Pipeline.arrRef spec0 3) = A
  blk_ext [idx3 t]
theorem read4 (i : Fin 384) (j : Fin 2816) : iblk m c 4 t (ix2 i j) = V m c main_v17 (ix2 (ro t i) j) := by
  unfold iblk ro
  generalize V m c (Pipeline.arrRef spec0 4) = A
  blk_ext [idx4 t]
theorem read5 (j : Fin 2816) (d : Fin 1024) : iblk m c 5 t (ix2 j d) = V m c main_v19 (ix2 j d) := by
  unfold iblk
  generalize V m c (Pipeline.arrRef spec0 5) = A
  blk_ext [idx5 t]
theorem read6 (j : Fin 2816) (d : Fin 1024) : iblk m c 6 t (ix2 j d) = V m c main_v21 (ix2 j d) := by
  unfold iblk
  generalize V m c (Pipeline.arrRef spec0 6) = A
  blk_ext [idx6 t]
theorem read7 (j : Fin 2816) (d : Fin 1024) : iblk m c 7 t (ix2 j d) = V m c main_v22 (ix2 j d) := by
  unfold iblk
  generalize V m c (Pipeline.arrRef spec0 7) = A
  blk_ext [idx7 t]

/-- Arguments that hold reals. -/
structure Args (H : Fin 4224 → Fin 1024 → ℝ) (G : Fin 1024 → ℝ) (Wg Wu : Fin 1024 → Fin 2816 → ℝ) (Wd : Fin 2816 → Fin 1024 → ℝ) (C : Fin 4224 → Fin 1024 → ℝ) : Prop where
  h : ∀ i d, h0 m c (ix2 i d) = (H i d : EReal)
  g : ∀ d, g0 m c (ix1 d) = (G d : EReal)
  wg : ∀ d j, wg m c (ix2 d j) = (Wg d j : EReal)
  wu : ∀ d j, wu m c (ix2 d j) = (Wu d j : EReal)
  wd : ∀ j d, wd m c (ix2 j d) = (Wd j d : EReal)
  ct : ∀ i d, ct m c (ix2 i d) = (C i d : EReal)

variable {m c} {H : Fin 4224 → Fin 1024 → ℝ} {G : Fin 1024 → ℝ} {Wg Wu : Fin 1024 → Fin 2816 → ℝ} {Wd : Fin 2816 → Fin 1024 → ℝ} {C : Fin 4224 → Fin 1024 → ℝ}
  (P : Args m c H G Wg Wu Wd C)

open Cert.Proof.FfnBwd (aR row_at turn_at)

include P
theorem aa_real (i : Fin 4224) (j : Fin 2816) : aa m c (ix2 i j) = (aR H G Wg i j : EReal) :=
  Ffn.up_real (Ffn.un_real P.h P.g) P.wg i j
theorem bb_real (i : Fin 4224) (j : Fin 2816) : bb m c (ix2 i j) = (aR H G Wu i j : EReal) :=
  Ffn.up_real (Ffn.un_real P.h P.g) P.wu i j
theorem blocks : Reals (iblk m c 0 t) (iblk m c 1 t) (iblk m c 2 t) (iblk m c 3 t) (iblk m c 4 t) (iblk m c 5 t) (iblk m c 6 t) (iblk m c 7 t)
    (fun i => C (ro t i)) (fun i => H (ro t i)) G (fun i => aR H G Wg (ro t i)) (fun i => aR H G Wu (ro t i)) Wg Wu Wd where
  y i d := (read0 m c t i d).trans (P.ct _ _)
  h i d := (read1 m c t i d).trans (P.h _ _)
  g d := (read2 m c t d).trans ((congrFun (V_v15 m c) _).trans ((row_at _ d).trans (P.g d)))
  a i j := (read3 m c t i j).trans ((congrFun (V_v16 m c) _).trans (aa_real P _ _))
  b i j := (read4 m c t i j).trans ((congrFun (V_v17 m c) _).trans (bb_real P _ _))
  wg j d := (read5 m c t j d).trans ((congrFun (V_v19 m c) _).trans ((turn_at _ j d).trans (P.wg d j)))
  wu j d := (read6 m c t j d).trans ((congrFun (V_v21 m c) _).trans ((turn_at _ j d).trans (P.wu d j)))
  wd j d := (read7 m c t j d).trans ((congrFun (V_v22 m c) _).trans (P.wd j d))
end blocks

end Cert.Proof.FfnBwdA
end
-- ==== Proof.FfnBwdAOut.lean ====
/-
  The first half block's backward call: for finite arguments its four arrays are the reference's.
-/
module

public import proofs.«01_k».proof.Proof.FfnBwdAHost
public import proofs.«01_k».proof.Proof.Gen.Reference7Ideal.Run

@[expose] public section

set_option maxRecDepth 16384

noncomputable section

namespace Cert.Proof.FfnBwdA

open Cert.Kernel7Ideal Cert.Kernel7Ideal.Gen
open Idealize.ShloMosaic Idealize.ShloMosaic.TcCoe
open Idealize.SL.Sem
open Idealize.ShloMosaic.Pipeline (Dat Cfg Window)

open Cert.Proof.FfnBwd (rDa rDb rDu rDh rDg aR)

section arrays
variable (m : (ℓ : Loc nD τ sig) → Buf (Elt Ideal) ℓ) (c : Dev nD) (t : Fin cfg0.N)

theorem place8 (A : FVec Ideal S4224x1024 .f32) (i : Fin 384) (d : Fin 1024) : A ((win0_8.blk t).view.emb (ix2 i d)) = A (ix2 (ro t i) d) := by
  unfold ro
  blk_ext [idx8 t]
theorem place9 (A : FVec Ideal S4224x2816 .bf16) (i : Fin 384) (j : Fin 2816) : A ((win0_9.blk t).view.emb (ix2 i j)) = A (ix2 (ro t i) j) := by
  unfold ro
  blk_ext [idx9 t]
theorem place10 (A : FVec Ideal S4224x2816 .bf16) (i : Fin 384) (j : Fin 2816) : A ((win0_10.blk t).view.emb (ix2 i j)) = A (ix2 (ro t i) j) := by
  unfold ro
  blk_ext [idx10 t]

variable {m c} {H : Fin 4224 → Fin 1024 → ℝ} {G : Fin 1024 → ℝ} {Wg Wu : Fin 1024 → Fin 2816 → ℝ} {Wd : Fin 2816 → Fin 1024 → ℝ} {C : Fin 4224 → Fin 1024 → ℝ}
  (P : Args m c H G Wg Wu Wd C)
include P

theorem rDa_real (i : Fin 4224) (j : Fin 2816) : rDa (h0 m c) (g0 m c) (wg m c) (wu m c) (wd m c) (ct m c) (ix2 i j)
    = (FfnReal.da (aR H G Wg i j) (aR H G Wu i j) (FfnReal.ds (C i) Wd j) : EReal) :=
  Ffn.da_real (aa_real P) (bb_real P) (Ffn.ds_real P.ct P.wd) i j
theorem rDb_real (i : Fin 4224) (j : Fin 2816) : rDb (h0 m c) (g0 m c) (wg m c) (wd m c) (ct m c) (ix2 i j)
    = (FfnReal.db (aR H G Wg i j) (FfnReal.ds (C i) Wd j) : EReal) :=
  Ffn.db_real (aa_real P) (Ffn.ds_real P.ct P.wd) i j
theorem rDu_real (i : Fin 4224) (d : Fin 1024) : rDu (h0 m c) (g0 m c) (wg m c) (wu m c) (wd m c) (ct m c) (ix2 i d)
    = (FfnReal.du (fun j => FfnReal.da (aR H G Wg i j) (aR H G Wu i j) (FfnReal.ds (C i) Wd j)) (fun j => FfnReal.db (aR H G Wg i j) (FfnReal.ds (C i) Wd j)) Wg Wu d : EReal) := by
  have es : ∀ i d, Ffn.same (ct m c) (ix2 i d) = (C i d : EReal) := fun i d => (Ffn.same_at _ i d).trans (P.ct i d)
  exact Ffn.du_real (X := fun i j => FfnReal.da (aR H G Wg i j) (aR H G Wu i j) (FfnReal.ds (C i) Wd j)) (Y := fun i j => FfnReal.db (aR H G Wg i j) (FfnReal.ds (C i) Wd j))
    (Ffn.da_real (aa_real P) (bb_real P) (Ffn.ds_real es P.wd)) (Ffn.db_real (aa_real P) (Ffn.ds_real es P.wd)) P.wg P.wu i d

theorem arr8 : (dats m 0 c).arrAt 8 cfg0.N = rDh (h0 m c) (g0 m c) (wg m c) (wu m c) (wd m c) (ct m c) := by
  refine (dats m 0 c).arrAt_eq_of_covers 8 _ (by decide +kernel) fun t hf y => ?_
  blk_simp
  rw [after0_8, after8]
  have hy : (y : S384x1024.Idx) = ix2 (y 0) (y 1) := by funext a; fin_cases a <;> rfl
  exact (congrArg (DH _ _ _ _ _ _ _ _) hy).trans ((dh_eq (blocks t P) (y 0) (y 1)).trans ((Ffn.dh_real P.h P.g P.ct (rDu_real P) (ro t (y 0)) (y 1)).symm.trans
    ((place8 t _ (y 0) (y 1)).symm.trans (congrArg (fun z => rDh (h0 m c) (g0 m c) (wg m c) (wu m c) (wd m c) (ct m c) ((win0_8.blk t).view.emb z)) hy.symm))))
theorem arr9 : (dats m 0 c).arrAt 9 cfg0.N = rDa (h0 m c) (g0 m c) (wg m c) (wu m c) (wd m c) (ct m c) := by
  refine (dats m 0 c).arrAt_eq_of_covers 9 _ (by decide +kernel) fun t hf y => ?_
  blk_simp
  rw [after0_9]
  have hy : (y : S384x2816.Idx) = ix2 (y 0) (y 1) := by funext a; fin_cases a <;> rfl
  exact (congrArg (outsAt0 m c t.val t.isLt).2.1 hy).trans ((after9 m c t (blocks t P) (y 0) (y 1)).trans ((rDa_real P (ro t (y 0)) (y 1)).symm.trans
    ((place9 t _ (y 0) (y 1)).symm.trans (congrArg (fun z => rDa (h0 m c) (g0 m c) (wg m c) (wu m c) (wd m c) (ct m c) ((win0_9.blk t).view.emb z)) hy.symm))))
theorem arr10 : (dats m 0 c).arrAt 10 cfg0.N = rDb (h0 m c) (g0 m c) (wg m c) (wd m c) (ct m c) := by
  refine (dats m 0 c).arrAt_eq_of_covers 10 _ (by decide +kernel) fun t hf y => ?_
  blk_simp
  rw [after0_10]
  have hy : (y : S384x2816.Idx) = ix2 (y 0) (y 1) := by funext a; fin_cases a <;> rfl
  exact (congrArg (outsAt0 m c t.val t.isLt).2.2.1 hy).trans ((after10 m c t (blocks t P) (y 0) (y 1)).trans ((rDb_real P (ro t (y 0)) (y 1)).symm.trans
    ((place10 t _ (y 0) (y 1)).symm.trans (congrArg (fun z => rDb (h0 m c) (g0 m c) (wg m c) (wd m c) (ct m c) ((win0_10.blk t).view.emb z)) hy.symm))))
theorem arr11 : (dats m 0 c).arrAt 11 cfg0.N = rDg (h0 m c) (g0 m c) (wg m c) (wu m c) (wd m c) (ct m c) := by
  refine (dats m 0 c).arrAt_eq_of_after_last 11 t0_10 (by decide +kernel) _ fun y => ?_
  blk_simp
  have hy : (y : S1x1024.Idx) = ix2 0 (y 1) := by funext a; fin_cases a; exact Fin.ext (by have := (y 0).isLt; change (y 0).val = 0; change (y 0).val < 1 at this; omega); rfl
  have e : ∀ d : Fin 1024, (outsAt0 m c t0_10.val t0_10.isLt).2.2.2 (ix2 0 d)
      = ∑ t : Fin cfg0.N, ∑ x, DU (iblk m c 0 t) (iblk m c 3 t) (iblk m c 4 t) (iblk m c 5 t) (iblk m c 6 t) (iblk m c 7 t) (ix2 x d) * XH (iblk m c 1 t) (ix2 x d) := fun d => by
    rw [Pipeline.eq_sum_fin_of_reset_step_apply_last (fun n h (d : Fin 1024) => (outsAt0 m c n h).2.2.2 (ix2 0 d)) 11 (fun _ => 0)
      (fun t d => ∑ x, DU (iblk m c 0 t) (iblk m c 3 t) (iblk m c 4 t) (iblk m c 5 t) (iblk m c 6 t) (iblk m c 7 t) (ix2 x d) * XH (iblk m c 1 t) (ix2 x d))
      (fun t h d => by rw [after11A m c t h, zero_add]) (fun t h d => by rw [after11B m c t h]) (le_of_eq N_0) t0_10 rfl d, zero_add]
  rw [after0_11]
  refine (congrArg (outsAt0 m c t0_10.val t0_10.isLt).2.2.2 hy).trans ((e (y 1)).trans (Eq.trans ?_ (congrArg (rDg (h0 m c) (g0 m c) (wg m c) (wu m c) (wd m c) (ct m c)) hy.symm)))
  generalize y 1 = d
  refine Eq.trans ?_ (Ffn.dg_real P.h (rDu_real P) d).symm
  simp only [fun t => dg_eq (blocks t P) d, Row.coe_sum]
  congr 1
  refine Eq.trans ?_ (Fin.sum_mul_add_fin 11 384 (fun i : Fin 4224 => _) rfl)
  refine Finset.sum_congr rfl fun t _ => Finset.sum_congr rfl fun x _ => ?_
  have hr : ro t x = ⟨t.val * 384 + x.val, by have : t.val < 11 := t.isLt; omega⟩ := Fin.ext (by unfold ro; simp [Nat.mul_comm])
  rw [← hr]
  rfl
end arrays

theorem algebraic : Cert.algebraic_Kernel7Ideal_Reference7Ideal_pre_all_finite2 (hPre_all_finite2 := FfnBwd.preFacts) := by
  intro m g m' g' hpre hagree
  refine ⟨fun c => rDh (h0 m c) (g0 m c) (wg m c) (wu m c) (wd m c) (ct m c), fun c => rDa (h0 m c) (g0 m c) (wg m c) (wu m c) (wd m c) (ct m c),
    fun c => rDb (h0 m c) (g0 m c) (wg m c) (wd m c) (ct m c),
    fun c => rDg (h0 m c) (g0 m c) (wg m c) (wu m c) (wd m c) (ct m c), ?_, ?_⟩
  · refine (θ_run defs _ _).mono (fun r h c => ?_) (Value.run_blocks m g)
    obtain ⟨p0, p1, p2, p3, p4, p5⟩ := hpre c
    have P : Args m c (fun i d => (h0 m c (ix2 i d)).toReal) (fun d => (g0 m c (ix1 d)).toReal) (fun d j => (wg m c (ix2 d j)).toReal) (fun d j => (wu m c (ix2 d j)).toReal)
        (fun j d => (wd m c (ix2 j d)).toReal) (fun i d => (ct m c (ix2 i d)).toReal) :=
      ⟨fun i d => KernelIdeal.real_of _ (congrFun p0 _), fun d => KernelIdeal.real_of _ (congrFun p1 _), fun d j => KernelIdeal.real_of _ (congrFun p2 _),
        fun d j => KernelIdeal.real_of _ (congrFun p3 _), fun j d => KernelIdeal.real_of _ (congrFun p4 _), fun i d => KernelIdeal.real_of _ (congrFun p5 _)⟩
    obtain ⟨r8, r9, r10, r11, hargs⟩ := h c
    exact ⟨r8.trans (arr8 P), r9.trans (arr9 P), r10.trans (arr10 P), r11.trans (arr11 P), hargs⟩
  · refine (θ_run Cert.Reference7Ideal.defs _ _).mono (fun r h c => ?_) (Cert.Reference7Ideal.Value.run (F := Ideal) m' g')
    obtain ⟨e0, e1, e2, e3, e4, e5⟩ := hagree c
    obtain ⟨r0, r1, r2, r3, hargs⟩ := h c
    refine ⟨r0.trans ?_, r1.trans ?_, r2.trans ?_, r3.trans ?_, hargs⟩
    · unfold Cert.Reference7Ideal.Value.res_main_v54
      rw [e0, e1, e2, e3, e4, e5]
      rfl
    · unfold Cert.Reference7Ideal.Value.res_main_v81
      rw [e0, e1, e2, e3, e4, e5]
      rfl
    · rw [e0, e1, e2, e4, e5]
      rfl
    · unfold Cert.Reference7Ideal.Value.res_main_v83
      rw [e0, e1, e2, e3, e4, e5]
      rfl

end Cert.Proof.FfnBwdA
end
-- ==== Proof.Dwg.lean ====
/-
  The gradient of a half block's w_gate: the tiled product is the whole product of the host's two arrays.
-/
module

public import proofs.«01_k».proof.Proof.FfnHost
public import proofs.«01_k».proof.Proof.Gen.Kernel4Ideal.Value
public import Idealize.ShloMosaic.Lib.StableHlo.RunRead

@[expose] public section

set_option maxRecDepth 16384

noncomputable section

namespace Cert.Proof.Dwg

open Cert.Kernel4Ideal Cert.Kernel4Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev ct : FVec F S4224x1024 .f32 := m ((c : Thread nD τ).loc main_arg5)

/-- The call's two operands. -/
theorem V_v31 : V m c main_v31 = truncf .bf16 (Ffn.un (h0 m c) (g0 m c)) bitsLt_bf16_f32 := by
  unfold V
  simp only [hostOps0, hostOps0_1, hostOps0_2, hostOps0_3, hostOps0_4, hostOps0_5, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v30 : V m c main_v30 = truncf .bf16 (Ffn.da (Ffn.up (Ffn.un (h0 m c) (g0 m c)) (wg m c)) (Ffn.up (Ffn.un (h0 m c) (g0 m c)) (wu m c)) (Ffn.ds (ct m c) (wd m c))) bitsLt_bf16_f32 := by
  unfold V
  simp only [hostOps0, hostOps0_1, hostOps0_2, hostOps0_3, hostOps0_4, hostOps0_5, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
end host

/-- The block's payload and the whole product at an index, of any arrays. -/
theorem pay_at (x : Vec Ideal S4224x1408 .bf16) (y : Vec Ideal S4224x512 .bf16) (i : Fin 1408) (j : Fin 512) :
    k0_pay1 x y (ix2 i j) = ∑ k : Fin 4224, x (ix2 k i) * y (ix2 k j) := by
  unfold k0_pay1
  pointwise
theorem dw_at (y : FVec Ideal S4224x2816 .f32) (u : FVec Ideal S4224x1024 .f32) (i : Fin 2816) (j : Fin 1024) :
    Ffn.dw y u (ix2 i j) = ∑ k : Fin 4224, y (ix2 k i) * u (ix2 k j) := by
  unfold Ffn.dw
  pointwise

section arrays
variable (m : (ℓ : Loc nD τ sig) → Buf (Elt Ideal) ℓ) (c : Dev nD)

/-- A point's block row and column. -/
def bi (t : Fin cfg0.N) : Fin 2 := ⟨t.val / 2, by have : t.val < 4 := t.isLt; omega⟩
def bj (t : Fin cfg0.N) : Fin 2 := ⟨t.val % 2, by omega⟩
theorem idx0 (t : Fin cfg0.N) : win0_0.index t = ![0, (bi t).val] := (by decide +kernel : ∀ t : Fin grid0.N, win0_0.index t = ![0, t.val / 2]) t
theorem idx1 (t : Fin cfg0.N) : win0_1.index t = ![0, (bj t).val] := (by decide +kernel : ∀ t : Fin grid0.N, win0_1.index t = ![0, t.val % 2]) t
theorem idx2 (t : Fin cfg0.N) : win0_2.index t = ![(bi t).val, (bj t).val] := (by decide +kernel : ∀ t : Fin grid0.N, win0_2.index t = ![t.val / 2, t.val % 2]) t
theorem row_lt (t : Fin cfg0.N) (i : Fin 1408) : 1408 * (bi t).val + i.val < 2816 := by have := (bi t).isLt; have := i.isLt; omega
theorem col_lt (t : Fin cfg0.N) (j : Fin 512) : 512 * (bj t).val + j.val < 1024 := by have := (bj t).isLt; have := j.isLt; omega

theorem read0 (t : Fin cfg0.N) (k : Fin 4224) (i : Fin 1408) :
    iblk m c 0 t (ix2 k i) = V m c main_v30 (ix2 k ⟨1408 * (bi t).val + i.val, row_lt t i⟩) := by
  unfold iblk
  generalize V m c (Pipeline.arrRef spec0 0) = A
  blk_ext [idx0 t]
theorem read1 (t : Fin cfg0.N) (k : Fin 4224) (j : Fin 512) :
    iblk m c 1 t (ix2 k j) = V m c main_v31 (ix2 k ⟨512 * (bj t).val + j.val, col_lt t j⟩) := by
  unfold iblk
  generalize V m c (Pipeline.arrRef spec0 1) = A
  blk_ext [idx1 t]
theorem place2 (t : Fin cfg0.N) (A : FVec Ideal S2816x1024 .bf16) (i : Fin 1408) (j : Fin 512) :
    A ((win0_2.blk t).view.emb (ix2 i j)) = A (ix2 ⟨1408 * (bi t).val + i.val, row_lt t i⟩ ⟨512 * (bj t).val + j.val, col_lt t j⟩) := by
  blk_ext [idx2 t]

/-- The gradient, of the arguments. -/
def res : FVec Ideal S2816x1024 .bf16 :=
  Ffn.dw (Ffn.da (Ffn.up (Ffn.un (h0 m c) (g0 m c)) (wg m c)) (Ffn.up (Ffn.un (h0 m c) (g0 m c)) (wu m c)) (Ffn.ds (ct m c) (wd m c))) (Ffn.un (h0 m c) (g0 m c))

theorem out_eq (x : Vec Ideal S4224x1408 .bf16) (y : Vec Ideal S4224x512 .bf16) : out0_2 x y = k0_pay1 x y := by
  unfold out0_2
  rw [View.canon_cons_unit_lit _ _ _ (by decide), View.ld_unit_lit _ _ (by decide), View.ld_unit_lit _ _ (by decide)]

theorem block_eq (t : Fin cfg0.N) (i : Fin 1408) (j : Fin 512) :
    out0_2 (iblk m c 0 t) (iblk m c 1 t) (ix2 i j) = res m c (ix2 ⟨1408 * (bi t).val + i.val, row_lt t i⟩ ⟨512 * (bj t).val + j.val, col_lt t j⟩) := by
  rw [out_eq, pay_at, res, dw_at]
  refine Finset.sum_congr rfl fun k _ => ?_
  rw [read0, read1, V_v30, V_v31]
  rfl

theorem arr2 : (dats m 0 c).arrAt 2 cfg0.N = res m c := by
  refine (dats m 0 c).arrAt_eq_of_covers 2 _ (by decide +kernel) fun t hf y => ?_
  blk_simp
  rw [after0_2]
  have hy : (y : S1408x512.Idx) = ix2 (y 0) (y 1) := by funext a; fin_cases a <;> rfl
  exact (congrArg (out0_2 (iblk m c 0 t) (iblk m c 1 t)) hy).trans ((block_eq m c t (y 0) (y 1)).trans
    ((place2 t (res m c) (y 0) (y 1)).symm.trans (congrArg (fun z => res m c ((win0_2.blk t).view.emb z)) hy.symm)))

/-- The run with its result. -/
theorem run_values (ρ : Dev nD → PrngReg) :
    θ_run defs (onTc (τ := τ) (main (F := Ideal))) ⟨m, fun _ => 0, ρ⟩ (fun r => ∀ c : Dev nD,
      r.2.mem ((c : Thread nD τ).loc main_v32) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c).1.trans (arr2 m c), (h c).2⟩) (Value.run_blocks m ρ)

end arrays
end Cert.Proof.Dwg
end
-- ==== Proof.Dwu.lean ====
/-
  The gradient of a half block's w_up: the tiled product is the whole product of the host's two arrays.
-/
module

public import proofs.«01_k».proof.Proof.Dwg
public import proofs.«01_k».proof.Proof.Gen.Kernel5Ideal.Value
public import Idealize.ShloMosaic.Lib.StableHlo.RunRead

@[expose] public section

set_option maxRecDepth 16384

noncomputable section

namespace Cert.Proof.Dwu

open Cert.Kernel5Ideal Cert.Kernel5Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev ct : FVec F S4224x1024 .f32 := m ((c : Thread nD τ).loc main_arg5)

/-- The call's two operands. -/
theorem V_v31 : V m c main_v31 = truncf .bf16 (Ffn.un (h0 m c) (g0 m c)) bitsLt_bf16_f32 := by
  unfold V
  simp only [hostOps0, hostOps0_1, hostOps0_2, hostOps0_3, hostOps0_4, hostOps0_5, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v30 : V m c main_v30 = truncf .bf16 (Ffn.db (Ffn.up (Ffn.un (h0 m c) (g0 m c)) (wg m c)) (Ffn.ds (ct m c) (wd m c))) bitsLt_bf16_f32 := by
  unfold V
  simp only [hostOps0, hostOps0_1, hostOps0_2, hostOps0_3, hostOps0_4, hostOps0_5, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
end host

/-- The block's payload is the one of the other weight. -/
theorem pay_at (x : Vec Ideal S4224x1408 .bf16) (y : Vec Ideal S4224x512 .bf16) (i : Fin 1408) (j : Fin 512) :
    k0_pay1 x y (ix2 i j) = ∑ k : Fin 4224, x (ix2 k i) * y (ix2 k j) := Dwg.pay_at x y i j

section arrays
variable (m : (ℓ : Loc nD τ sig) → Buf (Elt Ideal) ℓ) (c : Dev nD)

/-- A point's block row and column. -/
def bi (t : Fin cfg0.N) : Fin 2 := ⟨t.val / 2, by have : t.val < 4 := t.isLt; omega⟩
def bj (t : Fin cfg0.N) : Fin 2 := ⟨t.val % 2, by omega⟩
theorem idx0 (t : Fin cfg0.N) : win0_0.index t = ![0, (bi t).val] := (by decide +kernel : ∀ t : Fin grid0.N, win0_0.index t = ![0, t.val / 2]) t
theorem idx1 (t : Fin cfg0.N) : win0_1.index t = ![0, (bj t).val] := (by decide +kernel : ∀ t : Fin grid0.N, win0_1.index t = ![0, t.val % 2]) t
theorem idx2 (t : Fin cfg0.N) : win0_2.index t = ![(bi t).val, (bj t).val] := (by decide +kernel : ∀ t : Fin grid0.N, win0_2.index t = ![t.val / 2, t.val % 2]) t
theorem row_lt (t : Fin cfg0.N) (i : Fin 1408) : 1408 * (bi t).val + i.val < 2816 := by have := (bi t).isLt; have := i.isLt; omega
theorem col_lt (t : Fin cfg0.N) (j : Fin 512) : 512 * (bj t).val + j.val < 1024 := by have := (bj t).isLt; have := j.isLt; omega

theorem read0 (t : Fin cfg0.N) (k : Fin 4224) (i : Fin 1408) :
    iblk m c 0 t (ix2 k i) = V m c main_v30 (ix2 k ⟨1408 * (bi t).val + i.val, row_lt t i⟩) := by
  unfold iblk
  generalize V m c (Pipeline.arrRef spec0 0) = A
  blk_ext [idx0 t]
theorem read1 (t : Fin cfg0.N) (k : Fin 4224) (j : Fin 512) :
    iblk m c 1 t (ix2 k j) = V m c main_v31 (ix2 k ⟨512 * (bj t).val + j.val, col_lt t j⟩) := by
  unfold iblk
  generalize V m c (Pipeline.arrRef spec0 1) = A
  blk_ext [idx1 t]
theorem place2 (t : Fin cfg0.N) (A : FVec Ideal S2816x1024 .bf16) (i : Fin 1408) (j : Fin 512) :
    A ((win0_2.blk t).view.emb (ix2 i j)) = A (ix2 ⟨1408 * (bi t).val + i.val, row_lt t i⟩ ⟨512 * (bj t).val + j.val, col_lt t j⟩) := by
  blk_ext [idx2 t]

/-- The gradient, of the arguments. -/
def res : FVec Ideal S2816x1024 .bf16 :=
  Ffn.dw (Ffn.db (Ffn.up (Ffn.un (h0 m c) (g0 m c)) (wg m c)) (Ffn.ds (ct m c) (wd m c))) (Ffn.un (h0 m c) (g0 m c))

theorem out_eq (x : Vec Ideal S4224x1408 .bf16) (y : Vec Ideal S4224x512 .bf16) : out0_2 x y = k0_pay1 x y := by
  unfold out0_2
  rw [View.canon_cons_unit_lit _ _ _ (by decide), View.ld_unit_lit _ _ (by decide), View.ld_unit_lit _ _ (by decide)]

theorem block_eq (t : Fin cfg0.N) (i : Fin 1408) (j : Fin 512) :
    out0_2 (iblk m c 0 t) (iblk m c 1 t) (ix2 i j) = res m c (ix2 ⟨1408 * (bi t).val + i.val, row_lt t i⟩ ⟨512 * (bj t).val + j.val, col_lt t j⟩) := by
  rw [out_eq, pay_at, res, Dwg.dw_at]
  refine Finset.sum_congr rfl fun k _ => ?_
  rw [read0, read1, V_v30, V_v31]
  rfl

theorem arr2 : (dats m 0 c).arrAt 2 cfg0.N = res m c := by
  refine (dats m 0 c).arrAt_eq_of_covers 2 _ (by decide +kernel) fun t hf y => ?_
  blk_simp
  rw [after0_2]
  have hy : (y : S1408x512.Idx) = ix2 (y 0) (y 1) := by funext a; fin_cases a <;> rfl
  exact (congrArg (out0_2 (iblk m c 0 t) (iblk m c 1 t)) hy).trans ((block_eq m c t (y 0) (y 1)).trans
    ((place2 t (res m c) (y 0) (y 1)).symm.trans (congrArg (fun z => res m c ((win0_2.blk t).view.emb z)) hy.symm)))

/-- The run with its result. -/
theorem run_values (ρ : Dev nD → PrngReg) :
    θ_run defs (onTc (τ := τ) (main (F := Ideal))) ⟨m, fun _ => 0, ρ⟩ (fun r => ∀ c : Dev nD,
      r.2.mem ((c : Thread nD τ).loc main_v32) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c).1.trans (arr2 m c), (h c).2⟩) (Value.run_blocks m ρ)

end arrays
end Cert.Proof.Dwu
end
-- ==== Proof.Dwd.lean ====
/-
  The gradient of a half block's w_down: the tiled product is the whole product of the host's two arrays.
-/
module

public import proofs.«01_k».proof.Proof.FfnHost
public import proofs.«01_k».proof.Proof.Gen.Kernel6Ideal.Value
public import Idealize.ShloMosaic.Lib.StableHlo.RunRead

@[expose] public section

set_option maxRecDepth 16384

noncomputable section

namespace Cert.Proof.Dwd

open Cert.Kernel6Ideal Cert.Kernel6Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev ct : FVec F S4224x1024 .f32 := m ((c : Thread nD τ).loc main_arg5)

/-- The call's first operand; the second is an argument. -/
theorem V_v30 : V m c main_v30 = truncf .bf16 (Ffn.sx (Ffn.up (Ffn.un (h0 m c) (g0 m c)) (wg m c)) (Ffn.up (Ffn.un (h0 m c) (g0 m c)) (wu m c))) bitsLt_bf16_f32 := by
  unfold V
  simp only [hostOps0, hostOps0_1, hostOps0_2, hostOps0_3, hostOps0_4, hostOps0_5, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_arg5 : V m c main_arg5 = ct m c := V_main_arg5 m c
end host

/-- The block's payload and the reference's product at an index, of any arrays. -/
theorem pay_at (x : Vec Ideal S4224x1408 .bf16) (y : Vec Ideal S4224x512 .f32) (i : Fin 1408) (j : Fin 512) :
    k0_pay1 x y (ix2 i j) = ∑ k : Fin 4224, x (ix2 k i) * y (ix2 k j) := by
  unfold k0_pay1
  pointwise
theorem dwd_at (y : FVec Ideal S4224x2816 .f32) (u : FVec Ideal S4224x1024 .f32) (i : Fin 2816) (j : Fin 1024) :
    Ffn.dwd y u (ix2 i j) = ∑ k : Fin 4224, Ffn.hc u (ix2 k j) * y (ix2 k i) := by
  unfold Ffn.dwd
  generalize Ffn.hc u = U
  pointwise
theorem half_at (ct : FVec Ideal S4224x1024 .f32) (k : Fin 4224) (j : Fin 1024) :
    Ffn.hc ct (ix2 k j) = FloatOps.ofBits (F := Ideal) .f32 0x3F000000#32 * ct (ix2 k j) := by
  unfold Ffn.hc
  pointwise
theorem sx_at (a b : FVec Ideal S4224x2816 .f32) (k : Fin 4224) (i : Fin 2816) :
    Ffn.sx a b (ix2 k i) = FloatOps.ofBits (F := Ideal) .f32 0x3F000000#32 * Ffn.xs a b (ix2 k i) := by
  unfold Ffn.sx
  generalize Ffn.xs a b = X
  pointwise

section arrays
variable (m : (ℓ : Loc nD τ sig) → Buf (Elt Ideal) ℓ) (c : Dev nD)

/-- A point's block row and column. -/
def bi (t : Fin cfg0.N) : Fin 2 := ⟨t.val / 2, by have : t.val < 4 := t.isLt; omega⟩
def bj (t : Fin cfg0.N) : Fin 2 := ⟨t.val % 2, by omega⟩
theorem idx0 (t : Fin cfg0.N) : win0_0.index t = ![0, (bi t).val] := (by decide +kernel : ∀ t : Fin grid0.N, win0_0.index t = ![0, t.val / 2]) t
theorem idx1 (t : Fin cfg0.N) : win0_1.index t = ![0, (bj t).val] := (by decide +kernel : ∀ t : Fin grid0.N, win0_1.index t = ![0, t.val % 2]) t
theorem idx2 (t : Fin cfg0.N) : win0_2.index t = ![(bi t).val, (bj t).val] := (by decide +kernel : ∀ t : Fin grid0.N, win0_2.index t = ![t.val / 2, t.val % 2]) t
theorem row_lt (t : Fin cfg0.N) (i : Fin 1408) : 1408 * (bi t).val + i.val < 2816 := by have := (bi t).isLt; have := i.isLt; omega
theorem col_lt (t : Fin cfg0.N) (j : Fin 512) : 512 * (bj t).val + j.val < 1024 := by have := (bj t).isLt; have := j.isLt; omega

theorem read0 (t : Fin cfg0.N) (k : Fin 4224) (i : Fin 1408) :
    iblk m c 0 t (ix2 k i) = V m c main_v30 (ix2 k ⟨1408 * (bi t).val + i.val, row_lt t i⟩) := by
  unfold iblk
  generalize V m c (Pipeline.arrRef spec0 0) = A
  blk_ext [idx0 t]
theorem read1 (t : Fin cfg0.N) (k : Fin 4224) (j : Fin 512) :
    iblk m c 1 t (ix2 k j) = V m c main_arg5 (ix2 k ⟨512 * (bj t).val + j.val, col_lt t j⟩) := by
  unfold iblk
  generalize V m c (Pipeline.arrRef spec0 1) = A
  blk_ext [idx1 t]
theorem place2 (t : Fin cfg0.N) (A : FVec Ideal S2816x1024 .bf16) (i : Fin 1408) (j : Fin 512) :
    A ((win0_2.blk t).view.emb (ix2 i j)) = A (ix2 ⟨1408 * (bi t).val + i.val, row_lt t i⟩ ⟨512 * (bj t).val + j.val, col_lt t j⟩) := by
  blk_ext [idx2 t]

/-- The gradient, of the arguments. -/
def res : FVec Ideal S2816x1024 .bf16 :=
  Ffn.dwd (Ffn.xs (Ffn.up (Ffn.un (h0 m c) (g0 m c)) (wg m c)) (Ffn.up (Ffn.un (h0 m c) (g0 m c)) (wu m c))) (ct m c)

theorem out_eq (x : Vec Ideal S4224x1408 .bf16) (y : Vec Ideal S4224x512 .f32) : out0_2 x y = k0_pay1 x y := by
  unfold out0_2
  rw [View.canon_cons_unit_lit _ _ _ (by decide), View.ld_unit_lit _ _ (by decide), View.ld_unit_lit _ _ (by decide)]

theorem block_eq (t : Fin cfg0.N) (i : Fin 1408) (j : Fin 512) :
    out0_2 (iblk m c 0 t) (iblk m c 1 t) (ix2 i j) = res m c (ix2 ⟨1408 * (bi t).val + i.val, row_lt t i⟩ ⟨512 * (bj t).val + j.val, col_lt t j⟩) := by
  rw [out_eq, pay_at, res, dwd_at]
  refine Finset.sum_congr rfl fun k _ => ?_
  rw [read0, read1, V_v30, V_arg5, half_at]
  refine Eq.trans (congrArg (· * _) (sx_at _ _ k _)) ?_
  rw [mul_assoc, mul_assoc, mul_comm (Ffn.xs _ _ _)]

theorem arr2 : (dats m 0 c).arrAt 2 cfg0.N = res m c := by
  refine (dats m 0 c).arrAt_eq_of_covers 2 _ (by decide +kernel) fun t hf y => ?_
  blk_simp
  rw [after0_2]
  have hy : (y : S1408x512.Idx) = ix2 (y 0) (y 1) := by funext a; fin_cases a <;> rfl
  exact (congrArg (out0_2 (iblk m c 0 t) (iblk m c 1 t)) hy).trans ((block_eq m c t (y 0) (y 1)).trans
    ((place2 t (res m c) (y 0) (y 1)).symm.trans (congrArg (fun z => res m c ((win0_2.blk t).view.emb z)) hy.symm)))

/-- The run with its result. -/
theorem run_values (ρ : Dev nD → PrngReg) :
    θ_run defs (onTc (τ := τ) (main (F := Ideal))) ⟨m, fun _ => 0, ρ⟩ (fun r => ∀ c : Dev nD,
      r.2.mem ((c : Thread nD τ).loc main_v31) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c).1.trans (arr2 m c), (h c).2⟩) (Value.run_blocks m ρ)

end arrays
end Cert.Proof.Dwd
end
-- ==== Proof.FfnDw.lean ====
/-
  The three weights' gradients of a half block: the reference's results are the staged arrays, and so the kernels'.
-/
module

public import proofs.«01_k».proof.Defs
public import proofs.«01_k».proof.Proof.Dwu
public import proofs.«01_k».proof.Proof.Dwd
public import proofs.«01_k».proof.Proof.Gen.Reference4Ideal.Run
public import proofs.«01_k».proof.Proof.Gen.Reference5Ideal.Run
public import proofs.«01_k».proof.Proof.Gen.Reference6Ideal.Run

@[expose] public section

set_option maxRecDepth 16384

noncomputable section

namespace Cert.Proof.FfnDw

open Idealize.ShloMosaic Idealize.ShloMosaic.TcCoe Idealize.SL.Sem

variable {F : FTy → Type} [FloatOps F]

/-- A transpose of a transpose is the array. -/
theorem turn {φ : FTy} (X : FVec F Cert.Reference4Ideal.S2816x1024 φ) :
    transpose Cert.Reference4Ideal.S2816x1024 [1, 0] (transpose Cert.Reference4Ideal.S1024x2816 [1, 0] X Cert.Reference4Ideal.Gen.transposes_S2816x1024_S1024x2816_1_0) Cert.Reference4Ideal.Gen.transposes_S1024x2816_S2816x1024_1_0 = X := by
  funext y
  have hy : (y : Cert.Reference4Ideal.S2816x1024.Idx) = ix2 (y 0) (y 1) := by funext a; fin_cases a <;> rfl
  rw [hy]
  generalize y 0 = i
  generalize y 1 = j
  pointwise

theorem algebraic_dwg : Cert.algebraic_Kernel4Ideal_Reference4Ideal := by
  intro m g m' g' hpre hagree
  refine ⟨fun c => Dwg.res m c, Dwg.run_values m g, ?_⟩
  refine (θ_run Cert.Reference4Ideal.defs _ _).mono (fun r h c => ?_) (Cert.Reference4Ideal.Value.run (F := Ideal) m' g')
  obtain ⟨e0, e1, e2, e3, e4, e5⟩ := hagree c
  refine ⟨(h c).1.trans ?_, (h c).2⟩
  unfold Cert.Reference4Ideal.Value.res_main_v29
  rw [turn, e0, e1, e2, e3, e4, e5]
  rfl
theorem algebraic_dwu : Cert.algebraic_Kernel5Ideal_Reference5Ideal := by
  intro m g m' g' hpre hagree
  refine ⟨fun c => Dwu.res m c, Dwu.run_values m g, ?_⟩
  refine (θ_run Cert.Reference5Ideal.defs _ _).mono (fun r h c => ?_) (Cert.Reference5Ideal.Value.run (F := Ideal) m' g')
  obtain ⟨e0, e1, e2, e3, e4, e5⟩ := hagree c
  refine ⟨(h c).1.trans ?_, (h c).2⟩
  refine (congrArg (fun X : FVec Ideal Cert.Reference4Ideal.S2816x1024 .f32 => truncf .bf16 X Cert.Reference4Ideal.Gen.bitsLt_bf16_f32) (turn _)).trans ?_
  rw [e0, e1, e2, e4, e5]
  rfl
theorem algebraic_dwd : Cert.algebraic_Kernel6Ideal_Reference6Ideal := by
  intro m g m' g' hpre hagree
  refine ⟨fun c => Dwd.res m c, Dwd.run_values m g, ?_⟩
  refine (θ_run Cert.Reference6Ideal.defs _ _).mono (fun r h c => ?_) (Cert.Reference6Ideal.Value.run (F := Ideal) m' g')
  obtain ⟨e0, e1, e2, e3, e4, e5⟩ := hagree c
  refine ⟨(h c).1.trans ?_, (h c).2⟩
  rw [e0, e1, e2, e3, e5]
  rfl

end Cert.Proof.FfnDw
end
-- ==== Proof.FfnUpBlk.lean ====
/-
  What a point of the half block's forward call up to the narrowing weight leaves in its four output blocks.
-/
module

public import proofs.«01_k».proof.Proof.FfnVal
public import proofs.«01_k».proof.Proof.Gen.Kernel8Ideal.Value

@[expose] public section

set_option maxRecDepth 16384

noncomputable section

namespace Cert.Proof.FfnUp

open Cert.Kernel8Ideal Cert.Kernel8Ideal.Gen
open Idealize.ShloMosaic Idealize.ShloMosaic.TcCoe
open Idealize.ShloMosaic.Pipeline (Dat Cfg Window)

/-! The payloads of one chunk of 256 columns, at an index. -/
section pays
variable (h : Vec Ideal S528x1024 .f32) (g : Vec Ideal S1x1024 .f32) (u : FVec Ideal S528x1024 .bf16) (w v : Vec Ideal S256x1024 .bf16)
  (x : Vec Ideal S2816x1024 .bf16) (i : Fin 528) (j : Fin 256) (d : Fin 1024)

theorem pay2_at : k0_pay2 h g (ix2 i d)
    = h (ix2 i d) * Ideal.rsqrt ((∑ x, h (ix2 i x) * h (ix2 i x)) * Ideal.ofBits .f32 0x3A800000#32 + Ideal.ofBits .f32 0x358637BD#32) * g (ix2 0 d) := by
  unfold k0_pay2
  pointwise
theorem pay9_at : k0_pay9 u w (ix2 i j) = ∑ x, u (ix2 i x) * w (ix2 j x) := by
  unfold k0_pay9
  pointwise
theorem pay11_at : k0_pay11 u w (ix2 i j) = k0_pay9 u w (ix2 i j) := by
  unfold k0_pay11
  generalize k0_pay9 u w = A
  pointwise
theorem pay13_at : k0_pay13 u w v (ix2 i j)
    = Ideal.ofBits .f32 0x3F000000#32 * (k0_pay9 u w (ix2 i j) * Ideal.div 1 (1 + Ideal.exp (0 - k0_pay9 u w (ix2 i j))) * k0_pay9 u v (ix2 i j)) := by
  have e : k0_pay10 u v = k0_pay9 u v := rfl
  unfold k0_pay13
  rw [e]
  generalize k0_pay9 u w = A
  generalize k0_pay9 u v = B
  pointwise
end pays

/-! The blocks. -/
variable (h : Vec Ideal S528x1024 .f32) (g : Vec Ideal S1x1024 .f32) (u : FVec Ideal S528x1024 .bf16) (w v : Vec Ideal S2816x1024 .bf16)

/-- A product of the block's rows, and half the gated product. -/
def pr (i : Fin 528) (j : Fin 2816) : EReal := ∑ x, u (ix2 i x) * w (ix2 j x)
def ga (a b : EReal) : EReal := Ideal.ofBits .f32 0x3F000000#32 * (a * Ideal.div 1 (1 + Ideal.exp (0 - a)) * b)

variable (o : ℕ) (hb : ∀ a, ![o, 0] a + ![256, 1024] a ≤ S2816x1024.size a) (x : S528x256.Idx) (i : Fin 528) (j : Fin 2816)
  (h0 : i.val = (x 0).val) (h1 : j.val = o + (x 1).val)
include h0 h1

theorem chunk : k0_pay9 u (View.ld w (Rect.unit ![o, 0] ![256, 1024] hb)) x = pr u w i j := by
  have hx : x = ix2 i (x 1) := by
    funext k
    fin_cases k
    · exact Fin.ext h0.symm
    · rfl
  rw [hx]
  refine (pay9_at u _ i (x 1)).trans (Finset.sum_congr rfl fun d _ => congrArg (u (ix2 i d) * ·) ?_)
  exact View.ld_unit_apply_of w ![o, 0] ![256, 1024] _ (ix2 (x 1) d) (ix2 j d) (by intro a; fin_cases a <;> simp [h1, Nat.add_comm])
theorem chunk16 : k0_pay11 u (View.ld w (Rect.unit ![o, 0] ![256, 1024] hb)) x = pr u w i j := by
  rw [← chunk u w o hb x i j h0 h1]
  rfl
theorem chunkS : k0_pay13 u (View.ld w (Rect.unit ![o, 0] ![256, 1024] hb)) (View.ld v (Rect.unit ![o, 0] ![256, 1024] hb)) x = ga (pr u w i j) (pr u v i j) := by
  have hx : x = ix2 (x 0) (x 1) := by
    funext k
    fin_cases k <;> rfl
  rw [← chunk u w o hb x i j h0 h1, ← chunk u v o hb x i j h0 h1]
  rw [hx]
  exact pay13_at _ _ _ _ _
omit h0 h1

theorem ld0 : View.ld h r0_0 = h := View.ld_unit_lit _ _ (by decide)
theorem ld1 : View.ld g r0_1 = g := View.ld_unit_lit _ _ (by decide)
theorem first_a (w : Vec Ideal S256x1024 .bf16) : k0_pay5 h g w = k0_pay11 (k0_pay2 h g) w := rfl
theorem first_b (w : Vec Ideal S256x1024 .bf16) : k0_pay6 h g w = k0_pay11 (k0_pay2 h g) w := rfl
theorem first_s (w v : Vec Ideal S256x1024 .bf16) : k0_pay8 (k0_pay3 h g w) (k0_pay4 h g v) (k0_pay7 h g w) = k0_pay13 (k0_pay2 h g) w v := rfl

/-- The body's normed rows, its two products and half the gated product. -/
theorem out4 : out0_4 h g w v = k0_pay2 h g := by
  unfold_out out0_4
  rw [ld0, ld1]
  generalize k0_pay2 h g = u
  frame_out
theorem out5 : out0_5 h g w v (ix2 i j) = pr (k0_pay2 h g) w i j := by
  unfold_out out0_5
  rw [ld0, ld1, first_a]
  generalize k0_pay2 h g = u
  canon_tiles x h
  all_goals exact chunk16 u w _ _ x i j h0 (by first | exact h1 | exact h1.trans (Nat.zero_add _).symm)
theorem out6 : out0_6 h g w v (ix2 i j) = pr (k0_pay2 h g) v i j := by
  unfold_out out0_6
  rw [ld0, ld1, first_b]
  generalize k0_pay2 h g = u
  canon_tiles x h
  all_goals exact chunk16 u v _ _ x i j h0 (by first | exact h1 | exact h1.trans (Nat.zero_add _).symm)
theorem out7 : out0_7 h g w v (ix2 i j) = ga (pr (k0_pay2 h g) w i j) (pr (k0_pay2 h g) v i j) := by
  unfold_out out0_7
  rw [ld0, ld1, first_s]
  generalize k0_pay2 h g = u
  canon_tiles x h
  all_goals exact chunkS u w v _ _ x i j h0 (by first | exact h1 | exact h1.trans (Nat.zero_add _).symm)

end Cert.Proof.FfnUp
end
-- ==== Proof.FfnUpOut.lean ====
/-
  The half block's forward call up to the narrowing weight: its four arrays are the reference's, whatever the arguments hold.
-/
module

public import proofs.«01_k».proof.Defs
public import proofs.«01_k».proof.Proof.FfnUpBlk
public import proofs.«01_k».proof.Proof.Gen.Reference8Ideal.Run
public import Idealize.ShloMosaic.Lib.StableHlo.RunRead

@[expose] public section

set_option maxRecDepth 16384

noncomputable section

namespace Cert.Proof.FfnUp

open Cert.Kernel8Ideal Cert.Kernel8Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev hh : FVec F S4224x1024 .f32 := m ((c : Thread nD τ).loc main_arg0)
abbrev gg : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)

theorem V_v0 : V m c main_v0 = shapeCast S1x1024 (gg m c) shapeCasts_S1024_S1x1024 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v2 : V m c main_v2 = truncf .bf16 (transpose S2816x1024 [1, 0] (wg m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v4 : V m c main_v4 = truncf .bf16 (transpose S2816x1024 [1, 0] (wu m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
end host

theorem row_at (g : FVec Ideal S1024 .f32) (d : Fin 1024) : shapeCast S1x1024 g shapeCasts_S1024_S1x1024 (ix2 0 d) = g (ix1 d) := by
  pointwise
theorem turn_at (w : FVec Ideal S1024x2816 .f32) (j : Fin 2816) (d : Fin 1024) :
    truncf .bf16 (transpose S2816x1024 [1, 0] w transposes_S1024x2816_S2816x1024_1_0) bitsLt_bf16_f32 (ix2 j d) = w (ix2 d j) := by
  pointwise

/-! The reference's arrays, of the arguments. -/
section ref
variable {F : FTy → Type} [FloatOps F]
variable (h : FVec F S4224x1024 .f32) (g : FVec F S1024 .f32) (wg wu : FVec F S1024x2816 .f32)
def rU : FVec F S4224x1024 .bf16 := truncf .bf16 (Ffn.un h g) bitsLt_bf16_f32
def rA : FVec F S4224x2816 .bf16 := truncf .bf16 (Ffn.up (Ffn.un h g) wg) bitsLt_bf16_f32
def rS : FVec F S4224x2816 .bf16 := truncf .bf16 (Ffn.sx (Ffn.up (Ffn.un h g) wg) (Ffn.up (Ffn.un h g) wu)) bitsLt_bf16_f32
end ref

/-- Over 1024, and times its reciprocal. -/
theorem div_1024 (x : EReal) : Ideal.div x (Ideal.ofBits .f32 0x44800000#32) = x * Ideal.ofBits .f32 0x3A800000#32 := by
  rw [FfnReal.c_1024, FfnReal.c_inv]
  unfold Ideal.div
  rw [if_neg (by norm_num), ← EReal.coe_inv]
  norm_num
theorem sg_form (x : EReal) : Ideal.div (Ideal.ofBits .f32 0x3F800000#32) (Ideal.ofBits .f32 0x3F800000#32 + Ideal.exp (-x)) = Ideal.div 1 (1 + Ideal.exp (0 - x)) := by
  rw [FfnReal.c_one, zero_sub]

section blocks
variable (m : (ℓ : Loc nD τ sig) → Buf (Elt Ideal) ℓ) (c : Dev nD) (t : Fin cfg0.N)

/-- A block's row in the array. -/
theorem row_lt (i : Fin 528) : 528 * t.val + i.val < 4224 := by have : t.val < 8 := t.isLt; omega
def ro (i : Fin 528) : Fin 4224 := ⟨528 * t.val + i.val, row_lt t i⟩
theorem idx0 : win0_0.index t = ![t.val, 0] := (by decide +kernel : ∀ t : Fin grid0.N, win0_0.index t = ![t.val, 0]) t
theorem idx1 : win0_1.index t = ![0, 0] := (by decide +kernel : ∀ t : Fin grid0.N, win0_1.index t = ![0, 0]) t
theorem idx2 : win0_2.index t = ![0, 0] := (by decide +kernel : ∀ t : Fin grid0.N, win0_2.index t = ![0, 0]) t
theorem idx3 : win0_3.index t = ![0, 0] := (by decide +kernel : ∀ t : Fin grid0.N, win0_3.index t = ![0, 0]) t
theorem idx4 : win0_4.index t = ![t.val, 0] := (by decide +kernel : ∀ t : Fin grid0.N, win0_4.index t = ![t.val, 0]) t
theorem idx5 : win0_5.index t = ![t.val, 0] := (by decide +kernel : ∀ t : Fin grid0.N, win0_5.index t = ![t.val, 0]) t
theorem idx6 : win0_6.index t = ![t.val, 0] := (by decide +kernel : ∀ t : Fin grid0.N, win0_6.index t = ![t.val, 0]) t
theorem idx7 : win0_7.index t = ![t.val, 0] := (by decide +kernel : ∀ t : Fin grid0.N, win0_7.index t = ![t.val, 0]) t

theorem read0 (i : Fin 528) (d : Fin 1024) : iblk m c 0 t (ix2 i d) = hh m c (ix2 (ro t i) d) := by
  rw [hh, ← V_main_arg0 m c]
  unfold iblk ro
  generalize V m c (Pipeline.arrRef spec0 0) = A
  blk_ext [idx0 t]
theorem read1 (d : Fin 1024) : iblk m c 1 t (ix2 0 d) = gg m c (ix1 d) := by
  rw [← row_at (gg m c) d, ← V_v0 m c]
  unfold iblk
  generalize V m c (Pipeline.arrRef spec0 1) = A
  blk_ext [idx1 t]
theorem read2 (j : Fin 2816) (d : Fin 1024) : iblk m c 2 t (ix2 j d) = wg m c (ix2 d j) := by
  rw [← turn_at (wg m c) j d, ← V_v2 m c]
  unfold iblk
  generalize V m c (Pipeline.arrRef spec0 2) = A
  blk_ext [idx2 t]
theorem read3 (j : Fin 2816) (d : Fin 1024) : iblk m c 3 t (ix2 j d) = wu m c (ix2 d j) := by
  rw [← turn_at (wu m c) j d, ← V_v4 m c]
  unfold iblk
  generalize V m c (Pipeline.arrRef spec0 3) = A
  blk_ext [idx3 t]

theorem place4 (A : FVec Ideal S4224x1024 .bf16) (i : Fin 528) (d : Fin 1024) : A ((win0_4.blk t).view.emb (ix2 i d)) = A (ix2 (ro t i) d) := by
  unfold ro
  blk_ext [idx4 t]
theorem place5 (A : FVec Ideal S4224x2816 .bf16) (i : Fin 528) (j : Fin 2816) : A ((win0_5.blk t).view.emb (ix2 i j)) = A (ix2 (ro t i) j) := by
  unfold ro
  blk_ext [idx5 t]
theorem place6 (A : FVec Ideal S4224x2816 .bf16) (i : Fin 528) (j : Fin 2816) : A ((win0_6.blk t).view.emb (ix2 i j)) = A (ix2 (ro t i) j) := by
  unfold ro
  blk_ext [idx6 t]
theorem place7 (A : FVec Ideal S4224x2816 .bf16) (i : Fin 528) (j : Fin 2816) : A ((win0_7.blk t).view.emb (ix2 i j)) = A (ix2 (ro t i) j) := by
  unfold ro
  blk_ext [idx7 t]

/-- The blocks' rows, normed; their products; half the gated product. -/
theorem u_eq (i : Fin 528) (d : Fin 1024) : k0_pay2 (iblk m c 0 t) (iblk m c 1 t) (ix2 i d) = rU (hh m c) (gg m c) (ix2 (ro t i) d) := by
  refine Eq.trans ?_ (Ffn.un_at (hh m c) (gg m c) (ro t i) d).symm
  rw [pay2_at, Ffn.rr_at, Ffn.ms_at, div_1024, read1]
  simp only [fun i d => read0 m c t i d]
theorem a_eq (w : Vec Ideal S2816x1024 .bf16) (W : FVec Ideal S1024x2816 .f32) (e : ∀ j d, w (ix2 j d) = W (ix2 d j)) (i : Fin 528) (j : Fin 2816) :
    pr (k0_pay2 (iblk m c 0 t) (iblk m c 1 t)) w i j = rA (hh m c) (gg m c) W (ix2 (ro t i) j) := by
  refine Eq.trans ?_ (Ffn.up_at (Ffn.un (hh m c) (gg m c)) W (ro t i) j).symm
  unfold pr
  exact Finset.sum_congr rfl fun d _ => congrArg₂ (· * ·) (u_eq m c t i d) (e j d)
theorem s_eq (i : Fin 528) (j : Fin 2816) : ga (rA (hh m c) (gg m c) (wg m c) (ix2 (ro t i) j)) (rA (hh m c) (gg m c) (wu m c) (ix2 (ro t i) j))
    = rS (hh m c) (gg m c) (wg m c) (wu m c) (ix2 (ro t i) j) := by
  refine Eq.trans ?_ (Ffn.sx_at (Ffn.up (Ffn.un (hh m c) (gg m c)) (wg m c)) (Ffn.up (Ffn.un (hh m c) (gg m c)) (wu m c)) (ro t i) j).symm
  rw [Ffn.sg_at, sg_form]
  rfl

theorem arr4 : (dats m 0 c).arrAt 4 cfg0.N = rU (hh m c) (gg m c) := by
  refine (dats m 0 c).arrAt_eq_of_covers 4 _ (by decide +kernel) fun t hf y => ?_
  blk_simp
  rw [after0_4, out4]
  have hy : (y : S528x1024.Idx) = ix2 (y 0) (y 1) := by funext a; fin_cases a <;> rfl
  exact (congrArg (k0_pay2 _ _) hy).trans ((u_eq m c t (y 0) (y 1)).trans
    ((place4 t _ (y 0) (y 1)).symm.trans (congrArg (fun z => rU (hh m c) (gg m c) ((win0_4.blk t).view.emb z)) hy.symm)))
theorem arr5 : (dats m 0 c).arrAt 5 cfg0.N = rA (hh m c) (gg m c) (wg m c) := by
  refine (dats m 0 c).arrAt_eq_of_covers 5 _ (by decide +kernel) fun t hf y => ?_
  blk_simp
  rw [after0_5]
  have hy : (y : S528x2816.Idx) = ix2 (y 0) (y 1) := by funext a; fin_cases a <;> rfl
  exact (congrArg (out0_5 _ _ _ _) hy).trans ((out5 _ _ _ _ (y 0) (y 1)).trans ((a_eq m c t _ _ (read2 m c t) (y 0) (y 1)).trans
    ((place5 t _ (y 0) (y 1)).symm.trans (congrArg (fun z => rA (hh m c) (gg m c) (wg m c) ((win0_5.blk t).view.emb z)) hy.symm))))
theorem arr6 : (dats m 0 c).arrAt 6 cfg0.N = rA (hh m c) (gg m c) (wu m c) := by
  refine (dats m 0 c).arrAt_eq_of_covers 6 _ (by decide +kernel) fun t hf y => ?_
  blk_simp
  rw [after0_6]
  have hy : (y : S528x2816.Idx) = ix2 (y 0) (y 1) := by funext a; fin_cases a <;> rfl
  exact (congrArg (out0_6 _ _ _ _) hy).trans ((out6 _ _ _ _ (y 0) (y 1)).trans ((a_eq m c t _ _ (read3 m c t) (y 0) (y 1)).trans
    ((place6 t _ (y 0) (y 1)).symm.trans (congrArg (fun z => rA (hh m c) (gg m c) (wu m c) ((win0_6.blk t).view.emb z)) hy.symm))))
theorem arr7 : (dats m 0 c).arrAt 7 cfg0.N = rS (hh m c) (gg m c) (wg m c) (wu m c) := by
  refine (dats m 0 c).arrAt_eq_of_covers 7 _ (by decide +kernel) fun t hf y => ?_
  blk_simp
  rw [after0_7]
  have hy : (y : S528x2816.Idx) = ix2 (y 0) (y 1) := by funext a; fin_cases a <;> rfl
  exact (congrArg (out0_7 _ _ _ _) hy).trans ((out7 _ _ _ _ (y 0) (y 1)).trans
    ((congrArg₂ ga (a_eq m c t _ _ (read2 m c t) (y 0) (y 1)) (a_eq m c t _ _ (read3 m c t) (y 0) (y 1))).trans ((s_eq m c t (y 0) (y 1)).trans
    ((place7 t _ (y 0) (y 1)).symm.trans (congrArg (fun z => rS (hh m c) (gg m c) (wg m c) (wu m c) ((win0_7.blk t).view.emb z)) hy.symm)))))
end blocks

theorem algebraic : Cert.algebraic_Kernel8Ideal_Reference8Ideal := by
  intro m g m' g' _ hagree
  refine ⟨fun c => rU (hh m c) (gg m c), fun c => rA (hh m c) (gg m c) (wg m c), fun c => rA (hh m c) (gg m c) (wu m c),
    fun c => rS (hh m c) (gg m c) (wg m c) (wu m c), ?_, ?_⟩
  · refine (θ_run defs _ _).mono (fun r h c => ?_) (Value.run_blocks m g)
    obtain ⟨r4, r5, r6, r7, hargs⟩ := h c
    exact ⟨r4.trans (arr4 m c), r5.trans (arr5 m c), r6.trans (arr6 m c), r7.trans (arr7 m c), hargs⟩
  · refine (θ_run Cert.Reference8Ideal.defs _ _).mono (fun r h c => ?_) (Cert.Reference8Ideal.Value.run (F := Ideal) m' g')
    obtain ⟨e0, e1, e2, e3⟩ := hagree c
    obtain ⟨r0, r1, r2, r3, hargs⟩ := h c
    refine ⟨r0.trans ?_, r1.trans ?_, r2.trans ?_, r3.trans ?_, hargs⟩
    · rw [e0, e1]
      rfl
    · rw [e0, e1, e2]
      rfl
    · rw [e0, e1, e3]
      rfl
    · rw [e0, e1, e2, e3]
      rfl

end Cert.Proof.FfnUp
end
-- ==== Proof.FfnLossRow.lean ====
/-
  One row of the second half block's output, the final norm and the loss, over the extended reals.
-/
module

public import proofs.«01_k».proof.Proof.FfnReal

@[expose] public section

noncomputable section

namespace Cert.Proof.FfnLossRow

open Idealize.ShloMosaic

/-- The numbers 1/2, 1/1024 and -1/2. -/
abbrev half : EReal := Ideal.ofBits .f32 0x3F000000#32
abbrev inv : EReal := Ideal.ofBits .f32 0x3A800000#32
abbrev mhalf : EReal := Ideal.ofBits .f32 0xBF000000#32

/-- A row's mean square, the number under the root added, and the root's reciprocal. -/
def ms (y : Fin 1024 → EReal) : EReal := (∑ x, y x * y x) * inv + Ideal.ofBits .f32 0x358637BD#32
def rt (y : Fin 1024 → EReal) : EReal := Ideal.rsqrt (ms y)
/-- The row normalised, and times the gain; a product with a weight that widens. -/
def xr (y : Fin 1024 → EReal) (d : Fin 1024) : EReal := y d * rt y
def un (y g : Fin 1024 → EReal) (d : Fin 1024) : EReal := y d * rt y * g d
def up (u : Fin 1024 → EReal) (w : Fin 1024 → Fin 2816 → EReal) (j : Fin 2816) : EReal := ∑ d, u d * w d j
/-- The logistic function. -/
def sg (x : EReal) : EReal := Ideal.div 1 (1 + Ideal.exp (0 - x))
/-- A term of the narrowing product, and the row plus half of that product. -/
def tm (a b : Fin 2816 → EReal) (wd : Fin 2816 → Fin 1024 → EReal) (d : Fin 1024) (j : Fin 2816) : EReal := a j * sg (a j) * b j * wd j d
def yo (h : Fin 1024 → EReal) (a b : Fin 2816 → EReal) (wd : Fin 2816 → Fin 1024 → EReal) (d : Fin 1024) : EReal := h d + half * ∑ j, tm a b wd d j
/-- The row's difference from its target, where the row is a frame of the sequence. -/
def df (k : Prop) [Decidable k] (y g t : Fin 1024 → EReal) (d : Fin 1024) : EReal := if k then un y g d - t d else 0
/-- The difference's share in the mean. -/
def dv (k : Prop) [Decidable k] (y g t : Fin 1024 → EReal) (d : Fin 1024) : EReal := df k y g t d * inv
/-- The row's mean square difference. -/
def sq (k : Prop) [Decidable k] (y g t : Fin 1024 → EReal) : EReal := (∑ d, df k y g t d * df k y g t d) * inv
/-- The gradients of the row and (the row's share) of the gain. -/
def dh (y g u : Fin 1024 → EReal) (d : Fin 1024) : EReal := rt y * (u d * g d - xr y d * ((∑ e, u e * g e * xr y e) * inv))
def dg (y u : Fin 1024 → EReal) (d : Fin 1024) : EReal := u d * xr y d

/-- A function of the columns, at every number. -/
def ext (f : Fin 2816 → EReal) (j : ℕ) : EReal := if h : j < 2816 then f ⟨j, h⟩ else 0
theorem ext_sum (f : Fin 2816 → EReal) : ∑ j ∈ Finset.range 2816, ext f j = ∑ j, f j := by
  rw [Finset.sum_range]
  exact Finset.sum_congr rfl fun j _ => dif_pos j.isLt
theorem ext_step (f : Fin 2816 → EReal) (o : ℕ) (h : o + 256 ≤ 2816) :
    ∑ j ∈ Finset.range (o + 256), ext f j = ∑ j ∈ Finset.range o, ext f j + ∑ k : Fin 256, f ⟨o + k.val, by omega⟩ := by
  rw [Finset.sum_range_add, Finset.sum_range (n := 256)]
  exact congrArg (_ + ·) (Finset.sum_congr rfl fun k _ => dif_pos (by omega))

/-- A factor that is a real number and not negative goes into a sum. -/
theorem sum_mul {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _
theorem half_sum {ι : Type} (s : Finset ι) (f : ι → EReal) : half * ∑ i ∈ s, f i = ∑ i ∈ s, half * f i := by
  rw [half, FfnReal.c_half, mul_comm, sum_mul s f (by norm_num)]
  exact Finset.sum_congr rfl fun i _ => mul_comm _ _

theorem sq_nonneg (x : EReal) : 0 ≤ x * x := by
  rcases le_total 0 x with h | h
  · exact mul_nonneg h h
  · rw [← neg_mul_neg]
    exact mul_nonneg (EReal.neg_nonneg.mpr h) (EReal.neg_nonneg.mpr h)
theorem ms_pos (y : Fin 1024 → EReal) : 0 < ms y := by
  have h1 : 0 ≤ (∑ x, y x * y x) * inv := by
    rw [inv, FfnReal.c_inv]
    exact mul_nonneg (Finset.sum_nonneg fun x _ => sq_nonneg _) (EReal.coe_nonneg.mpr (by norm_num))
  unfold ms
  rw [FfnReal.c_eps]
  exact lt_of_lt_of_le (EReal.coe_pos.mpr FfnReal.eps_pos) (le_add_of_nonneg_left h1)
/-- The root's reciprocal is zero, or it is a positive real number whose square is the reciprocal of the mean square. -/
theorem rt_cases (y : Fin 1024 → EReal) :
    (ms y = ⊤ ∧ rt y = 0) ∨ ∃ r : ℝ, 0 < r ∧ rt y = (r : EReal) ∧ Ideal.div (rt y) (ms y) = ((r * r * r : ℝ) : EReal) := by
  have hp := ms_pos y
  unfold rt
  generalize ms y = m at hp
  induction m using EReal.rec with
  | bot => exact absurd hp (by simp)
  | top => exact Or.inl ⟨rfl, rfl⟩
  | coe x =>
    have hx : 0 < x := EReal.coe_pos.mp hp
    refine Or.inr ⟨(Real.sqrt x)⁻¹, by positivity, ?_, ?_⟩
    · rw [Ideal.rsqrt_coe, if_neg (not_lt.mpr hx.le), if_neg hx.ne']
    · rw [Ideal.rsqrt_coe, if_neg (not_lt.mpr hx.le), if_neg hx.ne', Row.div_real hx.ne']
      congr 1
      have h1 := Real.mul_self_sqrt hx.le
      have h2 : Real.sqrt x ≠ 0 := (Real.sqrt_pos.mpr hx).ne'
      rw [div_eq_mul_inv]
      nth_rewrite 2 [← h1]
      rw [mul_inv, mul_assoc]

/-- The row's gradient by the derivative of the reciprocal root, and as the row writes it. -/
theorem dh_form (y v : Fin 1024 → EReal) (d : Fin 1024) :
    v d * rt y + y d * Ideal.div ((∑ e, y e * v e) * (mhalf * Ideal.div (rt y) (ms y))) (Ideal.ofBits .f32 0x44800000#32)
      + Ideal.div ((∑ e, y e * v e) * (mhalf * Ideal.div (rt y) (ms y))) (Ideal.ofBits .f32 0x44800000#32) * y d
      = rt y * (v d - xr y d * ((∑ e, v e * xr y e) * inv)) := by
  unfold xr
  have hd : ∀ x : EReal, Ideal.div x (Ideal.ofBits .f32 0x44800000#32) = x * ((1 / 1024 : ℝ) : EReal) := fun x => by
    rw [FfnReal.c_1024]
    unfold Ideal.div
    rw [if_neg (by norm_num), ← EReal.coe_inv]
    norm_num
  rw [hd, inv, FfnReal.c_inv, mhalf, FfnReal.c_mhalf]
  rcases rt_cases y with ⟨em, er⟩ | ⟨r, hr, er, eq⟩
  · rw [em, er]
    unfold Ideal.div
    simp
  · rw [eq, er]
    have es : ∑ e, v e * (y e * (r : EReal)) = (∑ e, y e * v e) * (r : EReal) := by
      rw [sum_mul _ _ hr.le]
      exact Finset.sum_congr rfl fun e _ => by rw [← mul_assoc, mul_comm (v e)]
    rw [es]
    generalize ∑ e, y e * v e = W
    generalize y d = Y
    generalize v d = V
    have e1 : Y * (W * (((-(1 / 2) : ℝ) : EReal) * ((r * r * r : ℝ) : EReal)) * ((1 / 1024 : ℝ) : EReal)) = -(Y * W) * ((r * r * r / 2048 : ℝ) : EReal) := by
      rw [← EReal.coe_mul, mul_assoc W, ← EReal.coe_mul, ← mul_assoc, EReal.neg_mul, ← mul_neg, ← EReal.coe_neg]
      congr 2
      ring
    have e2 : (r : EReal) * (Y * (r : EReal) * (W * (r : EReal) * ((1 / 1024 : ℝ) : EReal))) = Y * W * ((r * r * r / 1024 : ℝ) : EReal) := by
      rw [show (r * r * r / 1024 : ℝ) = r * (r * (r * (1 / 1024))) by ring, EReal.coe_mul, EReal.coe_mul, EReal.coe_mul]
      ac_rfl
    rw [EReal.mul_sub_of_nonneg_of_ne_top (EReal.coe_nonneg.mpr hr.le) (EReal.coe_ne_top r), e2, mul_comm _ Y, e1, add_assoc,
      ← EReal.left_distrib_of_nonneg (EReal.coe_nonneg.mpr (by positivity)) (EReal.coe_nonneg.mpr (by positivity)), ← EReal.coe_add, mul_comm V, EReal.neg_mul, sub_eq_add_neg]
    congr 4
    ring

end Cert.Proof.FfnLossRow
end
-- ==== Proof.FfnLossBlk.lean ====
/-
  What a point of the second half block's forward call with the loss leaves in its six output blocks, over the extended reals.
-/
module

public import proofs.«01_k».proof.Proof.FfnLossRow
public import proofs.«01_k».proof.Proof.FfnUpBlk
public import proofs.«01_k».proof.Proof.Gen.Kernel3Ideal.Value

@[expose] public section

set_option maxRecDepth 16384

noncomputable section

namespace Cert.Proof.FfnLoss

open Cert.Kernel3Ideal Cert.Kernel3Ideal.Gen
open Idealize.ShloMosaic Idealize.ShloMosaic.TcCoe
open Idealize.ShloMosaic.Pipeline (Dat Cfg Window)

/-! The payloads at an index. -/
section pays
variable (h z x v r t : FVec Ideal S528x1024 .f32) (g gf : Vec Ideal S1x1024 .f32) (u : FVec Ideal S528x1024 .bf16) (w v x' : Vec Ideal S256x1024 .bf16)
  (s : FVec Ideal S528x1 .f32) (m : IVec S528x1024 1) (o : Vec Ideal S1x128 .f32) (i : Fin 528) (j : Fin 256) (d : Fin 1024) (l : Fin 128)

theorem pay3_at : k0_pay3 h g (ix2 i d)
    = h (ix2 i d) * Ideal.rsqrt ((∑ x, h (ix2 i x) * h (ix2 i x)) * Ideal.ofBits .f32 0x3A800000#32 + Ideal.ofBits .f32 0x358637BD#32) * g (ix2 0 d) := by
  unfold k0_pay3
  pointwise
theorem pay9_at : k0_pay9 u w (ix2 i j) = ∑ x, u (ix2 i x) * w (ix2 j x) := by
  unfold k0_pay9
  pointwise
theorem pay11_at : k0_pay11 u z w v x' (ix2 i d)
    = z (ix2 i d) + ∑ k, k0_pay9 u w (ix2 i k) * Ideal.div 1 (1 + Ideal.exp (0 - k0_pay9 u w (ix2 i k))) * k0_pay9 u v (ix2 i k) * x' (ix2 k d) := by
  have e : k0_pay10 u v = k0_pay9 u v := rfl
  unfold k0_pay11
  rw [e]
  generalize k0_pay9 u w = A
  generalize k0_pay9 u v = B
  pointwise
theorem pay61_at : k0_pay61 h z (ix2 i d) = h (ix2 i d) + Ideal.ofBits .f32 0x3F000000#32 * z (ix2 i d) := by
  unfold k0_pay61
  pointwise
theorem pay62_at : k0_pay62 g (ix2 0 d) = g (ix2 0 d) := by
  unfold k0_pay62
  pointwise
theorem pay63_at : k0_pay63 h (ix2 i d) = h (ix2 i d) := by
  unfold k0_pay63
  pointwise
theorem pay64_at : k0_pay64 h z (ix2 i 0)
    = Ideal.rsqrt ((∑ x, k0_pay61 h z (ix2 i x) * k0_pay61 h z (ix2 i x)) * Ideal.ofBits .f32 0x3A800000#32 + Ideal.ofBits .f32 0x358637BD#32) := by
  unfold k0_pay64
  generalize k0_pay61 h z = X
  pointwise
theorem pay66_at : k0_pay66 h z (ix2 i d) = k0_pay64 h z (ix2 i 0) := by
  unfold k0_pay66
  generalize k0_pay64 h z = X
  pointwise
theorem pay67_at : k0_pay67 x gf t m r (ix2 i d) = if m (ix2 i d) = 1#1 then x (ix2 i d) * r (ix2 i d) * gf (ix2 0 d) - t (ix2 i d) else 0 := by
  unfold k0_pay67
  pointwise
  rfl
theorem pay68_at : k0_pay68 x gf t m r (ix2 i d) = k0_pay67 x gf t m r (ix2 i d) * Ideal.ofBits .f32 0x3A800000#32 := by
  unfold k0_pay68
  generalize k0_pay67 x gf t m r = X
  pointwise
theorem pay69_at : k0_pay69 x s (ix2 i d) = x (ix2 i d) * s (ix2 i 0) := by
  unfold k0_pay69
  pointwise
theorem pay70_at : k0_pay70 x gf t s m r (ix2 i d) = s (ix2 i 0) * (k0_pay68 x gf t m r (ix2 i d) * gf (ix2 0 d)
    - k0_pay69 x s (ix2 i d) * ((∑ e, k0_pay68 x gf t m r (ix2 i e) * gf (ix2 0 e) * k0_pay69 x s (ix2 i e)) * Ideal.ofBits .f32 0x3A800000#32)) := by
  unfold k0_pay70
  generalize k0_pay68 x gf t m r = X
  generalize k0_pay69 x s = Y
  pointwise
theorem pay71_at : k0_pay71 x gf t s m r (ix2 0 d) = ∑ i, k0_pay68 x gf t m r (ix2 i d) * k0_pay69 x s (ix2 i d) := by
  unfold k0_pay71
  generalize k0_pay68 x gf t m r = X
  generalize k0_pay69 x s = Y
  pointwise
theorem pay72_at : k0_pay72 x gf t m r (ix2 0 l)
    = Ideal.ofBits .f32 0x3F000000#32 * ∑ i, (∑ d, k0_pay67 x gf t m r (ix2 i d) * k0_pay67 x gf t m r (ix2 i d)) * Ideal.ofBits .f32 0x3A800000#32 := by
  unfold k0_pay72
  generalize k0_pay67 x gf t m r = X
  pointwise
theorem pay1_at (p : FVec Ideal S1x128 .f32) : k0_pay1 p o (ix2 0 l) = o (ix2 0 l) + p (ix2 0 l) := by
  unfold k0_pay1
  pointwise
theorem pay2_at (p : FVec Ideal S1x1024 .f32) : k0_pay2 p g (ix2 0 d) = g (ix2 0 d) + p (ix2 0 d) := by
  unfold k0_pay2
  pointwise

/-- A row of a tile is a frame of its sequence, when it lies after the first 64 rows of the sequence. -/
theorem mask_num : ∀ t : Fin 8, ∀ i : Fin 528,
    (Scalar.cmpi .sge (Scalar.addi (Scalar.muli (Scalar.select (Scalar.andi (Scalar.xori (Scalar.cmpi .slt (Scalar.remsi (BitVec.ofNat 32 t.val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 t.val) (Scalar.select (Scalar.cmpi .eq 4#32 0#32) 1#32 4#32)) 0#32)) (Scalar.addi (Scalar.remsi (BitVec.ofNat 32 t.val) (Scalar.select (Scalar.cmpi .eq 4#32 0#32) 1#32 4#32)) (Scalar.select (Scalar.cmpi .eq 4#32 0#32) 1#32 4#32)) (Scalar.remsi (BitVec.ofNat 32 t.val) (Scalar.select (Scalar.cmpi .eq 4#32 0#32) 1#32 4#32))) 528#32) (BitVec.ofNat 32 i.val)) 64#32 : BitVec 1) = 1#1
      ↔ 64 ≤ (528 * t.val + i.val) % 2112 := by
  decide +kernel
theorem pay65_at (t : Fin 8) : k0_pay65 (BitVec.ofNat 32 t.val) (ix2 i d) = 1#1 ↔ 64 ≤ (528 * t.val + i.val) % 2112 := by
  rw [← mask_num t i]
  unfold k0_pay65
  pointwise
  rfl
end pays

/-! The blocks. -/

/-- A chunk of 256 rows of a weight, a chunk's product added, and the narrowing product. -/
abbrev cw (w : Vec Ideal S2816x1024 .bf16) (o : ℕ) (hb : ∀ a, ![o, 0] a + ![256, 1024] a ≤ S2816x1024.size a) : Vec Ideal S256x1024 .bf16 := View.ld w (Rect.unit ![o, 0] ![256, 1024] hb)
abbrev st (u : FVec Ideal S528x1024 .bf16) (wg wu wd : Vec Ideal S2816x1024 .bf16) (o : ℕ) (hb : ∀ a, ![o, 0] a + ![256, 1024] a ≤ S2816x1024.size a)
    (z : FVec Ideal S528x1024 .f32) : FVec Ideal S528x1024 .f32 := k0_pay11 u z (cw wg o hb) (cw wu o hb) (cw wd o hb)
def Z0 : FVec Ideal S528x1024 .f32 := broadcast S528x1024 (Scalar.ofBits .f32 0x00000000#32)
def YY (u : FVec Ideal S528x1024 .bf16) (wg wu wd : Vec Ideal S2816x1024 .bf16) : FVec Ideal S528x1024 .f32 :=
  st u wg wu wd 2560 inb_S2816x1024_S256x1024_2560_0 (st u wg wu wd 2304 inb_S2816x1024_S256x1024_2304_0 (st u wg wu wd 2048 inb_S2816x1024_S256x1024_2048_0
    (st u wg wu wd 1792 inb_S2816x1024_S256x1024_1792_0 (st u wg wu wd 1536 inb_S2816x1024_S256x1024_1536_0 (st u wg wu wd 1280 inb_S2816x1024_S256x1024_1280_0
    (st u wg wu wd 1024 inb_S2816x1024_S256x1024_1024_0 (st u wg wu wd 768 inb_S2816x1024_S256x1024_768_0 (st u wg wu wd 512 inb_S2816x1024_S256x1024_512_0
    (st u wg wu wd 256 inb_S2816x1024_S256x1024_256_0 (st u wg wu wd 0 inb_S2816x1024_S256x1024_0_0 Z0))))))))))

/-- Seven input blocks, by their entries. -/
structure Vals (h : Vec Ideal S528x1024 .f32) (g : Vec Ideal S1x1024 .f32) (wg wu wd : Vec Ideal S2816x1024 .bf16) (gf : Vec Ideal S1x1024 .f32) (t : Vec Ideal S528x1024 .f32)
    (H : Fin 528 → Fin 1024 → EReal) (G : Fin 1024 → EReal) (Wg Wu : Fin 1024 → Fin 2816 → EReal) (Wd : Fin 2816 → Fin 1024 → EReal) (Gf : Fin 1024 → EReal) (T : Fin 528 → Fin 1024 → EReal) : Prop where
  h : ∀ i d, h (ix2 i d) = H i d
  g : ∀ d, g (ix2 0 d) = G d
  wg : ∀ j d, wg (ix2 j d) = Wg d j
  wu : ∀ j d, wu (ix2 j d) = Wu d j
  wd : ∀ j d, wd (ix2 j d) = Wd j d
  gf : ∀ d, gf (ix2 0 d) = Gf d
  t : ∀ i d, t (ix2 i d) = T i d

section vals
variable {h : Vec Ideal S528x1024 .f32} {g : Vec Ideal S1x1024 .f32} {wg wu wd : Vec Ideal S2816x1024 .bf16} {gf : Vec Ideal S1x1024 .f32} {t : Vec Ideal S528x1024 .f32}
  {H : Fin 528 → Fin 1024 → EReal} {G : Fin 1024 → EReal} {Wg Wu : Fin 1024 → Fin 2816 → EReal} {Wd : Fin 2816 → Fin 1024 → EReal} {Gf : Fin 1024 → EReal} {T : Fin 528 → Fin 1024 → EReal}
  (R : Vals h g wg wu wd gf t H G Wg Wu Wd Gf T) (i : Fin 528) (j : Fin 2816) (d : Fin 1024)

/-- A row's product with a weight that widens, and the row's output. -/
abbrev aR (H : Fin 528 → Fin 1024 → EReal) (G : Fin 1024 → EReal) (W : Fin 1024 → Fin 2816 → EReal) (i : Fin 528) : Fin 2816 → EReal := FfnLossRow.up (FfnLossRow.un (H i) G) W
abbrev yR (H : Fin 528 → Fin 1024 → EReal) (G : Fin 1024 → EReal) (Wg Wu : Fin 1024 → Fin 2816 → EReal) (Wd : Fin 2816 → Fin 1024 → EReal) (i : Fin 528) : Fin 1024 → EReal :=
  FfnLossRow.yo (H i) (aR H G Wg i) (aR H G Wu i) Wd

include R
theorem u_is : k0_pay3 h g (ix2 i d) = (FfnLossRow.un (H i) G d) := by
  rw [pay3_at]
  simp only [R.h, R.g]
  rfl
theorem pr_is {w : Vec Ideal S2816x1024 .bf16} {W : Fin 1024 → Fin 2816 → EReal} (hw : ∀ j d, w (ix2 j d) = W d j) :
    FfnUp.pr (k0_pay3 h g) w i j = (aR H G W i j) := by
  unfold FfnUp.pr
  simp only [u_is R, hw]
  rfl
theorem st_is (o o' : ℕ) (hb : ∀ a, ![o, 0] a + ![256, 1024] a ≤ S2816x1024.size a) (ho : o' = o + 256) (z : FVec Ideal S528x1024 .f32)
    (hz : ∀ i d, z (ix2 i d) = (∑ j ∈ Finset.range o, FfnLossRow.ext (FfnLossRow.tm (aR H G Wg i) (aR H G Wu i) Wd d) j)) :
    ∀ i d, st (k0_pay3 h g) wg wu wd o hb z (ix2 i d) = (∑ j ∈ Finset.range o', FfnLossRow.ext (FfnLossRow.tm (aR H G Wg i) (aR H G Wu i) Wd d) j) := by
  intro i d
  have h0 : o + 256 ≤ 2816 := hb 0
  subst ho
  rw [FfnLossRow.ext_step _ o h0]
  have ec : ∀ {w : Vec Ideal S2816x1024 .bf16} {W : Fin 1024 → Fin 2816 → EReal}, (∀ j d, w (ix2 j d) = W d j) → ∀ k : Fin 256,
      k0_pay9 (k0_pay3 h g) (cw w o hb) (ix2 i k) = (aR H G W i ⟨o + k.val, by omega⟩ : EReal) := fun hw k =>
    (FfnUp.chunk (k0_pay3 h g) _ o hb (ix2 i k) i ⟨o + k.val, by omega⟩ rfl rfl).trans (pr_is R i _ hw)
  have ed : ∀ k : Fin 256, cw wd o hb (ix2 k d) = (Wd ⟨o + k.val, by omega⟩ d : EReal) := fun k =>
    (View.ld_unit_apply_of wd ![o, 0] ![256, 1024] _ (ix2 k d) (ix2 (⟨o + k.val, by omega⟩ : Fin 2816) d) (by intro a; fin_cases a <;> simp [Nat.add_comm])).trans (R.wd _ _)
  refine (pay11_at z _ _ _ _ i d).trans ?_
  rw [hz]
  simp only [ec R.wg, ec R.wu, ed]
  rfl
theorem yy_is : YY (k0_pay3 h g) wg wu wd (ix2 i d) = (∑ j, FfnLossRow.tm (aR H G Wg i) (aR H G Wu i) Wd d j) := by
  rw [← FfnLossRow.ext_sum]
  have z0 : ∀ i d, Z0 (ix2 i d) = (∑ j ∈ Finset.range 0, FfnLossRow.ext (FfnLossRow.tm (aR H G Wg i) (aR H G Wu i) Wd d) j) := fun i d => by
    rw [Finset.range_zero, Finset.sum_empty]
    unfold Z0
    pointwise
  exact st_is R 2560 2816 _ rfl _ (st_is R 2304 2560 _ rfl _ (st_is R 2048 2304 _ rfl _ (st_is R 1792 2048 _ rfl _ (st_is R 1536 1792 _ rfl _ (st_is R 1280 1536 _ rfl _
    (st_is R 1024 1280 _ rfl _ (st_is R 768 1024 _ rfl _ (st_is R 512 768 _ rfl _ (st_is R 256 512 _ rfl _ (st_is R 0 256 _ rfl _ z0)))))))))) i d
theorem y_is : k0_pay61 h (YY (k0_pay3 h g) wg wu wd) (ix2 i d) = (yR H G Wg Wu Wd i d) := by
  rw [pay61_at, yy_is R, R.h]
  rfl
theorem rt_is : k0_pay64 h (YY (k0_pay3 h g) wg wu wd) (ix2 i 0) = (FfnLossRow.rt (yR H G Wg Wu Wd i)) := by
  rw [pay64_at]
  simp only [y_is R]
  rfl

/-! The head: the difference, its share, the loss and its two gradients. -/
variable (n : Fin 8)
/-- The row is a frame of its sequence. -/
abbrev ok (n : Fin 8) (i : Fin 528) : Prop := 64 ≤ (528 * n.val + i.val) % 2112

theorem df_is : k0_pay67 (k0_pay61 h (YY (k0_pay3 h g) wg wu wd)) (k0_pay62 gf) (k0_pay63 t) (k0_pay65 (BitVec.ofNat 32 n.val)) (k0_pay66 h (YY (k0_pay3 h g) wg wu wd)) (ix2 i d)
    = (FfnLossRow.df (ok n i) (yR H G Wg Wu Wd i) Gf (T i) d) := by
  rw [pay67_at, pay66_at, y_is R, rt_is R, pay62_at, pay63_at, R.gf, R.t]
  unfold FfnLossRow.df
  by_cases k : ok n i
  · rw [if_pos ((pay65_at i d n).mpr k), if_pos k]
    rfl
  · rw [if_neg (fun e => k ((pay65_at i d n).mp e)), if_neg k]
theorem dv_is : k0_pay68 (k0_pay61 h (YY (k0_pay3 h g) wg wu wd)) (k0_pay62 gf) (k0_pay63 t) (k0_pay65 (BitVec.ofNat 32 n.val)) (k0_pay66 h (YY (k0_pay3 h g) wg wu wd)) (ix2 i d)
    = (FfnLossRow.dv (ok n i) (yR H G Wg Wu Wd i) Gf (T i) d) := by
  rw [pay68_at, df_is R]
  rfl
theorem xr_is : k0_pay69 (k0_pay61 h (YY (k0_pay3 h g) wg wu wd)) (k0_pay64 h (YY (k0_pay3 h g) wg wu wd)) (ix2 i d)
    = FfnLossRow.xr (yR H G Wg Wu Wd i) d := by
  rw [pay69_at, y_is R, rt_is R]
  rfl

/-- The three blocks of the head. -/
abbrev DX (n : Fin 8) (h : Vec Ideal S528x1024 .f32) (g : Vec Ideal S1x1024 .f32) (wg wu wd : Vec Ideal S2816x1024 .bf16) (gf : Vec Ideal S1x1024 .f32) (t : Vec Ideal S528x1024 .f32) : Vec Ideal S528x1024 .f32 :=
  k0_pay70 (k0_pay61 h (YY (k0_pay3 h g) wg wu wd)) (k0_pay62 gf) (k0_pay63 t) (k0_pay64 h (YY (k0_pay3 h g) wg wu wd)) (k0_pay65 (BitVec.ofNat 32 n.val)) (k0_pay66 h (YY (k0_pay3 h g) wg wu wd))
abbrev DG (n : Fin 8) (h : Vec Ideal S528x1024 .f32) (g : Vec Ideal S1x1024 .f32) (wg wu wd : Vec Ideal S2816x1024 .bf16) (gf : Vec Ideal S1x1024 .f32) (t : Vec Ideal S528x1024 .f32) : FVec Ideal S1x1024 .f32 :=
  k0_pay71 (k0_pay61 h (YY (k0_pay3 h g) wg wu wd)) (k0_pay62 gf) (k0_pay63 t) (k0_pay64 h (YY (k0_pay3 h g) wg wu wd)) (k0_pay65 (BitVec.ofNat 32 n.val)) (k0_pay66 h (YY (k0_pay3 h g) wg wu wd))
abbrev LS (n : Fin 8) (h : Vec Ideal S528x1024 .f32) (g : Vec Ideal S1x1024 .f32) (wg wu wd : Vec Ideal S2816x1024 .bf16) (gf : Vec Ideal S1x1024 .f32) (t : Vec Ideal S528x1024 .f32) : FVec Ideal S1x128 .f32 :=
  k0_pay72 (k0_pay61 h (YY (k0_pay3 h g) wg wu wd)) (k0_pay62 gf) (k0_pay63 t) (k0_pay65 (BitVec.ofNat 32 n.val)) (k0_pay66 h (YY (k0_pay3 h g) wg wu wd))

theorem dx_is : DX n h g wg wu wd gf t (ix2 i d)
    = (FfnLossRow.dh (yR H G Wg Wu Wd i) Gf (FfnLossRow.dv (ok n i) (yR H G Wg Wu Wd i) Gf (T i)) d) := by
  unfold DX
  rw [pay70_at, rt_is R]
  simp only [dv_is R, xr_is R, pay62_at, R.gf]
  rfl
theorem dg_is : DG n h g wg wu wd gf t (ix2 0 d)
    = (∑ i, FfnLossRow.dg (yR H G Wg Wu Wd i) (FfnLossRow.dv (ok n i) (yR H G Wg Wu Wd i) Gf (T i)) d) := by
  unfold DG
  rw [pay71_at]
  simp only [dv_is R, xr_is R]
  rfl
theorem ls_is (l : Fin 128) : LS n h g wg wu wd gf t (ix2 0 l)
    = (FfnLossRow.half * ∑ i, FfnLossRow.sq (ok n i) (yR H G Wg Wu Wd i) Gf (T i)) := by
  unfold LS
  rw [pay72_at]
  simp only [df_is R]
  rfl
end vals

/-! The payloads as they are computed, chunk by chunk. -/
section chunks
variable (h z : FVec Ideal S528x1024 .f32) (g : Vec Ideal S1x1024 .f32) (u : FVec Ideal S528x1024 .bf16) (w v x w' v' x' : Vec Ideal S256x1024 .bf16)
theorem y1 : k0_pay6 h g w v x = k0_pay11 (k0_pay3 h g) Z0 w v x := rfl
theorem y3 : k0_pay17 u z (k0_pay14 u w) (k0_pay15 v) x = k0_pay11 u z w v x := rfl
theorem y5 : k0_pay27 u z (k0_pay22 u w v) x w' v' x' = k0_pay11 u (k0_pay11 u z w v x) w' v' x' := rfl
theorem y6 : k0_pay33 u z (k0_pay30 w) v x = k0_pay11 u z w v x := rfl
theorem y8 : k0_pay43 u z (k0_pay36 u w) (k0_pay37 u v) (k0_pay38 u w) x w' v' x' = k0_pay11 u (k0_pay11 u z w v x) w' v' x' := rfl
theorem y9 : k0_pay48 u z w v x = k0_pay11 u z w v x := rfl
theorem y11 : k0_pay58 u z (k0_pay51 u w) (k0_pay52 u v) (k0_pay53 u w) x w' v' x' = k0_pay11 u (k0_pay11 u z w v x) w' v' x' := rfl
end chunks

/-! What a point leaves. -/
section after
variable (m : (ℓ : Loc nD τ sig) → Buf (Elt Ideal) ℓ) (c : Dev nD) (t : Fin cfg0.N)

theorem caseB (h0 : ¬t.val % 8 = 0) : 1 ≤ t.val := by
  rcases Nat.eq_zero_or_pos t.val with h | h
  · exact absurd (by rw [h]) h0
  · exact h
theorem caseA (h0 : t.val % 8 = 0) : ¬1 ≤ t.val := by have : t.val < 8 := t.isLt; omega
theorem co (t : Fin cfg0.N) : (grid0.coords t 0).val = t.val := (by decide +kernel : ∀ t : Fin grid0.N, (grid0.coords t 0).val = t.val) t

theorem after7 : (outsAt0 m c t.val t.isLt).1 = DX ⟨t.val, t.isLt⟩ (iblk m c 0 t) (iblk m c 1 t) (iblk m c 2 t) (iblk m c 3 t) (iblk m c 4 t) (iblk m c 5 t) (iblk m c 6 t) := by
  by_cases h0 : t.val % 8 = 0
  · rw [outsAt0_A m c t h0 (caseA t h0) h0 (caseA t h0)]
    frame_out
    simp only [y1, y3, y5, y6, y8, y9, y11, co]
    rfl
  · rw [outsAt0_B m c t h0 (caseB t h0) h0 (caseB t h0)]
    frame_out
    simp only [y1, y3, y5, y6, y8, y9, y11, co]
    rfl
theorem after8 : (outsAt0 m c t.val t.isLt).2.1 = k0_pay3 (iblk m c 0 t) (iblk m c 1 t) := by
  by_cases h0 : t.val % 8 = 0
  · rw [outsAt0_A m c t h0 (caseA t h0) h0 (caseA t h0)]
    frame_out
  · rw [outsAt0_B m c t h0 (caseB t h0) h0 (caseB t h0)]
    frame_out
/-- The chunks of a product with a weight that widens, side by side. -/
theorem after9 (i : Fin 528) (j : Fin 2816) : (outsAt0 m c t.val t.isLt).2.2.1 (ix2 i j) = FfnUp.pr (k0_pay3 (iblk m c 0 t) (iblk m c 1 t)) (iblk m c 2 t) i j := by
  by_cases h0 : t.val % 8 = 0
  · rw [outsAt0_A m c t h0 (caseA t h0) h0 (caseA t h0)]
    frame_out
    canon_tiles x h
    all_goals exact FfnUp.chunk16 _ _ _ _ x i j h0 (by first | exact h1 | exact h1.trans (Nat.zero_add _).symm)
  · rw [outsAt0_B m c t h0 (caseB t h0) h0 (caseB t h0)]
    frame_out
    canon_tiles x h
    all_goals exact FfnUp.chunk16 _ _ _ _ x i j h0 (by first | exact h1 | exact h1.trans (Nat.zero_add _).symm)
theorem after10 (i : Fin 528) (j : Fin 2816) : (outsAt0 m c t.val t.isLt).2.2.2.1 (ix2 i j) = FfnUp.pr (k0_pay3 (iblk m c 0 t) (iblk m c 1 t)) (iblk m c 3 t) i j := by
  by_cases h0 : t.val % 8 = 0
  · rw [outsAt0_A m c t h0 (caseA t h0) h0 (caseA t h0)]
    frame_out
    canon_tiles x h
    all_goals exact FfnUp.chunk16 _ _ _ _ x i j h0 (by first | exact h1 | exact h1.trans (Nat.zero_add _).symm)
  · rw [outsAt0_B m c t h0 (caseB t h0) h0 (caseB t h0)]
    frame_out
    canon_tiles x h
    all_goals exact FfnUp.chunk16 _ _ _ _ x i j h0 (by first | exact h1 | exact h1.trans (Nat.zero_add _).symm)

/-- The two accumulated blocks: the first point stores its share, a later point adds its own. -/
theorem after11A (h0 : t.val % 8 = 0) : (outsAt0 m c t.val t.isLt).2.2.2.2.1
    = LS ⟨t.val, t.isLt⟩ (iblk m c 0 t) (iblk m c 1 t) (iblk m c 2 t) (iblk m c 3 t) (iblk m c 4 t) (iblk m c 5 t) (iblk m c 6 t) := by
  rw [outsAt0_A m c t h0 (caseA t h0) h0 (caseA t h0)]
  frame_out
  simp only [y1, y3, y5, y6, y8, y9, y11, co]
  rfl
theorem after11B (h0 : ¬t.val % 8 = 0) : (outsAt0 m c t.val t.isLt).2.2.2.2.1
    = k0_pay1 (LS ⟨t.val, t.isLt⟩ (iblk m c 0 t) (iblk m c 1 t) (iblk m c 2 t) (iblk m c 3 t) (iblk m c 4 t) (iblk m c 5 t) (iblk m c 6 t))
      (outsAt0 m c (t.val - 1) (Nat.lt_of_le_of_lt (Nat.sub_le _ _) t.isLt)).2.2.2.2.1 := by
  rw [outsAt0_B m c t h0 (caseB t h0) h0 (caseB t h0)]
  frame_out
  simp only [y1, y3, y5, y6, y8, y9, y11, co]
  rfl
theorem after12A (h0 : t.val % 8 = 0) : (outsAt0 m c t.val t.isLt).2.2.2.2.2
    = DG ⟨t.val, t.isLt⟩ (iblk m c 0 t) (iblk m c 1 t) (iblk m c 2 t) (iblk m c 3 t) (iblk m c 4 t) (iblk m c 5 t) (iblk m c 6 t) := by
  rw [outsAt0_A m c t h0 (caseA t h0) h0 (caseA t h0)]
  frame_out
  simp only [y1, y3, y5, y6, y8, y9, y11, co]
  rfl
theorem after12B (h0 : ¬t.val % 8 = 0) : (outsAt0 m c t.val t.isLt).2.2.2.2.2
    = k0_pay2 (DG ⟨t.val, t.isLt⟩ (iblk m c 0 t) (iblk m c 1 t) (iblk m c 2 t) (iblk m c 3 t) (iblk m c 4 t) (iblk m c 5 t) (iblk m c 6 t))
      (outsAt0 m c (t.val - 1) (Nat.lt_of_le_of_lt (Nat.sub_le _ _) t.isLt)).2.2.2.2.2 := by
  rw [outsAt0_B m c t h0 (caseB t h0) h0 (caseB t h0)]
  frame_out
  simp only [y1, y3, y5, y6, y8, y9, y11, co]
  rfl
end after

end Cert.Proof.FfnLoss
end
-- ==== Proof.FfnLossHost.lean ====
/-
  The second half block's output, the final norm, the loss and its gradients by the reference's host operations, over the extended reals.
-/
module

public import proofs.«01_k».proof.Proof.FfnVal
public import proofs.«01_k».proof.Proof.FfnLossRow
public import proofs.«01_k».proof.Proof.FfnUpOut
public import proofs.«01_k».proof.Proof.Gen.Reference3Ideal

@[expose] public section

set_option maxRecDepth 16384

noncomputable section

namespace Cert.Proof.FfnLossRef

open Cert.Reference3Ideal Cert.Reference3Ideal.Gen
open Idealize.ShloMosaic Idealize.ShloMosaic.TcCoe

section stages
variable {F : FTy → Type} [FloatOps F]
variable (h y : FVec F S4224x1024 .f32) (g gf : FVec F S1024 .f32) (wg wu : FVec F S1024x2816 .f32) (wd : FVec F S2816x1024 .f32) (t : FVec F S2x2048x1024 .f32)
  (a b : FVec F S4224x2816 .f32)

/-- The half block's output, of the two products. -/
def yo : FVec F S4224x1024 .f32 := addf h (mulf (Ffn.fillH 0x3F000000#32) (Host.dotGeneral dot_S4224x2816_S2816x1024_S4224x1024_1_0_0_1_n_n none (Ffn.xs a b) wd))
/-- The half block's output, of the arguments. -/
def rY : FVec F S4224x1024 .f32 := yo h wd (Ffn.up (Ffn.un h g) wg) (Ffn.up (Ffn.un h g) wu)
/-- The difference from the target, on the frames. -/
def dd (u : FVec F S4224x1024 .f32) : FVec F S2x2048x1024 .f32 :=
  subf (extractStridedSlice S2x2048x1024 ![0, 64, 0] (shapeCast S2x2112x1024 u shapeCasts_S4224x1024_S2x2112x1024) slices_S2x2112x1024_S2x2048x1024_0_64_0) t
/-- The loss at every lane. -/
def ls (x : FVec F S2x2048x1024 .f32) : FVec F S1x128 .f32 :=
  broadcastInDim S1x128 ![] bcast_S_S1x128 (mulf (constant S_ .f32 0x3F000000#32) (Host.reduceAdd (Host.divf
    (Host.reduceAdd (mulf x x) (constant S_ .f32 0x00000000#32) reducesTo_S2x2048x1024_S2x2048_d2 h_S_)
    (broadcastInDim S2x2048 ![] bcast_S_S2x2048 (constant S_ .f32 0x44800000#32))) (constant S_ .f32 0x00000000#32) reducesTo_S2x2048_S_d0_1 h_S_))
/-- The loss's gradient on the frames. -/
def dz (x : FVec F S2x2048x1024 .f32) : FVec F S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32)))
    (broadcastInDim S2x2048 ![] bcast_S_S2x2048 (constant S_ .f32 0x44800000#32)))) (mulf (broadcastInDim S2x2048x1024 ![] bcast_S_S2x2048x1024 (constant S_ .f32 0x40000000#32)) x)
/-- It at every row. -/
def pd (x : FVec F S2x2048x1024 .f32) : FVec F S4224x1024 .f32 :=
  shapeCast S4224x1024 (pad S2x2112x1024 ![0, 64, 0] ![0, 0, 0] ![0, 0, 0] x (constant S_ .f32 0x00000000#32) pads_S2x2048x1024_S2x2112x1024_000_6400_000 h_S_) shapeCasts_S2x2112x1024_S4224x1024
/-- The row's gradient where nothing else comes in. -/
def dn (h v : FVec F S4224x1024 .f32) : FVec F S4224x1024 .f32 :=
  addf (addf (mulf v (Ffn.wideH (Ffn.rr h))) (mulf h (Ffn.qw (Ffn.qs h v)))) (mulf (Ffn.qw (Ffn.qs h v)) h)
end stages

/-- The row of a sequence's place, and of its frame. -/
def pl (b : Fin 2) (q : Fin 2112) : Fin 4224 := ⟨b.val * 2112 + q.val, by omega⟩
def fr (b : Fin 2) (p : Fin 2048) : Fin 4224 := pl b ⟨64 + p.val, by omega⟩

section reads
variable (h y u v : FVec Ideal S4224x1024 .f32) (wd : FVec Ideal S2816x1024 .f32) (a b : FVec Ideal S4224x2816 .f32) (t x : FVec Ideal S2x2048x1024 .f32) (z : FVec Ideal S2x2112x1024 .f32)
  (i : Fin 4224) (d : Fin 1024) (n : Fin 2) (p : Fin 2048) (q : Fin 2112)

theorem yo_at : yo h wd a b (ix2 i d) = h (ix2 i d) + Ideal.ofBits .f32 0x3F000000#32 * ∑ j, a (ix2 i j) * Ffn.sg a (ix2 i j) * b (ix2 i j) * wd (ix2 j d) := by
  unfold yo Ffn.xs
  generalize Ffn.sg a = s
  pointwise
theorem flat_at : shapeCast S4224x1024 z shapeCasts_S2x2112x1024_S4224x1024 (ix2 (pl n q) d) = z (ix3 n q d) := by
  unfold pl
  pointwise
theorem deep_at : shapeCast S2x2112x1024 u shapeCasts_S4224x1024_S2x2112x1024 (ix3 n q d) = u (ix2 (pl n q) d) := by
  unfold pl
  pointwise
theorem dd_at : dd t u (ix3 n p d) = u (ix2 (fr n p) d) - t (ix3 n p d) := by
  unfold dd fr
  refine Eq.trans ?_ (congrArg (· - t (ix3 n p d)) (deep_at u d n ⟨64 + p.val, by omega⟩))
  generalize shapeCast S2x2112x1024 u shapeCasts_S4224x1024_S2x2112x1024 = w
  pointwise
theorem ls_at (l : Fin 128) : ls x (ix2 0 l) = Ideal.ofBits .f32 0x3F000000#32 * ∑ n, ∑ p, Ideal.div (∑ d, x (ix3 n p d) * x (ix3 n p d)) (Ideal.ofBits .f32 0x44800000#32) := by
  unfold ls
  pointwise
theorem dz_at : dz x (ix3 n p d) = Ideal.div (Ideal.ofBits .f32 0x3F000000#32 * Ideal.ofBits .f32 0x3F800000#32) (Ideal.ofBits .f32 0x44800000#32) * (Ideal.ofBits .f32 0x40000000#32 * x (ix3 n p d)) := by
  unfold dz
  pointwise
theorem pd_at : pd x (ix2 (fr n p) d) = x (ix3 n p d) := by
  unfold pd fr
  rw [flat_at]
  pointwise
theorem pd_out (hq : q.val < 64) : pd x (ix2 (pl n q) d) = 0 := by
  unfold pd
  rw [flat_at]
  pointwise
  exact dif_neg fun e => by omega
theorem dn_at : dn h v (ix2 i d) = v (ix2 i d) * Ffn.rr h (ix2 i 0) + h (ix2 i d) * Ffn.qs h v (ix2 i 0) + Ffn.qs h v (ix2 i 0) * h (ix2 i d) := by
  unfold dn
  rw [← Ffn.wideH_at (Ffn.rr h) i d, ← Ffn.qw_at (Ffn.qs h v) i d]
  rfl
end reads

theorem c_two : Ideal.ofBits .f32 0x40000000#32 = ((2 : ℝ) : EReal) := by
  simp [Ideal.ofBits, Ideal.ieee, -EReal.coe_mul]; norm_num
/-! The stages, by entries. -/
section vals
variable {h y : FVec Ideal S4224x1024 .f32} {g gf : FVec Ideal S1024 .f32} {wg wu : FVec Ideal S1024x2816 .f32} {wd : FVec Ideal S2816x1024 .f32} {t : FVec Ideal S2x2048x1024 .f32}
  {a b : FVec Ideal S4224x2816 .f32}
  {H Y V : Fin 4224 → Fin 1024 → EReal} {G Gf : Fin 1024 → EReal} {Wg Wu : Fin 1024 → Fin 2816 → EReal} {Wd : Fin 2816 → Fin 1024 → EReal} {T : Fin 2 → Fin 2048 → Fin 1024 → EReal} {A B : Fin 4224 → Fin 2816 → EReal}

/-- The row is a frame of its sequence; the target's row, where it is. -/
abbrev fo (i : Fin 4224) : Prop := 64 ≤ i.val % 2112
def tp (T : Fin 2 → Fin 2048 → Fin 1024 → EReal) (i : Fin 4224) (d : Fin 1024) : EReal :=
  if h : fo i then T ⟨i.val / 2112, by omega⟩ ⟨i.val % 2112 - 64, by omega⟩ d else 0
theorem fo_pl (n : Fin 2) (q : Fin 2112) : fo (pl n q) ↔ 64 ≤ q.val := by
  unfold fo pl
  constructor <;> intro e <;> simp only at * <;> omega
theorem fo_fr (n : Fin 2) (p : Fin 2048) : fo (fr n p) := (fo_pl n _).mpr (Nat.le_add_right _ _)
theorem tp_fr (n : Fin 2) (p : Fin 2048) (d : Fin 1024) : tp T (fr n p) d = T n p d := by
  unfold tp
  rw [dif_pos (fo_fr n p)]
  exact congrArg₂ (fun n p => T n p d) (Fin.ext (by unfold fr pl; simp only; omega)) (Fin.ext (by unfold fr pl; simp only; omega))
/-- Every row is a sequence's place. -/
theorem pl_of (i : Fin 4224) : ∃ n q, i = pl n q :=
  ⟨⟨i.val / 2112, by omega⟩, ⟨i.val % 2112, by omega⟩, Fin.ext (by unfold pl; simp only; omega)⟩
/-- A place is a frame or one of the first 64. -/
theorem fr_of (n : Fin 2) (q : Fin 2112) (e : 64 ≤ q.val) : ∃ p, pl n q = fr n p :=
  ⟨⟨q.val - 64, by omega⟩, Fin.ext (by unfold fr pl; simp only; omega)⟩
/-- A sum over the rows that vanishes off the frames is one over the frames. -/
theorem sum_fr (f : Fin 4224 → EReal) (hf : ∀ i, ¬fo i → f i = 0) : ∑ n, ∑ p, f (fr n p) = ∑ i, f i := by
  refine Eq.trans ?_ (Fin.sum_mul_add_fin 2 2112 f rfl)
  refine Finset.sum_congr rfl fun n _ => ?_
  refine Eq.trans ?_ (Fin.sum_univ_add (fun q : Fin (64 + 2048) => f (pl n q))).symm
  rw [Finset.sum_eq_zero fun q _ => hf _ fun e => absurd ((fo_pl n _).mp e) (by have := q.isLt; simp), zero_add]
  rfl

theorem un_is (eh : ∀ i e, h (ix2 i e) = H i e) (eg : ∀ e, g (ix1 e) = G e) (i : Fin 4224) (d : Fin 1024) : Ffn.un h g (ix2 i d) = FfnLossRow.un (H i) G d := by
  rw [Ffn.un_at, Ffn.rr_at, Ffn.ms_at, FfnUp.div_1024]
  simp only [eh, eg]
  rfl
theorem up_is {u : FVec Ideal S4224x1024 .f32} {w : FVec Ideal S1024x2816 .f32} {U : Fin 4224 → Fin 1024 → EReal} {W : Fin 1024 → Fin 2816 → EReal}
    (eu : ∀ i e, u (ix2 i e) = U i e) (ew : ∀ e j, w (ix2 e j) = W e j) (i : Fin 4224) (j : Fin 2816) : Ffn.up u w (ix2 i j) = FfnLossRow.up (U i) W j := by
  rw [Ffn.up_at]
  simp only [eu, ew]
  rfl
theorem yo_is (eh : ∀ i e, h (ix2 i e) = H i e) (ea : ∀ i j, a (ix2 i j) = A i j) (eb : ∀ i j, b (ix2 i j) = B i j)
    (ew : ∀ j e, wd (ix2 j e) = Wd j e) (i : Fin 4224) (d : Fin 1024) : yo h wd a b (ix2 i d) = FfnLossRow.yo (H i) (A i) (B i) Wd d := by
  rw [yo_at, eh]
  simp only [Ffn.sg_at, FfnUp.sg_form, ea, eb, ew]
  rfl
theorem c_dz (x : EReal) : Ideal.ofBits .f32 0x3F000000#32 * Ideal.ofBits .f32 0x3F800000#32 * Ideal.ofBits .f32 0x3A800000#32 * (Ideal.ofBits .f32 0x40000000#32 * x) = x * FfnLossRow.inv := by
  rw [FfnLossRow.inv, FfnReal.c_inv, FfnReal.c_half, FfnReal.c_one, c_two, ← EReal.coe_one, ← mul_assoc, mul_comm x]
  simp only [← EReal.coe_mul]
  norm_num
variable (ey : ∀ i e, y (ix2 i e) = Y i e)
include ey
theorem dg_is {v : FVec Ideal S4224x1024 .f32} (ev : ∀ i e, v (ix2 i e) = V i e) (d : Fin 1024) : Ffn.dg y v (ix2 0 d) = ∑ i, FfnLossRow.dg (Y i) (V i) d := by
  rw [Ffn.dg_at]
  refine Finset.sum_congr rfl fun i _ => ?_
  rw [Ffn.xh_at, Ffn.rr_at, Ffn.ms_at, FfnUp.div_1024, mul_comm]
  simp only [ey, ev]
  rfl
variable (eg : ∀ e, gf (ix1 e) = Gf e) (et : ∀ n p e, t (ix3 n p e) = T n p e)
include eg et
theorem dd_is (n : Fin 2) (p : Fin 2048) (d : Fin 1024) : dd t (Ffn.un y gf) (ix3 n p d)
    = FfnLossRow.df (fo (fr n p)) (Y (fr n p)) Gf (tp T (fr n p)) d := by
  rw [dd_at, un_is ey eg, et]
  unfold FfnLossRow.df
  rw [if_pos (fo_fr n p), tp_fr]
theorem ls_is (l : Fin 128) : ls (dd t (Ffn.un y gf)) (ix2 0 l) = FfnLossRow.half * ∑ i, FfnLossRow.sq (fo i) (Y i) Gf (tp T i) := by
  rw [ls_at, ← sum_fr]
  · simp only [dd_is ey eg et, FfnUp.div_1024]
    rfl
  · intro i hi
    unfold FfnLossRow.sq FfnLossRow.df
    simp [hi]
theorem pd_is (i : Fin 4224) (d : Fin 1024) : pd (dz (dd t (Ffn.un y gf))) (ix2 i d) = FfnLossRow.dv (fo i) (Y i) Gf (tp T i) d := by
  obtain ⟨n, q, rfl⟩ := pl_of i
  by_cases e : 64 ≤ q.val
  · obtain ⟨p, e⟩ := fr_of n q e
    rw [e, pd_at, dz_at, dd_is ey eg et, FfnUp.div_1024, c_dz]
    rfl
  · rw [pd_out _ d n q (by omega)]
    unfold FfnLossRow.dv FfnLossRow.df
    rw [if_neg fun k => e ((fo_pl n q).mp k), zero_mul]
theorem dn_is (i : Fin 4224) (d : Fin 1024) : dn y (mulf (pd (dz (dd t (Ffn.un y gf)))) (Ffn.tallH gf)) (ix2 i d)
    = FfnLossRow.dh (Y i) Gf (FfnLossRow.dv (fo i) (Y i) Gf (tp T i)) d := by
  have ev : ∀ d, mulf (pd (dz (dd t (Ffn.un y gf)))) (Ffn.tallH gf) (ix2 i d) = FfnLossRow.dv (fo i) (Y i) Gf (tp T i) d * Gf d := fun d => by
    rw [← pd_is ey eg et, ← eg, ← Ffn.tallH_at gf i d]
    rfl
  refine Eq.trans ?_ (FfnLossRow.dh_form (Y i) (fun d => FfnLossRow.dv (fo i) (Y i) Gf (tp T i) d * Gf d) d)
  rw [dn_at, Ffn.qs_at, Ffn.rr_at, Ffn.ms_at, FfnUp.div_1024 (∑ e, y (ix2 i e) * y (ix2 i e))]
  simp only [ev, ey]
  rfl
end vals

end Cert.Proof.FfnLossRef
end
-- ==== Proof.FfnLossOut.lean ====
/-
  The second half block's forward call with the loss: its six arrays are the reference's.
-/
module

public import proofs.«01_k».proof.Defs
public import proofs.«01_k».proof.Proof.FfnLossBlk
public import proofs.«01_k».proof.Proof.FfnLossHost
public import proofs.«01_k».proof.Proof.FfnUpOut
public import proofs.«01_k».proof.Proof.Gen.Reference3Ideal.Run
public import Idealize.ShloMosaic.Lib.StableHlo.RunRead

@[expose] public section

set_option maxRecDepth 16384

noncomputable section

namespace Cert.Proof.FfnLoss

open Cert.Kernel3Ideal Cert.Kernel3Ideal.Gen
open Idealize.ShloMosaic Idealize.ShloMosaic.TcCoe
open Idealize.SL.Sem
open Idealize.ShloMosaic.Pipeline (Dat Cfg Window)
open Cert.Proof.FfnLossRef (pl fr fo tp)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev gf : FVec F S1024 .f32 := m ((c : Thread nD τ).loc main_arg5)
abbrev tg : FVec F S2x2048x1024 .f32 := m ((c : Thread nD τ).loc main_arg6)

/-- The target under 64 rows of zeros, by sequence, and row by row. -/
def tc (t : FVec F S2x2048x1024 .f32) : FVec F S2x2112x1024 .f32 :=
  concatenate S2x2112x1024 1 [⟨S2x64x1024, broadcastInDim S2x64x1024 ![] bcast_S_S2x64x1024 (constant S_ .f32 0x00000000#32)⟩, ⟨S2x2048x1024, t⟩] concatenates_S2x64x1024_S2x2048x1024_S2x2112x1024_d1
def tf (t : FVec F S2x2048x1024 .f32) : FVec F S4224x1024 .f32 := shapeCast S4224x1024 (tc t) shapeCasts_S2x2112x1024_S4224x1024

theorem V_v2 : V m c main_v2 = tf (tg m c) := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v3 : V m c main_v3 = shapeCast S1x1024 (g0 m c) shapeCasts_S1024_S1x1024 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v5 : V m c main_v5 = truncf .bf16 (transpose S2816x1024 [1, 0] (wg m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v7 : V m c main_v7 = truncf .bf16 (transpose S2816x1024 [1, 0] (wu m c) transposes_S1024x2816_S2816x1024_1_0) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v8 : V m c main_v8 = truncf .bf16 (wd m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v9 : V m c main_v9 = shapeCast S1x1024 (gf m c) shapeCasts_S1024_S1x1024 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
end host

section target
variable (t : FVec Ideal S2x2048x1024 .f32) {T : Fin 2 → Fin 2048 → Fin 1024 → EReal}
theorem tc_at (n : Fin 2) (q : Fin 2112) (d : Fin 1024) : tc t (ix3 n q d) = if e : 64 ≤ q.val then t (ix3 n ⟨q.val - 64, by omega⟩ d) else 0 := by
  unfold tc
  pointwise
  by_cases e : 64 ≤ q.val
  · rw [dif_pos e, dif_neg (by omega)]
  · rw [dif_neg e, dif_pos (by omega)]
theorem tf_is (et : ∀ n p d, t (ix3 n p d) = T n p d) (i : Fin 4224) (d : Fin 1024) : tf t (ix2 i d) = (tp T i d : EReal) := by
  obtain ⟨n, q, rfl⟩ := FfnLossRef.pl_of i
  refine (FfnLossRef.flat_at (tc t) d n q).trans ?_
  rw [tc_at]
  by_cases e : 64 ≤ q.val
  · obtain ⟨p, hp⟩ := FfnLossRef.fr_of n q e
    have hq : q.val = 64 + p.val := by have := congrArg Fin.val hp; unfold fr pl at this; simp only at this; omega
    rw [dif_pos e, hp, FfnLossRef.tp_fr, et]
    exact congrArg (fun p => T n p d) (Fin.ext (by simp only; omega))
  · rw [dif_neg e]
    unfold tp
    rw [dif_neg fun k => e ((FfnLossRef.fo_pl n q).mp k)]
end target

/-! The reference's arrays, of the arguments. -/
section ref
variable {F : FTy → Type} [FloatOps F]
variable (h : FVec F S4224x1024 .f32) (g : FVec F S1024 .f32) (wg wu : FVec F S1024x2816 .f32) (wd : FVec F S2816x1024 .f32) (gf : FVec F S1024 .f32) (t : FVec F S2x2048x1024 .f32)
abbrev rD : FVec F S2x2048x1024 .f32 := FfnLossRef.dd t (Ffn.un (FfnLossRef.rY h g wg wu wd) gf)
def rDh : FVec F S4224x1024 .f32 := FfnLossRef.dn (FfnLossRef.rY h g wg wu wd) (mulf (FfnLossRef.pd (FfnLossRef.dz (rD h g wg wu wd gf t))) (Ffn.tallH gf))
def rL : FVec F S1x128 .f32 := FfnLossRef.ls (rD h g wg wu wd gf t)
def rDg : FVec F S1x1024 .f32 := Ffn.dg (FfnLossRef.rY h g wg wu wd) (FfnLossRef.pd (FfnLossRef.dz (rD h g wg wu wd gf t)))
end ref

section blocks
variable (m : (ℓ : Loc nD τ sig) → Buf (Elt Ideal) ℓ) (c : Dev nD) (t : Fin cfg0.N)

/-- A block's row in the array. -/
theorem row_lt (i : Fin 528) : 528 * t.val + i.val < 4224 := by have : t.val < 8 := t.isLt; omega
def ro (i : Fin 528) : Fin 4224 := ⟨528 * t.val + i.val, row_lt t i⟩
theorem idx0 : win0_0.index t = ![t.val, 0] := (by decide +kernel : ∀ t : Fin grid0.N, win0_0.index t = ![t.val, 0]) t
theorem idx1 : win0_1.index t = ![0, 0] := (by decide +kernel : ∀ t : Fin grid0.N, win0_1.index t = ![0, 0]) t
theorem idx2 : win0_2.index t = ![0, 0] := (by decide +kernel : ∀ t : Fin grid0.N, win0_2.index t = ![0, 0]) t
theorem idx3 : win0_3.index t = ![0, 0] := (by decide +kernel : ∀ t : Fin grid0.N, win0_3.index t = ![0, 0]) t
theorem idx4 : win0_4.index t = ![0, 0] := (by decide +kernel : ∀ t : Fin grid0.N, win0_4.index t = ![0, 0]) t
theorem idx5 : win0_5.index t = ![0, 0] := (by decide +kernel : ∀ t : Fin grid0.N, win0_5.index t = ![0, 0]) t
theorem idx6 : win0_6.index t = ![t.val, 0] := (by decide +kernel : ∀ t : Fin grid0.N, win0_6.index t = ![t.val, 0]) t
theorem idx7 : win0_7.index t = ![t.val, 0] := (by decide +kernel : ∀ t : Fin grid0.N, win0_7.index t = ![t.val, 0]) t
theorem idx8 : win0_8.index t = ![t.val, 0] := (by decide +kernel : ∀ t : Fin grid0.N, win0_8.index t = ![t.val, 0]) t
theorem idx9 : win0_9.index t = ![t.val, 0] := (by decide +kernel : ∀ t : Fin grid0.N, win0_9.index t = ![t.val, 0]) t
theorem idx10 : win0_10.index t = ![t.val, 0] := (by decide +kernel : ∀ t : Fin grid0.N, win0_10.index t = ![t.val, 0]) t
theorem read0 (i : Fin 528) (d : Fin 1024) : iblk m c 0 t (ix2 i d) = h0 m c (ix2 (ro t i) d) := by
  rw [h0, ← V_main_arg0 m c]
  unfold iblk ro
  generalize V m c (Pipeline.arrRef spec0 0) = A
  blk_ext [idx0 t]
theorem read1 (d : Fin 1024) : iblk m c 1 t (ix2 0 d) = V m c main_v3 (ix2 0 d) := by
  unfold iblk
  generalize V m c (Pipeline.arrRef spec0 1) = A
  blk_ext [idx1 t]
theorem read2 (j : Fin 2816) (d : Fin 1024) : iblk m c 2 t (ix2 j d) = V m c main_v5 (ix2 j d) := by
  unfold iblk
  generalize V m c (Pipeline.arrRef spec0 2) = A
  blk_ext [idx2 t]
theorem read3 (j : Fin 2816) (d : Fin 1024) : iblk m c 3 t (ix2 j d) = V m c main_v7 (ix2 j d) := by
  unfold iblk
  generalize V m c (Pipeline.arrRef spec0 3) = A
  blk_ext [idx3 t]
theorem read4 (j : Fin 2816) (d : Fin 1024) : iblk m c 4 t (ix2 j d) = V m c main_v8 (ix2 j d) := by
  unfold iblk
  generalize V m c (Pipeline.arrRef spec0 4) = A
  blk_ext [idx4 t]
theorem read5 (d : Fin 1024) : iblk m c 5 t (ix2 0 d) = V m c main_v9 (ix2 0 d) := by
  unfold iblk
  generalize V m c (Pipeline.arrRef spec0 5) = A
  blk_ext [idx5 t]
theorem read6 (i : Fin 528) (d : Fin 1024) : iblk m c 6 t (ix2 i d) = V m c main_v2 (ix2 (ro t i) d) := by
  unfold iblk ro
  generalize V m c (Pipeline.arrRef spec0 6) = A
  blk_ext [idx6 t]
theorem place7 (A : FVec Ideal S4224x1024 .f32) (i : Fin 528) (d : Fin 1024) : A ((win0_7.blk t).view.emb (ix2 i d)) = A (ix2 (ro t i) d) := by
  unfold ro
  blk_ext [idx7 t]
theorem place8 (A : FVec Ideal S4224x1024 .bf16) (i : Fin 528) (d : Fin 1024) : A ((win0_8.blk t).view.emb (ix2 i d)) = A (ix2 (ro t i) d) := by
  unfold ro
  blk_ext [idx8 t]
theorem place9 (A : FVec Ideal S4224x2816 .bf16) (i : Fin 528) (j : Fin 2816) : A ((win0_9.blk t).view.emb (ix2 i j)) = A (ix2 (ro t i) j) := by
  unfold ro
  blk_ext [idx9 t]
theorem place10 (A : FVec Ideal S4224x2816 .bf16) (i : Fin 528) (j : Fin 2816) : A ((win0_10.blk t).view.emb (ix2 i j)) = A (ix2 (ro t i) j) := by
  unfold ro
  blk_ext [idx10 t]

/-- The arguments, by their entries. -/
structure Args (H : Fin 4224 → Fin 1024 → EReal) (G : Fin 1024 → EReal) (Wg Wu : Fin 1024 → Fin 2816 → EReal) (Wd : Fin 2816 → Fin 1024 → EReal) (Gf : Fin 1024 → EReal) (T : Fin 2 → Fin 2048 → Fin 1024 → EReal) : Prop where
  h : ∀ i d, h0 m c (ix2 i d) = H i d
  g : ∀ d, g0 m c (ix1 d) = G d
  wg : ∀ d j, wg m c (ix2 d j) = Wg d j
  wu : ∀ d j, wu m c (ix2 d j) = Wu d j
  wd : ∀ j d, wd m c (ix2 j d) = Wd j d
  gf : ∀ d, gf m c (ix1 d) = Gf d
  t : ∀ n p d, tg m c (ix3 n p d) = T n p d

variable {m c} {H : Fin 4224 → Fin 1024 → EReal} {G : Fin 1024 → EReal} {Wg Wu : Fin 1024 → Fin 2816 → EReal} {Wd : Fin 2816 → Fin 1024 → EReal} {Gf : Fin 1024 → EReal} {T : Fin 2 → Fin 2048 → Fin 1024 → EReal}
  (P : Args m c H G Wg Wu Wd Gf T)

/-- The half block's output row. -/
abbrev yA (H : Fin 4224 → Fin 1024 → EReal) (G : Fin 1024 → EReal) (Wg Wu : Fin 1024 → Fin 2816 → EReal) (Wd : Fin 2816 → Fin 1024 → EReal) (i : Fin 4224) : Fin 1024 → EReal :=
  FfnLossRow.yo (H i) (FfnLossRow.up (FfnLossRow.un (H i) G) Wg) (FfnLossRow.up (FfnLossRow.un (H i) G) Wu) Wd

include P
theorem blocks : Vals (iblk m c 0 t) (iblk m c 1 t) (iblk m c 2 t) (iblk m c 3 t) (iblk m c 4 t) (iblk m c 5 t) (iblk m c 6 t)
    (fun i => H (ro t i)) G Wg Wu Wd Gf (fun i => tp T (ro t i)) where
  h i d := (read0 m c t i d).trans (P.h _ _)
  g d := (read1 m c t d).trans ((congrFun (V_v3 m c) _).trans ((FfnUp.row_at _ d).trans (P.g d)))
  wg j d := (read2 m c t j d).trans ((congrFun (V_v5 m c) _).trans ((FfnUp.turn_at _ j d).trans (P.wg d j)))
  wu j d := (read3 m c t j d).trans ((congrFun (V_v7 m c) _).trans ((FfnUp.turn_at _ j d).trans (P.wu d j)))
  wd j d := (read4 m c t j d).trans ((congrFun (V_v8 m c) _).trans (P.wd j d))
  gf d := (read5 m c t d).trans ((congrFun (V_v9 m c) _).trans ((FfnUp.row_at _ d).trans (P.gf d)))
  t i d := (read6 m c t i d).trans ((congrFun (V_v2 m c) _).trans (tf_is _ P.t _ d))

theorem rY_is (i : Fin 4224) (d : Fin 1024) : FfnLossRef.rY (h0 m c) (g0 m c) (wg m c) (wu m c) (wd m c) (ix2 i d) = (yA H G Wg Wu Wd i d : EReal) :=
  FfnLossRef.yo_is P.h (FfnLossRef.up_is (FfnLossRef.un_is P.h P.g) P.wg) (FfnLossRef.up_is (FfnLossRef.un_is P.h P.g) P.wu) P.wd i d

theorem arr7 : (dats m 0 c).arrAt 7 cfg0.N = rDh (h0 m c) (g0 m c) (wg m c) (wu m c) (wd m c) (gf m c) (tg m c) := by
  refine (dats m 0 c).arrAt_eq_of_covers 7 _ (by decide +kernel) fun t hf y => ?_
  blk_simp
  rw [after0_7, after7]
  have hy : (y : S528x1024.Idx) = ix2 (y 0) (y 1) := by funext a; fin_cases a <;> rfl
  exact (congrArg (DX _ _ _ _ _ _ _ _) hy).trans ((dx_is (blocks t P) (y 0) (y 1) _).trans ((FfnLossRef.dn_is (rY_is P) P.gf P.t (ro t (y 0)) (y 1)).symm.trans
    ((place7 t _ (y 0) (y 1)).symm.trans (congrArg (fun z => rDh (h0 m c) (g0 m c) (wg m c) (wu m c) (wd m c) (gf m c) (tg m c) ((win0_7.blk t).view.emb z)) hy.symm))))
theorem uu_eq (i : Fin 528) (d : Fin 1024) : k0_pay3 (iblk m c 0 t) (iblk m c 1 t) (ix2 i d) = FfnUp.rU (h0 m c) (g0 m c) (ix2 (ro t i) d) :=
  (u_is (blocks t P) i d).trans (FfnLossRef.un_is P.h P.g (ro t i) d).symm
theorem arr8 : (dats m 0 c).arrAt 8 cfg0.N = FfnUp.rU (h0 m c) (g0 m c) := by
  refine (dats m 0 c).arrAt_eq_of_covers 8 _ (by decide +kernel) fun t hf y => ?_
  blk_simp
  rw [after0_8, after8]
  have hy : (y : S528x1024.Idx) = ix2 (y 0) (y 1) := by funext a; fin_cases a <;> rfl
  exact (congrArg (k0_pay3 _ _) hy).trans ((uu_eq t P (y 0) (y 1)).trans
    ((place8 t _ (y 0) (y 1)).symm.trans (congrArg (fun z => FfnUp.rU (h0 m c) (g0 m c) ((win0_8.blk t).view.emb z)) hy.symm)))
theorem arr9 : (dats m 0 c).arrAt 9 cfg0.N = FfnUp.rA (h0 m c) (g0 m c) (wg m c) := by
  refine (dats m 0 c).arrAt_eq_of_covers 9 _ (by decide +kernel) fun t hf y => ?_
  blk_simp
  rw [after0_9]
  have hy : (y : S528x2816.Idx) = ix2 (y 0) (y 1) := by funext a; fin_cases a <;> rfl
  exact (congrArg (outsAt0 m c t.val t.isLt).2.2.1 hy).trans ((after9 m c t (y 0) (y 1)).trans ((pr_is (blocks t P) (y 0) (y 1) (blocks t P).wg).trans
    ((FfnLossRef.up_is (FfnLossRef.un_is P.h P.g) P.wg (ro t (y 0)) (y 1)).symm.trans
    ((place9 t (FfnUp.rA (h0 m c) (g0 m c) (wg m c)) (y 0) (y 1)).symm.trans (congrArg (fun z => FfnUp.rA (h0 m c) (g0 m c) (wg m c) ((win0_9.blk t).view.emb z)) hy.symm)))))
theorem arr10 : (dats m 0 c).arrAt 10 cfg0.N = FfnUp.rA (h0 m c) (g0 m c) (wu m c) := by
  refine (dats m 0 c).arrAt_eq_of_covers 10 _ (by decide +kernel) fun t hf y => ?_
  blk_simp
  rw [after0_10]
  have hy : (y : S528x2816.Idx) = ix2 (y 0) (y 1) := by funext a; fin_cases a <;> rfl
  exact (congrArg (outsAt0 m c t.val t.isLt).2.2.2.1 hy).trans ((after10 m c t (y 0) (y 1)).trans ((pr_is (blocks t P) (y 0) (y 1) (blocks t P).wu).trans
    ((FfnLossRef.up_is (FfnLossRef.un_is P.h P.g) P.wu (ro t (y 0)) (y 1)).symm.trans
    ((place10 t (FfnUp.rA (h0 m c) (g0 m c) (wu m c)) (y 0) (y 1)).symm.trans (congrArg (fun z => FfnUp.rA (h0 m c) (g0 m c) (wu m c) ((win0_10.blk t).view.emb z)) hy.symm)))))

omit P in
/-- A sum over the points of a sum over a point's rows is one over all rows. -/
theorem sum_ro (f : Fin 4224 → EReal) : ∑ t : Fin cfg0.N, ∑ i, f (ro t i) = ∑ i, f i := by
  refine Eq.trans ?_ (Fin.sum_mul_add_fin 8 528 f rfl)
  refine Finset.sum_congr rfl fun t _ => Finset.sum_congr rfl fun x _ => congrArg f ?_
  exact Fin.ext (by unfold ro; simp [Nat.mul_comm])
theorem arr11 : (dats m 0 c).arrAt 11 cfg0.N = rL (h0 m c) (g0 m c) (wg m c) (wu m c) (wd m c) (gf m c) (tg m c) := by
  refine (dats m 0 c).arrAt_eq_of_after_last 11 t0_7 (by decide +kernel) _ fun y => ?_
  blk_simp
  have hy : (y : S1x128.Idx) = ix2 0 (y 1) := by funext a; fin_cases a; exact Fin.ext (by have := (y 0).isLt; change (y 0).val = 0; change (y 0).val < 1 at this; omega); rfl
  have e : ∀ d : Fin 128, (outsAt0 m c t0_7.val t0_7.isLt).2.2.2.2.1 (ix2 0 d)
      = ∑ t : Fin cfg0.N, LS ⟨t.val, t.isLt⟩ (iblk m c 0 t) (iblk m c 1 t) (iblk m c 2 t) (iblk m c 3 t) (iblk m c 4 t) (iblk m c 5 t) (iblk m c 6 t) (ix2 0 d) := fun d => by
    rw [Pipeline.eq_sum_fin_of_reset_step_apply_last (fun n h (d : Fin 128) => (outsAt0 m c n h).2.2.2.2.1 (ix2 0 d)) 8 (fun _ => 0)
      (fun t d => LS ⟨t.val, t.isLt⟩ (iblk m c 0 t) (iblk m c 1 t) (iblk m c 2 t) (iblk m c 3 t) (iblk m c 4 t) (iblk m c 5 t) (iblk m c 6 t) (ix2 0 d))
      (fun t h d => by rw [after11A m c t h, zero_add]) (fun t h d => by rw [after11B m c t h]; exact pay1_at _ d _) (le_of_eq N_0) t0_7 rfl d, zero_add]
  rw [after0_11]
  refine (congrArg (outsAt0 m c t0_7.val t0_7.isLt).2.2.2.2.1 hy).trans ((e (y 1)).trans (Eq.trans ?_ (congrArg (rL (h0 m c) (g0 m c) (wg m c) (wu m c) (wd m c) (gf m c) (tg m c)) hy.symm)))
  generalize y 1 = d
  refine Eq.trans ?_ (FfnLossRef.ls_is (rY_is P) P.gf P.t d).symm
  simp only [fun t => ls_is (blocks t P) ⟨t.val, t.isLt⟩ d, ← FfnLossRow.half_sum]
  exact congrArg (FfnLossRow.half * ·) (sum_ro fun i => FfnLossRow.sq (fo i) (yA H G Wg Wu Wd i) Gf (tp T i))
theorem arr12 : (dats m 0 c).arrAt 12 cfg0.N = rDg (h0 m c) (g0 m c) (wg m c) (wu m c) (wd m c) (gf m c) (tg m c) := by
  refine (dats m 0 c).arrAt_eq_of_after_last 12 t0_7 (by decide +kernel) _ fun y => ?_
  blk_simp
  have hy : (y : S1x1024.Idx) = ix2 0 (y 1) := by funext a; fin_cases a; exact Fin.ext (by have := (y 0).isLt; change (y 0).val = 0; change (y 0).val < 1 at this; omega); rfl
  have e : ∀ d : Fin 1024, (outsAt0 m c t0_7.val t0_7.isLt).2.2.2.2.2 (ix2 0 d)
      = ∑ t : Fin cfg0.N, DG ⟨t.val, t.isLt⟩ (iblk m c 0 t) (iblk m c 1 t) (iblk m c 2 t) (iblk m c 3 t) (iblk m c 4 t) (iblk m c 5 t) (iblk m c 6 t) (ix2 0 d) := fun d => by
    rw [Pipeline.eq_sum_fin_of_reset_step_apply_last (fun n h (d : Fin 1024) => (outsAt0 m c n h).2.2.2.2.2 (ix2 0 d)) 8 (fun _ => 0)
      (fun t d => DG ⟨t.val, t.isLt⟩ (iblk m c 0 t) (iblk m c 1 t) (iblk m c 2 t) (iblk m c 3 t) (iblk m c 4 t) (iblk m c 5 t) (iblk m c 6 t) (ix2 0 d))
      (fun t h d => by rw [after12A m c t h, zero_add]) (fun t h d => by rw [after12B m c t h]; exact pay2_at _ d _) (le_of_eq N_0) t0_7 rfl d, zero_add]
  rw [after0_12]
  refine (congrArg (outsAt0 m c t0_7.val t0_7.isLt).2.2.2.2.2 hy).trans ((e (y 1)).trans (Eq.trans ?_ (congrArg (rDg (h0 m c) (g0 m c) (wg m c) (wu m c) (wd m c) (gf m c) (tg m c)) hy.symm)))
  generalize y 1 = d
  refine Eq.trans ?_ (FfnLossRef.dg_is (rY_is P) (FfnLossRef.pd_is (rY_is P) P.gf P.t) d).symm
  simp only [fun t => dg_is (blocks t P) d ⟨t.val, t.isLt⟩]
  exact sum_ro fun i => FfnLossRow.dg (yA H G Wg Wu Wd i) (FfnLossRow.dv (fo i) (yA H G Wg Wu Wd i) Gf (tp T i)) d
end blocks

/-! The reference's results, by their stages. -/
section results
variable (m : (ℓ : Loc Cert.Reference3Ideal.nD Cert.Reference3Ideal.τ Cert.Reference3Ideal.sig) → Buf (Elt Ideal) ℓ) (c : Dev nD)
theorem ref0 : Cert.Reference3Ideal.Value.res_main_v75 m c = rDh (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) := rfl
theorem ref4 : Cert.Reference3Ideal.Value.res_main_v79 m c = rL (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) := rfl
theorem ref5 : Cert.Reference3Ideal.Value.res_main_v80 m c = rDg (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) := rfl
end results

theorem algebraic : Cert.algebraic_Kernel3Ideal_Reference3Ideal := by
  intro m g m' g' _ hagree
  refine ⟨fun c => rDh (h0 m c) (g0 m c) (wg m c) (wu m c) (wd m c) (gf m c) (tg m c), fun c => FfnUp.rU (h0 m c) (g0 m c), fun c => FfnUp.rA (h0 m c) (g0 m c) (wg m c),
    fun c => FfnUp.rA (h0 m c) (g0 m c) (wu m c), fun c => rL (h0 m c) (g0 m c) (wg m c) (wu m c) (wd m c) (gf m c) (tg m c),
    fun c => rDg (h0 m c) (g0 m c) (wg m c) (wu m c) (wd m c) (gf m c) (tg m c), ?_, ?_⟩
  · refine (θ_run defs _ _).mono (fun r h c => ?_) (Value.run_blocks m g)
    have P : Args m c (fun i d => h0 m c (ix2 i d)) (fun d => g0 m c (ix1 d)) (fun d j => wg m c (ix2 d j)) (fun d j => wu m c (ix2 d j))
        (fun j d => wd m c (ix2 j d)) (fun d => gf m c (ix1 d)) (fun n p d => tg m c (ix3 n p d)) :=
      ⟨fun _ _ => rfl, fun _ => rfl, fun _ _ => rfl, fun _ _ => rfl, fun _ _ => rfl, fun _ => rfl, fun _ _ _ => rfl⟩
    obtain ⟨r7, r8, r9, r10, r11, r12, hargs⟩ := h c
    exact ⟨r7.trans (arr7 P), r8.trans (arr8 P), r9.trans (arr9 P), r10.trans (arr10 P), r11.trans (arr11 P), r12.trans (arr12 P), hargs⟩
  · refine (θ_run Cert.Reference3Ideal.defs _ _).mono (fun r h c => ?_) (Cert.Reference3Ideal.Value.run (F := Ideal) m' g')
    obtain ⟨e0, e1, e2, e3, e4, e5, e6⟩ := hagree c
    obtain ⟨r0, r1, r2, r3, r4, r5, hargs⟩ := h c
    refine ⟨r0.trans ?_, r1.trans ?_, r2.trans ?_, r3.trans ?_, r4.trans ?_, r5.trans ?_, hargs⟩
    · refine (ref0 m' c).trans ?_
      rw [e0, e1, e2, e3, e4, e5, e6]
    · rw [e0, e1]
      rfl
    · rw [e0, e1, e2]
      rfl
    · rw [e0, e1, e3]
      rfl
    · refine (ref4 m' c).trans ?_
      rw [e0, e1, e2, e3, e4, e5, e6]
    · refine (ref5 m' c).trans ?_
      rw [e0, e1, e2, e3, e4, e5, e6]

end Cert.Proof.FfnLoss
end
-- ==== Proof.FfnInOut.lean ====
/-
  The first half block's product with the narrowing weight, the next norm and the input projection: the call's four arrays are the reference's.
-/
module

public import proofs.«01_k».proof.Defs
public import proofs.«01_k».proof.Proof.FfnLossHost
public import proofs.«01_k».proof.Proof.Gen.Kernel9Ideal.Value
public import proofs.«01_k».proof.Proof.Gen.Reference9Ideal.Run
public import Idealize.ShloMosaic.Lib.StableHlo.RunRead

@[expose] public section

set_option maxRecDepth 16384

noncomputable section

namespace Cert.Proof.FfnIn

open Cert.Kernel9Ideal Cert.Kernel9Ideal.Gen
open Idealize.ShloMosaic Idealize.ShloMosaic.TcCoe
open Idealize.SL.Sem
open Idealize.ShloMosaic.Pipeline (Dat Cfg Window)

/-! The payloads at an index, and the body's output blocks. -/
section pays
variable (h x : Vec Ideal S528x1024 .f32) (s : Vec Ideal S528x2816 .bf16) (w : Vec Ideal S2816x1024 .bf16) (g : Vec Ideal S1x1024 .f32)
  (wm : Vec Ideal S768x1024 .bf16) (wl : Vec Ideal S1024x1024 .bf16) (i : Fin 528) (d e : Fin 1024) (j : Fin 768)

theorem pay1_at : k0_pay1 h s w (ix2 i d) = h (ix2 i d) + ∑ j, s (ix2 i j) * w (ix2 j d) := by
  unfold k0_pay1
  pointwise
theorem pay2_at : k0_pay2 h s w g (ix2 i d) = k0_pay1 h s w (ix2 i d)
    * Ideal.rsqrt ((∑ x, k0_pay1 h s w (ix2 i x) * k0_pay1 h s w (ix2 i x)) * Ideal.ofBits .f32 0x3A800000#32 + Ideal.ofBits .f32 0x358637BD#32) * g (ix2 0 d) := by
  unfold k0_pay2
  generalize k0_pay1 h s w = y
  pointwise
theorem pay3_at : k0_pay3 h s w g wm (ix2 i j) = ∑ x, k0_pay2 h s w g (ix2 i x) * wm (ix2 j x) := by
  unfold k0_pay3
  generalize k0_pay2 h s w g = u
  pointwise
theorem pay4_at : k0_pay4 h s w g wl (ix2 i e) = ∑ x, k0_pay2 h s w g (ix2 i x) * wl (ix2 e x) := by
  unfold k0_pay4
  generalize k0_pay2 h s w g = u
  pointwise

theorem ld0 : View.ld h r0_0 = h := View.ld_unit_lit _ _ (by decide)
theorem ld1 : View.ld s r0_1 = s := View.ld_unit_lit _ _ (by decide)
theorem ld2 : View.ld w r0_2 = w := View.ld_unit_lit _ _ (by decide)
theorem ld3 : View.ld g r0_3 = g := View.ld_unit_lit _ _ (by decide)
theorem ld4 : View.ld wm r0_4 = wm := View.ld_unit_lit _ _ (by decide)
theorem ld6 : View.ld wl r0_6 = wl := View.ld_unit_lit _ _ (by decide)
theorem out6 : out0_6 h s w g wm wl = k0_pay1 h s w := by
  unfold out0_6
  rw [ld0, ld1, ld2]
  generalize k0_pay1 h s w = u
  frame_out
theorem out7 : out0_7 h s w g wm wl = k0_pay2 h s w g := by
  unfold out0_7
  rw [ld0, ld1, ld2, ld3]
  generalize k0_pay2 h s w g = u
  frame_out
theorem out8 : out0_8 h s w g wm wl = k0_pay3 h s w g wm := by
  unfold out0_8
  rw [ld0, ld1, ld2, ld3, ld4]
  generalize k0_pay3 h s w g wm = u
  frame_out
theorem out9 : out0_9 h s w g wm wl = k0_pay4 h s w g wl := by
  unfold out0_9
  rw [ld0, ld1, ld2, ld3, ld6]
  generalize k0_pay4 h s w g wl = u
  frame_out
end pays

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev wg : FVec F S1024x2816 .f32 := m ((c : Thread nD τ).loc main_arg2)
abbrev wu : FVec F S1024x2816 .f32 := m ((c : Thread nD τ).loc main_arg3)
abbrev wd : FVec F S2816x1024 .f32 := m ((c : Thread nD τ).loc main_arg4)
abbrev gm : FVec F S1024 .f32 := m ((c : Thread nD τ).loc main_arg5)
abbrev wi : FVec F S1024x1728 .f32 := m ((c : Thread nD τ).loc main_arg6)

/-- The input weight turned; its first rows above 64 rows of zeros; its others. -/
def wt (w : FVec F S1024x1728 .f32) : FVec F S1728x1024 .bf16 := truncf .bf16 (transpose S1728x1024 [1, 0] w transposes_S1024x1728_S1728x1024_1_0) bitsLt_bf16_f32
def wm (w : FVec F S1024x1728 .f32) : FVec F S768x1024 .bf16 :=
  concatenate S768x1024 0 [⟨S704x1024, extractStridedSlice S704x1024 ![0, 0] (wt w) slices_S1728x1024_S704x1024_0_0⟩, ⟨S64x1024, broadcastInDim S64x1024 ![] bcast_S_S64x1024 (constant S_ .bf16 0x0000#16)⟩] concatenates_S704x1024_S64x1024_S768x1024_d0
def wl (w : FVec F S1024x1728 .f32) : FVec F S1024x1024 .bf16 := extractStridedSlice S1024x1024 ![704, 0] (wt w) slices_S1728x1024_S1024x1024_704_0
abbrev ss : FVec F S4224x2816 .f32 := Ffn.sx (Ffn.up (Ffn.un (h0 m c) (g0 m c)) (wg m c)) (Ffn.up (Ffn.un (h0 m c) (g0 m c)) (wu m c))

theorem V_v24 : V m c main_v24 = truncf .bf16 (ss m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v25 : V m c main_v25 = truncf .bf16 (wd m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_v26 : V m c main_v26 = shapeCast S1x1024 (gm m c) shapeCasts_S1024_S1x1024 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v23 : V m c main_v23 = wm (wi m c) := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_v27 : V m c main_v27 = wl (wi m c) := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
end host

/-! The reference's arrays, of the arguments. -/
section ref
variable {F : FTy → Type} [FloatOps F]
variable (h : FVec F S4224x1024 .f32) (g : FVec F S1024 .f32) (wg wu : FVec F S1024x2816 .f32) (wd : FVec F S2816x1024 .f32) (gm : FVec F S1024 .f32) (w : FVec F S1024x1728 .f32)
  (y : FVec F S4224x1024 .f32)
/-- The projection, of the half block's output; the attention's columns beside 64 of zeros; the recurrence's. -/
def rZ : FVec F Cert.Reference9Ideal.S4224x1728 .f32 := Host.dotGeneral Cert.Reference9Ideal.dot_S4224x1024_S1024x1728_S4224x1728_1_0_0_1_n_n none (Ffn.un y gm) w
def rM : FVec F S4224x768 .f32 := concatenate S4224x768 1 [⟨Cert.Reference9Ideal.S4224x704, extractStridedSlice Cert.Reference9Ideal.S4224x704 ![0, 0] (rZ gm w y) Cert.Reference9Ideal.Gen.slices_S4224x1728_S4224x704_0_0⟩,
  ⟨Cert.Reference9Ideal.S4224x64, broadcastInDim Cert.Reference9Ideal.S4224x64 ![] Cert.Reference9Ideal.Gen.bcast_S_S4224x64 (constant S_ .f32 0x00000000#32)⟩] Cert.Reference9Ideal.Gen.concatenates_S4224x704_S4224x64_S4224x768_d1
def rR : FVec F S4224x1024 .f32 := extractStridedSlice S4224x1024 ![0, 704] (rZ gm w y) Cert.Reference9Ideal.Gen.slices_S4224x1728_S4224x1024_0_704
def rN : FVec F S4224x1024 .bf16 := truncf .bf16 (Ffn.un y gm) bitsLt_bf16_f32
end ref

section reads
variable (g : FVec Ideal S1024 .f32) (w : FVec Ideal S1024x1728 .f32) (y : FVec Ideal S4224x1024 .f32) (i : Fin 4224) (j : Fin 768) (k : Fin 1728) (d e : Fin 1024)
theorem rZ_at : rZ g w y (ix2 i k) = ∑ d, Ffn.un y g (ix2 i d) * w (ix2 d k) := by
  unfold rZ
  generalize Ffn.un y g = u
  pointwise
theorem rM_at : rM g w y (ix2 i j) = if q : j.val < 704 then rZ g w y (ix2 i ⟨j.val, by omega⟩) else 0 := by
  unfold rM
  generalize rZ g w y = z
  pointwise
theorem rR_at : rR g w y (ix2 i e) = rZ g w y (ix2 i ⟨704 + e.val, by omega⟩) := by
  unfold rR
  generalize rZ g w y = z
  pointwise
theorem wt_at : wt w (ix2 k d) = w (ix2 d k) := by
  unfold wt
  pointwise
theorem wm_at : wm w (ix2 j d) = if q : j.val < 704 then w (ix2 d ⟨j.val, by omega⟩) else 0 := by
  simp only [← wt_at]
  unfold wm
  generalize wt w = z
  pointwise
theorem wl_at : wl w (ix2 e d) = w (ix2 d ⟨704 + e.val, by omega⟩) := by
  rw [← wt_at w]
  unfold wl
  generalize wt w = z
  pointwise
end reads

section blocks
variable (m : (ℓ : Loc nD τ sig) → Buf (Elt Ideal) ℓ) (c : Dev nD) (t : Fin cfg0.N)

/-- A block's row in the array. -/
theorem row_lt (i : Fin 528) : 528 * t.val + i.val < 4224 := by have : t.val < 8 := t.isLt; omega
def ro (i : Fin 528) : Fin 4224 := ⟨528 * t.val + i.val, row_lt t i⟩
theorem idx0 : win0_0.index t = ![t.val, 0] := (by decide +kernel : ∀ t : Fin grid0.N, win0_0.index t = ![t.val, 0]) t
theorem idx1 : win0_1.index t = ![t.val, 0] := (by decide +kernel : ∀ t : Fin grid0.N, win0_1.index t = ![t.val, 0]) t
theorem idx2 : win0_2.index t = ![0, 0] := (by decide +kernel : ∀ t : Fin grid0.N, win0_2.index t = ![0, 0]) t
theorem idx3 : win0_3.index t = ![0, 0] := (by decide +kernel : ∀ t : Fin grid0.N, win0_3.index t = ![0, 0]) t
theorem idx4 : win0_4.index t = ![0, 0] := (by decide +kernel : ∀ t : Fin grid0.N, win0_4.index t = ![0, 0]) t
theorem idx5 : win0_5.index t = ![0, 0] := (by decide +kernel : ∀ t : Fin grid0.N, win0_5.index t = ![0, 0]) t
theorem idx6 : win0_6.index t = ![t.val, 0] := (by decide +kernel : ∀ t : Fin grid0.N, win0_6.index t = ![t.val, 0]) t
theorem idx7 : win0_7.index t = ![t.val, 0] := (by decide +kernel : ∀ t : Fin grid0.N, win0_7.index t = ![t.val, 0]) t
theorem idx8 : win0_8.index t = ![t.val, 0] := (by decide +kernel : ∀ t : Fin grid0.N, win0_8.index t = ![t.val, 0]) t
theorem idx9 : win0_9.index t = ![t.val, 0] := (by decide +kernel : ∀ t : Fin grid0.N, win0_9.index t = ![t.val, 0]) t
theorem read0 (i : Fin 528) (d : Fin 1024) : iblk m c 0 t (ix2 i d) = h0 m c (ix2 (ro t i) d) := by
  rw [h0, ← V_main_arg0 m c]
  unfold iblk ro
  generalize V m c (Pipeline.arrRef spec0 0) = A
  blk_ext [idx0 t]
theorem read1 (i : Fin 528) (j : Fin 2816) : iblk m c 1 t (ix2 i j) = ss m c (ix2 (ro t i) j) := by
  refine Eq.trans ?_ (congrFun (V_v24 m c) (ix2 (ro t i) j))
  unfold iblk ro
  generalize V m c (Pipeline.arrRef spec0 1) = A
  blk_ext [idx1 t]
theorem read2 (j : Fin 2816) (d : Fin 1024) : iblk m c 2 t (ix2 j d) = wd m c (ix2 j d) := by
  refine Eq.trans ?_ (congrFun (V_v25 m c) (ix2 j d))
  unfold iblk
  generalize V m c (Pipeline.arrRef spec0 2) = A
  blk_ext [idx2 t]
theorem read3 (d : Fin 1024) : iblk m c 3 t (ix2 0 d) = gm m c (ix1 d) := by
  refine Eq.trans ?_ ((congrFun (V_v26 m c) (ix2 0 d)).trans (FfnUp.row_at (gm m c) d))
  unfold iblk
  generalize V m c (Pipeline.arrRef spec0 3) = A
  blk_ext [idx3 t]
theorem read4 (j : Fin 768) (d : Fin 1024) : iblk m c 4 t (ix2 j d) = wm (wi m c) (ix2 j d) := by
  refine Eq.trans ?_ (congrFun (V_v23 m c) (ix2 j d))
  unfold iblk
  generalize V m c (Pipeline.arrRef spec0 4) = A
  blk_ext [idx4 t]
theorem read5 (e d : Fin 1024) : iblk m c 5 t (ix2 e d) = wl (wi m c) (ix2 e d) := by
  refine Eq.trans ?_ (congrFun (V_v27 m c) (ix2 e d))
  unfold iblk
  generalize V m c (Pipeline.arrRef spec0 5) = A
  blk_ext [idx5 t]
theorem place6 (A : FVec Ideal S4224x1024 .f32) (i : Fin 528) (j : Fin 1024) : A ((win0_6.blk t).view.emb (ix2 i j)) = A (ix2 (ro t i) j) := by
  unfold ro
  blk_ext [idx6 t]
theorem place7 (A : FVec Ideal S4224x1024 .bf16) (i : Fin 528) (j : Fin 1024) : A ((win0_7.blk t).view.emb (ix2 i j)) = A (ix2 (ro t i) j) := by
  unfold ro
  blk_ext [idx7 t]
theorem place8 (A : FVec Ideal S4224x768 .f32) (i : Fin 528) (j : Fin 768) : A ((win0_8.blk t).view.emb (ix2 i j)) = A (ix2 (ro t i) j) := by
  unfold ro
  blk_ext [idx8 t]
theorem place9 (A : FVec Ideal S4224x1024 .f32) (i : Fin 528) (j : Fin 1024) : A ((win0_9.blk t).view.emb (ix2 i j)) = A (ix2 (ro t i) j) := by
  unfold ro
  blk_ext [idx9 t]

/-- The half block's output. -/
abbrev yA : FVec Ideal S4224x1024 .f32 := FfnLossRef.rY (h0 m c) (g0 m c) (wg m c) (wu m c) (wd m c)
theorem x_eq (i : Fin 528) (d : Fin 1024) : k0_pay1 (iblk m c 0 t) (iblk m c 1 t) (iblk m c 2 t) (ix2 i d) = yA m c (ix2 (ro t i) d) := by
  rw [pay1_at, read0]
  refine Eq.trans ?_ (FfnLossRef.yo_at _ _ _ _ (ro t i) d).symm
  rw [FfnLossRow.half_sum]
  refine congrArg (_ + ·) (Finset.sum_congr rfl fun j _ => ?_)
  rw [read1, read2]
  exact (congrArg (· * wd m c (ix2 j d)) (Ffn.sx_at _ _ (ro t i) j)).trans (mul_assoc _ _ _)
theorem u_eq (i : Fin 528) (d : Fin 1024) : k0_pay2 (iblk m c 0 t) (iblk m c 1 t) (iblk m c 2 t) (iblk m c 3 t) (ix2 i d) = Ffn.un (yA m c) (gm m c) (ix2 (ro t i) d) := by
  refine Eq.trans ?_ (Ffn.un_at (yA m c) (gm m c) (ro t i) d).symm
  rw [pay2_at, Ffn.rr_at, Ffn.ms_at, FfnUp.div_1024, read3]
  simp only [x_eq m c t]
theorem m_eq (i : Fin 528) (j : Fin 768) : k0_pay3 (iblk m c 0 t) (iblk m c 1 t) (iblk m c 2 t) (iblk m c 3 t) (iblk m c 4 t) (ix2 i j) = rM (gm m c) (wi m c) (yA m c) (ix2 (ro t i) j) := by
  rw [pay3_at, rM_at]
  simp only [u_eq m c t, read4 m c t, wm_at]
  by_cases q : j.val < 704
  · rw [dif_pos q, rZ_at]
    exact Finset.sum_congr rfl fun d _ => by rw [dif_pos q]
  · rw [dif_neg q]
    exact Finset.sum_eq_zero fun d _ => by rw [dif_neg q, mul_zero]
theorem r_eq (i : Fin 528) (e : Fin 1024) : k0_pay4 (iblk m c 0 t) (iblk m c 1 t) (iblk m c 2 t) (iblk m c 3 t) (iblk m c 5 t) (ix2 i e) = rR (gm m c) (wi m c) (yA m c) (ix2 (ro t i) e) := by
  rw [pay4_at, rR_at, rZ_at]
  simp only [u_eq m c t, read5 m c t, wl_at]

theorem arr6 : (dats m 0 c).arrAt 6 cfg0.N = yA m c := by
  refine (dats m 0 c).arrAt_eq_of_covers 6 _ (by decide +kernel) fun t hf y => ?_
  blk_simp
  rw [after0_6, out6]
  have hy : (y : S528x1024.Idx) = ix2 (y 0) (y 1) := by funext a; fin_cases a <;> rfl
  exact (congrArg (k0_pay1 _ _ _) hy).trans ((x_eq m c t (y 0) (y 1)).trans
    ((place6 t (yA m c) (y 0) (y 1)).symm.trans (congrArg (fun z => (yA m c) ((win0_6.blk t).view.emb z)) hy.symm)))
theorem arr7 : (dats m 0 c).arrAt 7 cfg0.N = rN (gm m c) (yA m c) := by
  refine (dats m 0 c).arrAt_eq_of_covers 7 _ (by decide +kernel) fun t hf y => ?_
  blk_simp
  rw [after0_7, out7]
  have hy : (y : S528x1024.Idx) = ix2 (y 0) (y 1) := by funext a; fin_cases a <;> rfl
  exact (congrArg (k0_pay2 _ _ _ _) hy).trans ((u_eq m c t (y 0) (y 1)).trans
    ((place7 t (rN (gm m c) (yA m c)) (y 0) (y 1)).symm.trans (congrArg (fun z => (rN (gm m c) (yA m c)) ((win0_7.blk t).view.emb z)) hy.symm)))
theorem arr8 : (dats m 0 c).arrAt 8 cfg0.N = rM (gm m c) (wi m c) (yA m c) := by
  refine (dats m 0 c).arrAt_eq_of_covers 8 _ (by decide +kernel) fun t hf y => ?_
  blk_simp
  rw [after0_8, out8]
  have hy : (y : S528x768.Idx) = ix2 (y 0) (y 1) := by funext a; fin_cases a <;> rfl
  exact (congrArg (k0_pay3 _ _ _ _ _) hy).trans ((m_eq m c t (y 0) (y 1)).trans
    ((place8 t (rM (gm m c) (wi m c) (yA m c)) (y 0) (y 1)).symm.trans (congrArg (fun z => (rM (gm m c) (wi m c) (yA m c)) ((win0_8.blk t).view.emb z)) hy.symm)))
theorem arr9 : (dats m 0 c).arrAt 9 cfg0.N = rR (gm m c) (wi m c) (yA m c) := by
  refine (dats m 0 c).arrAt_eq_of_covers 9 _ (by decide +kernel) fun t hf y => ?_
  blk_simp
  rw [after0_9, out9]
  have hy : (y : S528x1024.Idx) = ix2 (y 0) (y 1) := by funext a; fin_cases a <;> rfl
  exact (congrArg (k0_pay4 _ _ _ _ _) hy).trans ((r_eq m c t (y 0) (y 1)).trans
    ((place9 t (rR (gm m c) (wi m c) (yA m c)) (y 0) (y 1)).symm.trans (congrArg (fun z => (rR (gm m c) (wi m c) (yA m c)) ((win0_9.blk t).view.emb z)) hy.symm)))
end blocks

section refs
variable (m : (ℓ : Loc Cert.Reference9Ideal.nD Cert.Reference9Ideal.τ Cert.Reference9Ideal.sig) → Buf (Elt Ideal) ℓ) (c : Dev Cert.Reference9Ideal.nD)
theorem ref1 : Cert.Reference9Ideal.Value.res_out1 (F := Ideal) m c = rN (F := Ideal) (m ((c : Thread Cert.Reference9Ideal.nD Cert.Reference9Ideal.τ).loc Cert.Reference9Ideal.main_arg5))
    (FfnLossRef.rY (m ((c : Thread Cert.Reference9Ideal.nD Cert.Reference9Ideal.τ).loc Cert.Reference9Ideal.main_arg0)) (m ((c : Thread Cert.Reference9Ideal.nD Cert.Reference9Ideal.τ).loc Cert.Reference9Ideal.main_arg1)) (m ((c : Thread Cert.Reference9Ideal.nD Cert.Reference9Ideal.τ).loc Cert.Reference9Ideal.main_arg2)) (m ((c : Thread Cert.Reference9Ideal.nD Cert.Reference9Ideal.τ).loc Cert.Reference9Ideal.main_arg3)) (m ((c : Thread Cert.Reference9Ideal.nD Cert.Reference9Ideal.τ).loc Cert.Reference9Ideal.main_arg4))) := rfl
theorem ref2 : Cert.Reference9Ideal.Value.res_out2 (F := Ideal) m c = rM (F := Ideal) (m ((c : Thread Cert.Reference9Ideal.nD Cert.Reference9Ideal.τ).loc Cert.Reference9Ideal.main_arg5)) (m ((c : Thread Cert.Reference9Ideal.nD Cert.Reference9Ideal.τ).loc Cert.Reference9Ideal.main_arg6))
    (FfnLossRef.rY (m ((c : Thread Cert.Reference9Ideal.nD Cert.Reference9Ideal.τ).loc Cert.Reference9Ideal.main_arg0)) (m ((c : Thread Cert.Reference9Ideal.nD Cert.Reference9Ideal.τ).loc Cert.Reference9Ideal.main_arg1)) (m ((c : Thread Cert.Reference9Ideal.nD Cert.Reference9Ideal.τ).loc Cert.Reference9Ideal.main_arg2)) (m ((c : Thread Cert.Reference9Ideal.nD Cert.Reference9Ideal.τ).loc Cert.Reference9Ideal.main_arg3)) (m ((c : Thread Cert.Reference9Ideal.nD Cert.Reference9Ideal.τ).loc Cert.Reference9Ideal.main_arg4))) := rfl
theorem ref3 : Cert.Reference9Ideal.Value.res_out3 (F := Ideal) m c = rR (F := Ideal) (m ((c : Thread Cert.Reference9Ideal.nD Cert.Reference9Ideal.τ).loc Cert.Reference9Ideal.main_arg5)) (m ((c : Thread Cert.Reference9Ideal.nD Cert.Reference9Ideal.τ).loc Cert.Reference9Ideal.main_arg6))
    (FfnLossRef.rY (m ((c : Thread Cert.Reference9Ideal.nD Cert.Reference9Ideal.τ).loc Cert.Reference9Ideal.main_arg0)) (m ((c : Thread Cert.Reference9Ideal.nD Cert.Reference9Ideal.τ).loc Cert.Reference9Ideal.main_arg1)) (m ((c : Thread Cert.Reference9Ideal.nD Cert.Reference9Ideal.τ).loc Cert.Reference9Ideal.main_arg2)) (m ((c : Thread Cert.Reference9Ideal.nD Cert.Reference9Ideal.τ).loc Cert.Reference9Ideal.main_arg3)) (m ((c : Thread Cert.Reference9Ideal.nD Cert.Reference9Ideal.τ).loc Cert.Reference9Ideal.main_arg4))) := rfl
end refs

theorem algebraic : Cert.algebraic_Kernel9Ideal_Reference9Ideal := by
  intro m g m' g' _ hagree
  refine ⟨fun c => yA m c, fun c => rN (gm m c) (yA m c), fun c => rM (gm m c) (wi m c) (yA m c), fun c => rR (gm m c) (wi m c) (yA m c), ?_, ?_⟩
  · refine (θ_run defs _ _).mono (fun r h c => ?_) (Value.run_blocks m g)
    obtain ⟨r6, r7, r8, r9, hargs⟩ := h c
    exact ⟨r6.trans (arr6 m c), r7.trans (arr7 m c), r8.trans (arr8 m c), r9.trans (arr9 m c), hargs⟩
  · refine (θ_run Cert.Reference9Ideal.defs _ _).mono (fun r h c => ?_) (Cert.Reference9Ideal.Value.run (F := Ideal) m' g')
    obtain ⟨e0, e1, e2, e3, e4, e5, e6⟩ := hagree c
    obtain ⟨r0, r1, r2, r3, hargs⟩ := h c
    refine ⟨r0.trans ?_, r1.trans ?_, r2.trans ?_, r3.trans ?_, hargs⟩
    · rw [e0, e1, e2, e3, e4]
      rfl
    · refine (ref1 m' c).trans ?_
      rw [e0, e1, e2, e3, e4, e5]
    · refine (ref2 m' c).trans ?_
      rw [e0, e1, e2, e3, e4, e5, e6]
    · refine (ref3 m' c).trans ?_
      rw [e0, e1, e2, e3, e4, e5, e6]

end Cert.Proof.FfnIn
end
-- ==== Proof.DwInMla.lean ====
/-
  The gradient of the input weight's columns of the attention.
-/
module

public import proofs.«01_k».proof.Defs
public import proofs.«01_k».proof.Proof.FfnHost
public import proofs.«01_k».proof.Proof.Gen.Kernel10Ideal.Value
public import proofs.«01_k».proof.Proof.Gen.Reference10Ideal.Run
public import Idealize.ShloMosaic.Lib.StableHlo.RunRead

@[expose] public section

set_option maxRecDepth 16384

noncomputable section

namespace Cert.Proof.DwInMla

open Cert.Kernel10Ideal Cert.Kernel10Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev ct : FVec F S4224x768 .f32 := m ((c : Thread nD τ).loc main_arg3)

theorem V_x : V m c main_v0 = truncf .bf16 (ct m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_y : V m c main_v14 = truncf .bf16 (Ffn.un (h0 m c) (g0 m c)) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl

/-- The reference's gradient, of the normed input and the cotangent. -/
def dw (u : FVec F S4224x1024 .f32) (z : FVec F S4224x768 .f32) : FVec F S768x1024 .bf16 :=
  truncf .bf16 (transpose S768x1024 [1, 0] (transpose Cert.Reference10Ideal.S1024x768 [1, 0] (Host.dotGeneral Cert.Reference10Ideal.dot_S4224x768_S4224x1024_S768x1024_0_0_1_1_n_n none z u)
    Cert.Reference10Ideal.Gen.transposes_S768x1024_S1024x768_1_0) Cert.Reference10Ideal.Gen.transposes_S1024x768_S768x1024_1_0) bitsLt_bf16_f32
end host

theorem dw_at (u : FVec Ideal S4224x1024 .f32) (z : FVec Ideal S4224x768 .f32) (i : Fin 768) (j : Fin 1024) :
    dw u z (ix2 i j) = ∑ k : Fin 4224, z (ix2 k i) * u (ix2 k j) := by
  unfold dw
  pointwise
theorem pay_at (x : Vec Ideal S4224x768 .bf16) (y : Vec Ideal S4224x512 .bf16) (i : Fin 768) (j : Fin 512) :
    k0_pay1 x y (ix2 i j) = ∑ k : Fin 4224, x (ix2 k i) * y (ix2 k j) := by
  unfold k0_pay1
  pointwise
theorem out_eq (x : Vec Ideal S4224x768 .bf16) (y : Vec Ideal S4224x512 .bf16) : out0_2 x y = k0_pay1 x y := by
  unfold out0_2
  rw [View.canon_cons_unit_lit _ _ _ (by decide), View.ld_unit_lit _ _ (by decide), View.ld_unit_lit _ _ (by decide)]

section arrays
variable (m : (ℓ : Loc nD τ sig) → Buf (Elt Ideal) ℓ) (c : Dev nD) (t : Fin cfg0.N)

theorem idx0 : win0_0.index t = ![0, 0] := (by decide +kernel : ∀ t : Fin grid0.N, win0_0.index t = ![0, 0]) t
theorem idx1 : win0_1.index t = ![0, t.val] := (by decide +kernel : ∀ t : Fin grid0.N, win0_1.index t = ![0, t.val]) t
theorem idx2 : win0_2.index t = ![0, t.val] := (by decide +kernel : ∀ t : Fin grid0.N, win0_2.index t = ![0, t.val]) t
theorem col_lt (j : Fin 512) : 512 * t.val + j.val < 1024 := by have : t.val < 2 := t.isLt; omega
/-- A block's column in the array. -/
def co (j : Fin 512) : Fin 1024 := ⟨512 * t.val + j.val, col_lt t j⟩

theorem read0 (k : Fin 4224) (i : Fin 768) : iblk m c 0 t (ix2 k i) = V m c main_v0 (ix2 k i) := by
  unfold iblk
  generalize V m c (Pipeline.arrRef spec0 0) = A
  blk_ext [idx0 t]
theorem read1 (k : Fin 4224) (j : Fin 512) : iblk m c 1 t (ix2 k j) = V m c main_v14 (ix2 k (co t j)) := by
  unfold iblk co
  generalize V m c (Pipeline.arrRef spec0 1) = A
  blk_ext [idx1 t]
theorem place2 (A : FVec Ideal S768x1024 .bf16) (i : Fin 768) (j : Fin 512) : A ((win0_2.blk t).view.emb (ix2 i j)) = A (ix2 i (co t j)) := by
  unfold co
  blk_ext [idx2 t]

/-- The gradient, of the arguments. -/
def res : FVec Ideal S768x1024 .bf16 := dw (Ffn.un (h0 m c) (g0 m c)) (ct m c)
theorem block_eq (i : Fin 768) (j : Fin 512) : out0_2 (iblk m c 0 t) (iblk m c 1 t) (ix2 i j) = res m c (ix2 i (co t j)) := by
  rw [out_eq, pay_at, res, dw_at]
  refine Finset.sum_congr rfl fun k _ => ?_
  rw [read0, read1, V_x, V_y]
  exact rfl

theorem arr2 : (dats m 0 c).arrAt 2 cfg0.N = res m c := by
  refine (dats m 0 c).arrAt_eq_of_covers 2 _ (by decide +kernel) fun t hf y => ?_
  blk_simp
  rw [after0_2]
  have hy : (y : S768x512.Idx) = ix2 (y 0) (y 1) := by funext a; fin_cases a <;> rfl
  exact (congrArg (out0_2 (iblk m c 0 t) (iblk m c 1 t)) hy).trans ((block_eq m c t (y 0) (y 1)).trans
    ((place2 t (res m c) (y 0) (y 1)).symm.trans (congrArg (fun z => res m c ((win0_2.blk t).view.emb z)) hy.symm)))
end arrays

theorem algebraic : Cert.algebraic_Kernel10Ideal_Reference10Ideal := by
  intro m g m' g' _ hagree
  refine ⟨fun c => res m c, (θ_run defs _ _).mono (fun r h c => ⟨(h c).1.trans (arr2 m c), (h c).2⟩) (Value.run_blocks m g), ?_⟩
  refine (θ_run Cert.Reference10Ideal.defs _ _).mono (fun r h c => ?_) (Cert.Reference10Ideal.Value.run (F := Ideal) m' g')
  obtain ⟨e0, e1, e2, e3⟩ := hagree c
  refine ⟨(h c).1.trans ?_, (h c).2⟩
  rw [e0, e1, e3]
  rfl

end Cert.Proof.DwInMla
end
-- ==== Proof.DwInLru.lean ====
/-
  The gradient of the input weight's columns of the recurrence or of its gate.
-/
module

public import proofs.«01_k».proof.Defs
public import proofs.«01_k».proof.Proof.FfnHost
public import proofs.«01_k».proof.Proof.Gen.Kernel11Ideal.Value
public import proofs.«01_k».proof.Proof.Gen.Reference11Ideal.Run
public import Idealize.ShloMosaic.Lib.StableHlo.RunRead

@[expose] public section

set_option maxRecDepth 16384

noncomputable section

namespace Cert.Proof.DwInLru

open Cert.Kernel11Ideal Cert.Kernel11Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev h0 : FVec F S4224x1024 .f32 := m ((c : Thread nD τ).loc main_arg0)
abbrev g0 : FVec F S1024 .f32 := m ((c : Thread nD τ).loc main_arg1)
abbrev ct : FVec F S4224x512 .f32 := m ((c : Thread nD τ).loc main_arg3)

theorem V_x : V m c main_v0 = truncf .bf16 (ct m c) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
theorem V_y : V m c main_v14 = truncf .bf16 (Ffn.un (h0 m c) (g0 m c)) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl

/-- The reference's gradient, of the normed input and the cotangent. -/
def dw (u : FVec F S4224x1024 .f32) (z : FVec F S4224x512 .f32) : FVec F S512x1024 .bf16 :=
  truncf .bf16 (transpose S512x1024 [1, 0] (transpose Cert.Reference11Ideal.S1024x512 [1, 0] (Host.dotGeneral Cert.Reference11Ideal.dot_S4224x512_S4224x1024_S512x1024_0_0_1_1_n_n none z u)
    Cert.Reference11Ideal.Gen.transposes_S512x1024_S1024x512_1_0) Cert.Reference11Ideal.Gen.transposes_S1024x512_S512x1024_1_0) bitsLt_bf16_f32
end host

theorem dw_at (u : FVec Ideal S4224x1024 .f32) (z : FVec Ideal S4224x512 .f32) (i : Fin 512) (j : Fin 1024) :
    dw u z (ix2 i j) = ∑ k : Fin 4224, z (ix2 k i) * u (ix2 k j) := by
  unfold dw
  pointwise
theorem pay_at (x : Vec Ideal S4224x512 .bf16) (y : Vec Ideal S4224x512 .bf16) (i : Fin 512) (j : Fin 512) :
    k0_pay1 x y (ix2 i j) = ∑ k : Fin 4224, x (ix2 k i) * y (ix2 k j) := by
  unfold k0_pay1
  pointwise
theorem out_eq (x : Vec Ideal S4224x512 .bf16) (y : Vec Ideal S4224x512 .bf16) : out0_2 x y = k0_pay1 x y := by
  unfold out0_2
  rw [View.canon_cons_unit_lit _ _ _ (by decide), View.ld_unit_lit _ _ (by decide), View.ld_unit_lit _ _ (by decide)]

section arrays
variable (m : (ℓ : Loc nD τ sig) → Buf (Elt Ideal) ℓ) (c : Dev nD) (t : Fin cfg0.N)

theorem idx0 : win0_0.index t = ![0, 0] := (by decide +kernel : ∀ t : Fin grid0.N, win0_0.index t = ![0, 0]) t
theorem idx1 : win0_1.index t = ![0, t.val] := (by decide +kernel : ∀ t : Fin grid0.N, win0_1.index t = ![0, t.val]) t
theorem idx2 : win0_2.index t = ![0, t.val] := (by decide +kernel : ∀ t : Fin grid0.N, win0_2.index t = ![0, t.val]) t
theorem col_lt (j : Fin 512) : 512 * t.val + j.val < 1024 := by have : t.val < 2 := t.isLt; omega
/-- A block's column in the array. -/
def co (j : Fin 512) : Fin 1024 := ⟨512 * t.val + j.val, col_lt t j⟩

theorem read0 (k : Fin 4224) (i : Fin 512) : iblk m c 0 t (ix2 k i) = V m c main_v0 (ix2 k i) := by
  unfold iblk
  generalize V m c (Pipeline.arrRef spec0 0) = A
  blk_ext [idx0 t]
theorem read1 (k : Fin 4224) (j : Fin 512) : iblk m c 1 t (ix2 k j) = V m c main_v14 (ix2 k (co t j)) := by
  unfold iblk co
  generalize V m c (Pipeline.arrRef spec0 1) = A
  blk_ext [idx1 t]
theorem place2 (A : FVec Ideal S512x1024 .bf16) (i : Fin 512) (j : Fin 512) : A ((win0_2.blk t).view.emb (ix2 i j)) = A (ix2 i (co t j)) := by
  unfold co
  blk_ext [idx2 t]

/-- The gradient, of the arguments. -/
def res : FVec Ideal S512x1024 .bf16 := dw (Ffn.un (h0 m c) (g0 m c)) (ct m c)
theorem block_eq (i : Fin 512) (j : Fin 512) : out0_2 (iblk m c 0 t) (iblk m c 1 t) (ix2 i j) = res m c (ix2 i (co t j)) := by
  rw [out_eq, pay_at, res, dw_at]
  refine Finset.sum_congr rfl fun k _ => ?_
  rw [read0, read1, V_x, V_y]
  exact rfl

theorem arr2 : (dats m 0 c).arrAt 2 cfg0.N = res m c := by
  refine (dats m 0 c).arrAt_eq_of_covers 2 _ (by decide +kernel) fun t hf y => ?_
  blk_simp
  rw [after0_2]
  have hy : (y : S512x512.Idx) = ix2 (y 0) (y 1) := by funext a; fin_cases a <;> rfl
  exact (congrArg (out0_2 (iblk m c 0 t) (iblk m c 1 t)) hy).trans ((block_eq m c t (y 0) (y 1)).trans
    ((place2 t (res m c) (y 0) (y 1)).symm.trans (congrArg (fun z => res m c ((win0_2.blk t).view.emb z)) hy.symm)))
end arrays

theorem algebraic : Cert.algebraic_Kernel11Ideal_Reference11Ideal := by
  intro m g m' g' _ hagree
  refine ⟨fun c => res m c, (θ_run defs _ _).mono (fun r h c => ⟨(h c).1.trans (arr2 m c), (h c).2⟩) (Value.run_blocks m g), ?_⟩
  refine (θ_run Cert.Reference11Ideal.defs _ _).mono (fun r h c => ?_) (Cert.Reference11Ideal.Value.run (F := Ideal) m' g')
  obtain ⟨e0, e1, e2, e3⟩ := hagree c
  refine ⟨(h c).1.trans ?_, (h c).2⟩
  rw [e0, e1, e3]
  rfl

end Cert.Proof.DwInLru
end
-- ==== Proof.DwOut.lean ====
/-
  The gradient of the output weight.
-/
module

public import proofs.«01_k».proof.Defs
public import proofs.«01_k».proof.Proof.FfnHost
public import proofs.«01_k».proof.Proof.Gen.Kernel12Ideal.Value
public import proofs.«01_k».proof.Proof.Gen.Reference12Ideal.Run
public import Idealize.ShloMosaic.Lib.StableHlo.RunRead

@[expose] public section

set_option maxRecDepth 16384

noncomputable section

namespace Cert.Proof.DwOut

open Cert.Kernel12Ideal Cert.Kernel12Ideal.Gen
open Idealize.ShloMosaic Idealize.ShloMosaic.TcCoe
open Idealize.SL.Sem
open Idealize.ShloMosaic.Pipeline (Dat Cfg Window)

section host
variable {F : FTy → Type} [FloatOps F]
variable (m : (ℓ : Loc nD τ sig) → Buf (Elt F) ℓ) (c : Dev nD)

/-- The arguments. -/
abbrev ya : FVec F S4224x512 .f32 := m ((c : Thread nD τ).loc main_arg0)
abbrev yl : FVec F S4224x512 .f32 := m ((c : Thread nD τ).loc main_arg1)
abbrev ga : FVec F S512 .f32 := m ((c : Thread nD τ).loc main_arg2)
abbrev gl : FVec F S512 .f32 := m ((c : Thread nD τ).loc main_arg3)
abbrev ct : FVec F S4224x1024 .f32 := m ((c : Thread nD τ).loc main_arg5)

/-- A normed array, and two beside each other. -/
def nm (x : FVec F S4224x512 .f32) (g : FVec F S512 .f32) : FVec F S4224x512 .f32 :=
  mulf (mulf x (broadcastInDim S4224x512 ![0, 1] bcast_S4224x1_S4224x512_0_1 (Host.rsqrt (addf (Host.divf (broadcastInDim S4224x1 ![0] bcast_S4224_S4224x1_0 (Host.reduceAdd (mulf x x) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32))))))
    (broadcastInDim S4224x512 ![0, 1] bcast_S1x512_S4224x512_0_1 (broadcastInDim S1x512 ![1] bcast_S512_S1x512_1 g))
def yn (x y : FVec F S4224x512 .f32) (g k : FVec F S512 .f32) : FVec F S4224x1024 .f32 :=
  concatenate S4224x1024 1 [⟨S4224x512, nm x g⟩, ⟨S4224x512, nm y k⟩] concatenates_S4224x512_S4224x512_S4224x1024_d1

theorem V_x : V m c main_v27 = truncf .bf16 (yn (ya m c) (yl m c) (ga m c) (gl m c)) bitsLt_bf16_f32 := by
  unfold V
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_reads_simp
  rfl
theorem V_y : V m c main_arg5 = ct m c := V_main_arg5 m c

/-- The reference's gradient, of the normed rows and the cotangent. -/
def dw (u : FVec F S4224x1024 .f32) (z : FVec F S4224x1024 .f32) : FVec F S1024x1024 .bf16 :=
  truncf .bf16 (transpose Cert.Reference12Ideal.S1024x1024 [1, 0] (Host.dotGeneral Cert.Reference12Ideal.dot_S4224x1024_S4224x1024_S1024x1024_0_0_1_1_n_n none z u)
    Cert.Reference12Ideal.Gen.transposes_S1024x1024_S1024x1024_1_0) bitsLt_bf16_f32
end host

theorem dw_at (u : FVec Ideal S4224x1024 .f32) (z : FVec Ideal S4224x1024 .f32) (i : Fin 1024) (j : Fin 1024) :
    dw u z (ix2 i j) = ∑ k : Fin 4224, z (ix2 k j) * u (ix2 k i) := by
  unfold dw
  pointwise
theorem pay_at (x : Vec Ideal S4224x1024 .bf16) (y : Vec Ideal S4224x512 .f32) (i : Fin 1024) (j : Fin 512) :
    k0_pay1 x y (ix2 i j) = ∑ k : Fin 4224, x (ix2 k i) * y (ix2 k j) := by
  unfold k0_pay1
  pointwise
theorem out_eq (x : Vec Ideal S4224x1024 .bf16) (y : Vec Ideal S4224x512 .f32) : out0_2 x y = k0_pay1 x y := by
  unfold out0_2
  rw [View.canon_cons_unit_lit _ _ _ (by decide), View.ld_unit_lit _ _ (by decide), View.ld_unit_lit _ _ (by decide)]

section arrays
variable (m : (ℓ : Loc nD τ sig) → Buf (Elt Ideal) ℓ) (c : Dev nD) (t : Fin cfg0.N)

theorem idx0 : win0_0.index t = ![0, 0] := (by decide +kernel : ∀ t : Fin grid0.N, win0_0.index t = ![0, 0]) t
theorem idx1 : win0_1.index t = ![0, t.val] := (by decide +kernel : ∀ t : Fin grid0.N, win0_1.index t = ![0, t.val]) t
theorem idx2 : win0_2.index t = ![0, t.val] := (by decide +kernel : ∀ t : Fin grid0.N, win0_2.index t = ![0, t.val]) t
theorem col_lt (j : Fin 512) : 512 * t.val + j.val < 1024 := by have : t.val < 2 := t.isLt; omega
/-- A block's column in the array. -/
def co (j : Fin 512) : Fin 1024 := ⟨512 * t.val + j.val, col_lt t j⟩

theorem read0 (k : Fin 4224) (i : Fin 1024) : iblk m c 0 t (ix2 k i) = V m c main_v27 (ix2 k i) := by
  unfold iblk
  generalize V m c (Pipeline.arrRef spec0 0) = A
  blk_ext [idx0 t]
theorem read1 (k : Fin 4224) (j : Fin 512) : iblk m c 1 t (ix2 k j) = V m c main_arg5 (ix2 k (co t j)) := by
  unfold iblk co
  generalize V m c (Pipeline.arrRef spec0 1) = A
  blk_ext [idx1 t]
theorem place2 (A : FVec Ideal S1024x1024 .bf16) (i : Fin 1024) (j : Fin 512) : A ((win0_2.blk t).view.emb (ix2 i j)) = A (ix2 i (co t j)) := by
  unfold co
  blk_ext [idx2 t]

/-- The gradient, of the arguments. -/
def res : FVec Ideal S1024x1024 .bf16 := dw (yn (ya m c) (yl m c) (ga m c) (gl m c)) (ct m c)
theorem block_eq (i : Fin 1024) (j : Fin 512) : out0_2 (iblk m c 0 t) (iblk m c 1 t) (ix2 i j) = res m c (ix2 i (co t j)) := by
  rw [out_eq, pay_at, res, dw_at]
  refine Finset.sum_congr rfl fun k _ => ?_
  rw [read0, read1, V_x, V_y]
  exact mul_comm _ _

theorem arr2 : (dats m 0 c).arrAt 2 cfg0.N = res m c := by
  refine (dats m 0 c).arrAt_eq_of_covers 2 _ (by decide +kernel) fun t hf y => ?_
  blk_simp
  rw [after0_2]
  have hy : (y : S1024x512.Idx) = ix2 (y 0) (y 1) := by funext a; fin_cases a <;> rfl
  exact (congrArg (out0_2 (iblk m c 0 t) (iblk m c 1 t)) hy).trans ((block_eq m c t (y 0) (y 1)).trans
    ((place2 t (res m c) (y 0) (y 1)).symm.trans (congrArg (fun z => res m c ((win0_2.blk t).view.emb z)) hy.symm)))
end arrays

theorem algebraic : Cert.algebraic_Kernel12Ideal_Reference12Ideal := by
  intro m g m' g' _ hagree
  refine ⟨fun c => res m c, (θ_run defs _ _).mono (fun r h c => ⟨(h c).1.trans (arr2 m c), (h c).2⟩) (Value.run_blocks m g), ?_⟩
  refine (θ_run Cert.Reference12Ideal.defs _ _).mono (fun r h c => ?_) (Cert.Reference12Ideal.Value.run (F := Ideal) m' g')
  obtain ⟨e0, e1, e2, e3, e4, e5⟩ := hagree c
  refine ⟨(h c).1.trans ?_, (h c).2⟩
  rw [e0, e1, e2, e3, e5]
  rfl

end Cert.Proof.DwOut
end
-- ==== Proof.lean ====
/-
  The claims of this certificate, each from its module.
-/
module

public import proofs.«01_k».proof.Defs
public import proofs.«01_k».proof.Proof.AttnRun
public import proofs.«01_k».proof.Proof.AttnIdealRun
public import proofs.«01_k».proof.Proof.AttnOut
public import proofs.«01_k».proof.Proof.FfnBwdOut
public import proofs.«01_k».proof.Proof.FfnBwdAOut
public import proofs.«01_k».proof.Proof.FfnDw
public import proofs.«01_k».proof.Proof.FfnUpOut
public import proofs.«01_k».proof.Proof.FfnLossOut
public import proofs.«01_k».proof.Proof.FfnInOut
public import proofs.«01_k».proof.Proof.DwInMla
public import proofs.«01_k».proof.Proof.DwInLru
public import proofs.«01_k».proof.Proof.DwOut
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import Idealize.ShloMosaic.Lib.Quiescent

@[expose] public section

noncomputable section

namespace Cert.Proof

open Idealize.ShloMosaic Idealize.ShloMosaic.TcCoe Idealize.SL.Sem

/-- The reference is host code alone: every execution ends, the arguments unchanged; it declares no counter. -/
theorem ReferenceIdeal.frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- For finite arguments the kernel's arrays are the reference's. -/
theorem algebraic : Cert.algebraic_KernelIdeal_ReferenceIdeal_pre_all_finite (hPre_all_finite := KernelIdeal.preFacts) := by
  intro m g m' g' hpre hagree
  refine ⟨fun c => KernelIdeal.refQ m c, fun c => KernelIdeal.refK m c, fun c => KernelIdeal.refV m c, KernelIdeal.run_values m g hpre, ?_⟩
  refine (θ_run Cert.ReferenceIdeal.defs _ _).mono (fun r h c => ?_) (Cert.ReferenceIdeal.Value.run (F := Ideal) m' g')
  obtain ⟨h0, h1, h2, hargs⟩ := h c
  obtain ⟨e0, e1, e2, e3⟩ := hagree c
  refine ⟨h0.trans ?_, h1.trans ?_, h2.trans ?_, hargs⟩
  · rw [ReferenceIdeal.out0_eq, ReferenceIdeal.aq, ReferenceIdeal.ak, ReferenceIdeal.av, ReferenceIdeal.ag, e0, e1, e2, e3]; rfl
  · rw [ReferenceIdeal.out1_eq, ReferenceIdeal.aq, ReferenceIdeal.ak, ReferenceIdeal.av, ReferenceIdeal.ag, e0, e1, e2, e3]; rfl
  · rw [ReferenceIdeal.out2_eq, ReferenceIdeal.aq, ReferenceIdeal.ak, ReferenceIdeal.ag, e0, e1, e3]; rfl

/-- The counters of a reference, which declares none, are zero after its run. -/
theorem frame2 : Cert.quiescent_Reference2Ideal := fun m ρ _ =>
  (θ_run Cert.Reference2Ideal.defs _ _).mono (fun r h => And.intro (fun c => (h c).2.2.2.2.2) (sem_eq_zero_of_no_sems (by decide) r.2)) (Cert.Reference2Ideal.Value.run (F := Ideal) m ρ)
theorem frame4 : Cert.quiescent_Reference4Ideal := fun m ρ _ =>
  (θ_run Cert.Reference4Ideal.defs _ _).mono (fun r h => And.intro (fun c => (h c).2) (sem_eq_zero_of_no_sems (by decide) r.2)) (Cert.Reference4Ideal.Value.run (F := Ideal) m ρ)
theorem frame5 : Cert.quiescent_Reference5Ideal := fun m ρ _ =>
  (θ_run Cert.Reference5Ideal.defs _ _).mono (fun r h => And.intro (fun c => (h c).2) (sem_eq_zero_of_no_sems (by decide) r.2)) (Cert.Reference5Ideal.Value.run (F := Ideal) m ρ)
theorem frame6 : Cert.quiescent_Reference6Ideal := fun m ρ _ =>
  (θ_run Cert.Reference6Ideal.defs _ _).mono (fun r h => And.intro (fun c => (h c).2) (sem_eq_zero_of_no_sems (by decide) r.2)) (Cert.Reference6Ideal.Value.run (F := Ideal) m ρ)
theorem frame7 : Cert.quiescent_Reference7Ideal := fun m ρ _ =>
  (θ_run Cert.Reference7Ideal.defs _ _).mono (fun r h => And.intro (fun c => (h c).2.2.2.2) (sem_eq_zero_of_no_sems (by decide) r.2)) (Cert.Reference7Ideal.Value.run (F := Ideal) m ρ)
theorem frame8 : Cert.quiescent_Reference8Ideal := fun m ρ _ =>
  (θ_run Cert.Reference8Ideal.defs _ _).mono (fun r h => And.intro (fun c => (h c).2.2.2.2) (sem_eq_zero_of_no_sems (by decide) r.2)) (Cert.Reference8Ideal.Value.run (F := Ideal) m ρ)
theorem frame3 : Cert.quiescent_Reference3Ideal := fun m ρ _ =>
  (θ_run Cert.Reference3Ideal.defs _ _).mono (fun r h => And.intro (fun c => (h c).2.2.2.2.2.2) (sem_eq_zero_of_no_sems (by decide) r.2)) (Cert.Reference3Ideal.Value.run (F := Ideal) m ρ)
theorem frame9 : Cert.quiescent_Reference9Ideal := fun m ρ _ =>
  (θ_run Cert.Reference9Ideal.defs _ _).mono (fun r h => And.intro (fun c => (h c).2.2.2.2) (sem_eq_zero_of_no_sems (by decide) r.2)) (Cert.Reference9Ideal.Value.run (F := Ideal) m ρ)
theorem frame10 : Cert.quiescent_Reference10Ideal := fun m ρ _ =>
  (θ_run Cert.Reference10Ideal.defs _ _).mono (fun r h => And.intro (fun c => (h c).2) (sem_eq_zero_of_no_sems (by decide) r.2)) (Cert.Reference10Ideal.Value.run (F := Ideal) m ρ)
theorem frame11 : Cert.quiescent_Reference11Ideal := fun m ρ _ =>
  (θ_run Cert.Reference11Ideal.defs _ _).mono (fun r h => And.intro (fun c => (h c).2) (sem_eq_zero_of_no_sems (by decide) r.2)) (Cert.Reference11Ideal.Value.run (F := Ideal) m ρ)
theorem frame12 : Cert.quiescent_Reference12Ideal := fun m ρ _ =>
  (θ_run Cert.Reference12Ideal.defs _ _).mono (fun r h => And.intro (fun c => (h c).2) (sem_eq_zero_of_no_sems (by decide) r.2)) (Cert.Reference12Ideal.Value.run (F := Ideal) m ρ)

/-- Everything the certificate claims. -/
theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel3.Gen.facts, Cert.Kernel3Ideal.Gen.facts, Cert.Reference3Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts, KernelIdeal.preFacts, FfnBwd.preFacts,
    fun m ρ _ => Cert.Proof.Kernel.frame m ρ, fun m ρ _ => Cert.Proof.KernelIdeal.frame m ρ, fun m ρ _ => Cert.Proof.KernelIdeal.frame m ρ,
    fun m ρ _ => ReferenceIdeal.frame m ρ, fun m ρ _ => ReferenceIdeal.frame m ρ,
    fun m ρ _ => Cert.Kernel2.Gen.frame m ρ, fun m ρ _ => Cert.Kernel2Ideal.Gen.frame m ρ, fun m ρ _ => Cert.Kernel2Ideal.Gen.frame m ρ,
    frame2, fun m ρ _ => frame2 m ρ trivial,
    fun m ρ _ => Cert.Kernel4.Gen.frame m ρ, fun m ρ _ => Cert.Kernel4Ideal.Gen.frame m ρ, frame4,
    fun m ρ _ => Cert.Kernel5.Gen.frame m ρ, fun m ρ _ => Cert.Kernel5Ideal.Gen.frame m ρ, frame5,
    fun m ρ _ => Cert.Kernel6.Gen.frame m ρ, fun m ρ _ => Cert.Kernel6Ideal.Gen.frame m ρ, frame6,
    fun m ρ _ => Cert.Kernel7.Gen.frame m ρ, fun m ρ _ => Cert.Kernel7Ideal.Gen.frame m ρ, fun m ρ _ => Cert.Kernel7Ideal.Gen.frame m ρ,
    frame7, fun m ρ _ => frame7 m ρ trivial,
    fun m ρ _ => Cert.Kernel8.Gen.frame m ρ, fun m ρ _ => Cert.Kernel8Ideal.Gen.frame m ρ, frame8,
    fun m ρ _ => Cert.Kernel3.Gen.frame m ρ, fun m ρ _ => Cert.Kernel3Ideal.Gen.frame m ρ, frame3,
    fun m ρ _ => Cert.Kernel9.Gen.frame m ρ, fun m ρ _ => Cert.Kernel9Ideal.Gen.frame m ρ, frame9,
    fun m ρ _ => Cert.Kernel10.Gen.frame m ρ, fun m ρ _ => Cert.Kernel10Ideal.Gen.frame m ρ, frame10,
    fun m ρ _ => Cert.Kernel11.Gen.frame m ρ, fun m ρ _ => Cert.Kernel11Ideal.Gen.frame m ρ, frame11,
    fun m ρ _ => Cert.Kernel12.Gen.frame m ρ, fun m ρ _ => Cert.Kernel12Ideal.Gen.frame m ρ, frame12,
    IdealRules.named_const.statement _ _ _ _ _ rfl, algebraic,
    trivial, FfnBwd.algebraic,
    trivial, FfnDw.algebraic_dwg, trivial, FfnDw.algebraic_dwu, trivial, FfnDw.algebraic_dwd,
    trivial, FfnBwdA.algebraic, trivial, FfnUp.algebraic, trivial, FfnLoss.algebraic, trivial, FfnIn.algebraic,
    trivial, DwInMla.algebraic, trivial, DwInLru.algebraic, trivial, DwOut.algebraic⟩

end Cert.Proof
